-- ==== Defs.lean ====
def Pre_Core (m : (ℓ : Loc Cert.Core.nD Cert.Core.τ Cert.Core.sig) → Buf (Elt Bits) ℓ) : Prop :=
  True

def Pre_Core_core_pre [hPre_core_pre : Cert.Pre_core_pre.Facts] (m : (ℓ : Loc Cert.Core.nD Cert.Core.τ Cert.Core.sig) → Buf (Elt Bits) ℓ) : Prop :=
  ∀ c : Dev Cert.Core.nD,
    (Cert.Pre_core_pre.fn (F := Bits) (m ((c.tc : Thread Cert.Core.nD Cert.Core.τ).loc Cert.Core.main_arg0)) (m ((c.tc : Thread Cert.Core.nD Cert.Core.τ).loc Cert.Core.main_arg1)) (m ((c.tc : Thread Cert.Core.nD Cert.Core.τ).loc Cert.Core.main_arg2)) (m ((c.tc : Thread Cert.Core.nD Cert.Core.τ).loc Cert.Core.main_arg3)) (m ((c.tc : Thread Cert.Core.nD Cert.Core.τ).loc Cert.Core.main_arg4)) (m ((c.tc : Thread Cert.Core.nD Cert.Core.τ).loc Cert.Core.main_arg5)) (m ((c.tc : Thread Cert.Core.nD Cert.Core.τ).loc Cert.Core.main_arg6)) (m ((c.tc : Thread Cert.Core.nD Cert.Core.τ).loc Cert.Core.main_arg7)) (m ((c.tc : Thread Cert.Core.nD Cert.Core.τ).loc Cert.Core.main_arg8)) (m ((c.tc : Thread Cert.Core.nD Cert.Core.τ).loc Cert.Core.main_arg9)) (m ((c.tc : Thread Cert.Core.nD Cert.Core.τ).loc Cert.Core.main_arg10)) (m ((c.tc : Thread Cert.Core.nD Cert.Core.τ).loc Cert.Core.main_arg11)) (m ((c.tc : Thread Cert.Core.nD Cert.Core.τ).loc Cert.Core.main_arg12)) (m ((c.tc : Thread Cert.Core.nD Cert.Core.τ).loc Cert.Core.main_arg13)) (m ((c.tc : Thread Cert.Core.nD Cert.Core.τ).loc Cert.Core.main_arg14)) (m ((c.tc : Thread Cert.Core.nD Cert.Core.τ).loc Cert.Core.main_arg15)) (m ((c.tc : Thread Cert.Core.nD Cert.Core.τ).loc Cert.Core.main_arg16)) (m ((c.tc : Thread Cert.Core.nD Cert.Core.τ).loc Cert.Core.main_arg17)) (m ((c.tc : Thread Cert.Core.nD Cert.Core.τ).loc Cert.Core.main_arg18)) (m ((c.tc : Thread Cert.Core.nD Cert.Core.τ).loc Cert.Core.main_arg19)) (m ((c.tc : Thread Cert.Core.nD Cert.Core.τ).loc Cert.Core.main_arg20))) = (fun _ => 1#1)

def Pre_CoreIdeal [hPre_core_pre : Cert.Pre_core_pre.Facts] (m : (ℓ : Loc Cert.CoreIdeal.nD Cert.CoreIdeal.τ Cert.CoreIdeal.sig) → Buf (Elt Ideal) ℓ) : Prop :=
  ∀ c : Dev Cert.CoreIdeal.nD,
    (Cert.Pre_core_pre.fn (F := Ideal) (m ((c.tc : Thread Cert.CoreIdeal.nD Cert.CoreIdeal.τ).loc Cert.CoreIdeal.main_arg0)) (m ((c.tc : Thread Cert.CoreIdeal.nD Cert.CoreIdeal.τ).loc Cert.CoreIdeal.main_arg1)) (m ((c.tc : Thread Cert.CoreIdeal.nD Cert.CoreIdeal.τ).loc Cert.CoreIdeal.main_arg2)) (m ((c.tc : Thread Cert.CoreIdeal.nD Cert.CoreIdeal.τ).loc Cert.CoreIdeal.main_arg3)) (m ((c.tc : Thread Cert.CoreIdeal.nD Cert.CoreIdeal.τ).loc Cert.CoreIdeal.main_arg4)) (m ((c.tc : Thread Cert.CoreIdeal.nD Cert.CoreIdeal.τ).loc Cert.CoreIdeal.main_arg5)) (m ((c.tc : Thread Cert.CoreIdeal.nD Cert.CoreIdeal.τ).loc Cert.CoreIdeal.main_arg6)) (m ((c.tc : Thread Cert.CoreIdeal.nD Cert.CoreIdeal.τ).loc Cert.CoreIdeal.main_arg7)) (m ((c.tc : Thread Cert.CoreIdeal.nD Cert.CoreIdeal.τ).loc Cert.CoreIdeal.main_arg8)) (m ((c.tc : Thread Cert.CoreIdeal.nD Cert.CoreIdeal.τ).loc Cert.CoreIdeal.main_arg9)) (m ((c.tc : Thread Cert.CoreIdeal.nD Cert.CoreIdeal.τ).loc Cert.CoreIdeal.main_arg10)) (m ((c.tc : Thread Cert.CoreIdeal.nD Cert.CoreIdeal.τ).loc Cert.CoreIdeal.main_arg11)) (m ((c.tc : Thread Cert.CoreIdeal.nD Cert.CoreIdeal.τ).loc Cert.CoreIdeal.main_arg12)) (m ((c.tc : Thread Cert.CoreIdeal.nD Cert.CoreIdeal.τ).loc Cert.CoreIdeal.main_arg13)) (m ((c.tc : Thread Cert.CoreIdeal.nD Cert.CoreIdeal.τ).loc Cert.CoreIdeal.main_arg14)) (m ((c.tc : Thread Cert.CoreIdeal.nD Cert.CoreIdeal.τ).loc Cert.CoreIdeal.main_arg15)) (m ((c.tc : Thread Cert.CoreIdeal.nD Cert.CoreIdeal.τ).loc Cert.CoreIdeal.main_arg16)) (m ((c.tc : Thread Cert.CoreIdeal.nD Cert.CoreIdeal.τ).loc Cert.CoreIdeal.main_arg17)) (m ((c.tc : Thread Cert.CoreIdeal.nD Cert.CoreIdeal.τ).loc Cert.CoreIdeal.main_arg18)) (m ((c.tc : Thread Cert.CoreIdeal.nD Cert.CoreIdeal.τ).loc Cert.CoreIdeal.main_arg19)) (m ((c.tc : Thread Cert.CoreIdeal.nD Cert.CoreIdeal.τ).loc Cert.CoreIdeal.main_arg20))) = (fun _ => 1#1)

def Pre_CoreRefIdeal (m : (ℓ : Loc Cert.CoreRefIdeal.nD Cert.CoreRefIdeal.τ Cert.CoreRefIdeal.sig) → Buf (Elt Ideal) ℓ) : Prop :=
  True

def Pre_CoreRefIdeal_core_pre [hPre_core_pre : Cert.Pre_core_pre.Facts] (m : (ℓ : Loc Cert.CoreRefIdeal.nD Cert.CoreRefIdeal.τ Cert.CoreRefIdeal.sig) → Buf (Elt Ideal) ℓ) : Prop :=
  ∀ c : Dev Cert.CoreRefIdeal.nD,
    (Cert.Pre_core_pre.fn (F := Ideal) (m ((c.tc : Thread Cert.CoreRefIdeal.nD Cert.CoreRefIdeal.τ).loc Cert.CoreRefIdeal.main_arg0)) (m ((c.tc : Thread Cert.CoreRefIdeal.nD Cert.CoreRefIdeal.τ).loc Cert.CoreRefIdeal.main_arg1)) (m ((c.tc : Thread Cert.CoreRefIdeal.nD Cert.CoreRefIdeal.τ).loc Cert.CoreRefIdeal.main_arg2)) (m ((c.tc : Thread Cert.CoreRefIdeal.nD Cert.CoreRefIdeal.τ).loc Cert.CoreRefIdeal.main_arg3)) (m ((c.tc : Thread Cert.CoreRefIdeal.nD Cert.CoreRefIdeal.τ).loc Cert.CoreRefIdeal.main_arg4)) (m ((c.tc : Thread Cert.CoreRefIdeal.nD Cert.CoreRefIdeal.τ).loc Cert.CoreRefIdeal.main_arg5)) (m ((c.tc : Thread Cert.CoreRefIdeal.nD Cert.CoreRefIdeal.τ).loc Cert.CoreRefIdeal.main_arg6)) (m ((c.tc : Thread Cert.CoreRefIdeal.nD Cert.CoreRefIdeal.τ).loc Cert.CoreRefIdeal.main_arg7)) (m ((c.tc : Thread Cert.CoreRefIdeal.nD Cert.CoreRefIdeal.τ).loc Cert.CoreRefIdeal.main_arg8)) (m ((c.tc : Thread Cert.CoreRefIdeal.nD Cert.CoreRefIdeal.τ).loc Cert.CoreRefIdeal.main_arg9)) (m ((c.tc : Thread Cert.CoreRefIdeal.nD Cert.CoreRefIdeal.τ).loc Cert.CoreRefIdeal.main_arg10)) (m ((c.tc : Thread Cert.CoreRefIdeal.nD Cert.CoreRefIdeal.τ).loc Cert.CoreRefIdeal.main_arg11)) (m ((c.tc : Thread Cert.CoreRefIdeal.nD Cert.CoreRefIdeal.τ).loc Cert.CoreRefIdeal.main_arg12)) (m ((c.tc : Thread Cert.CoreRefIdeal.nD Cert.CoreRefIdeal.τ).loc Cert.CoreRefIdeal.main_arg13)) (m ((c.tc : Thread Cert.CoreRefIdeal.nD Cert.CoreRefIdeal.τ).loc Cert.CoreRefIdeal.main_arg14)) (m ((c.tc : Thread Cert.CoreRefIdeal.nD Cert.CoreRefIdeal.τ).loc Cert.CoreRefIdeal.main_arg15)) (m ((c.tc : Thread Cert.CoreRefIdeal.nD Cert.CoreRefIdeal.τ).loc Cert.CoreRefIdeal.main_arg16)) (m ((c.tc : Thread Cert.CoreRefIdeal.nD Cert.CoreRefIdeal.τ).loc Cert.CoreRefIdeal.main_arg17)) (m ((c.tc : Thread Cert.CoreRefIdeal.nD Cert.CoreRefIdeal.τ).loc Cert.CoreRefIdeal.main_arg18)) (m ((c.tc : Thread Cert.CoreRefIdeal.nD Cert.CoreRefIdeal.τ).loc Cert.CoreRefIdeal.main_arg19)) (m ((c.tc : Thread Cert.CoreRefIdeal.nD Cert.CoreRefIdeal.τ).loc Cert.CoreRefIdeal.main_arg20))) = (fun _ => 1#1)

def quiescent_Core [hCore : Cert.Core.Facts] : Prop :=
  ∀ (m : (ℓ : Loc Cert.Core.nD Cert.Core.τ Cert.Core.sig) → Buf (Elt Bits) ℓ) (g : Dev Cert.Core.nD → PrngReg), Pre_Core m →
    θ_run (Cert.Core.defs (F := Bits)) (onTc (τ := Cert.Core.τ) (Cert.Core.main (F := Bits))) ⟨m, fun _ => 0, g⟩ (fun r => (∀ c : Dev Cert.Core.nD,
      r.2.mem ((c.tc : Thread Cert.Core.nD Cert.Core.τ).loc Cert.Core.main_arg0) = m ((c.tc : Thread Cert.Core.nD Cert.Core.τ).loc Cert.Core.main_arg0)
      ∧ r.2.mem ((c.tc : Thread Cert.Core.nD Cert.Core.τ).loc Cert.Core.main_arg1) = m ((c.tc : Thread Cert.Core.nD Cert.Core.τ).loc Cert.Core.main_arg1)
      ∧ r.2.mem ((c.tc : Thread Cert.Core.nD Cert.Core.τ).loc Cert.Core.main_arg2) = m ((c.tc : Thread Cert.Core.nD Cert.Core.τ).loc Cert.Core.main_arg2)
      ∧ r.2.mem ((c.tc : Thread Cert.Core.nD Cert.Core.τ).loc Cert.Core.main_arg3) = m ((c.tc : Thread Cert.Core.nD Cert.Core.τ).loc Cert.Core.main_arg3)
      ∧ r.2.mem ((c.tc : Thread Cert.Core.nD Cert.Core.τ).loc Cert.Core.main_arg4) = m ((c.tc : Thread Cert.Core.nD Cert.Core.τ).loc Cert.Core.main_arg4)
      ∧ r.2.mem ((c.tc : Thread Cert.Core.nD Cert.Core.τ).loc Cert.Core.main_arg5) = m ((c.tc : Thread Cert.Core.nD Cert.Core.τ).loc Cert.Core.main_arg5)
      ∧ r.2.mem ((c.tc : Thread Cert.Core.nD Cert.Core.τ).loc Cert.Core.main_arg6) = m ((c.tc : Thread Cert.Core.nD Cert.Core.τ).loc Cert.Core.main_arg6)
      ∧ r.2.mem ((c.tc : Thread Cert.Core.nD Cert.Core.τ).loc Cert.Core.main_arg7) = m ((c.tc : Thread Cert.Core.nD Cert.Core.τ).loc Cert.Core.main_arg7)
      ∧ r.2.mem ((c.tc : Thread Cert.Core.nD Cert.Core.τ).loc Cert.Core.main_arg8) = m ((c.tc : Thread Cert.Core.nD Cert.Core.τ).loc Cert.Core.main_arg8)
      ∧ r.2.mem ((c.tc : Thread Cert.Core.nD Cert.Core.τ).loc Cert.Core.main_arg9) = m ((c.tc : Thread Cert.Core.nD Cert.Core.τ).loc Cert.Core.main_arg9)
      ∧ r.2.mem ((c.tc : Thread Cert.Core.nD Cert.Core.τ).loc Cert.Core.main_arg10) = m ((c.tc : Thread Cert.Core.nD Cert.Core.τ).loc Cert.Core.main_arg10)
      ∧ r.2.mem ((c.tc : Thread Cert.Core.nD Cert.Core.τ).loc Cert.Core.main_arg11) = m ((c.tc : Thread Cert.Core.nD Cert.Core.τ).loc Cert.Core.main_arg11)
      ∧ r.2.mem ((c.tc : Thread Cert.Core.nD Cert.Core.τ).loc Cert.Core.main_arg12) = m ((c.tc : Thread Cert.Core.nD Cert.Core.τ).loc Cert.Core.main_arg12)
      ∧ r.2.mem ((c.tc : Thread Cert.Core.nD Cert.Core.τ).loc Cert.Core.main_arg13) = m ((c.tc : Thread Cert.Core.nD Cert.Core.τ).loc Cert.Core.main_arg13)
      ∧ r.2.mem ((c.tc : Thread Cert.Core.nD Cert.Core.τ).loc Cert.Core.main_arg14) = m ((c.tc : Thread Cert.Core.nD Cert.Core.τ).loc Cert.Core.main_arg14)
      ∧ r.2.mem ((c.tc : Thread Cert.Core.nD Cert.Core.τ).loc Cert.Core.main_arg15) = m ((c.tc : Thread Cert.Core.nD Cert.Core.τ).loc Cert.Core.main_arg15)
      ∧ r.2.mem ((c.tc : Thread Cert.Core.nD Cert.Core.τ).loc Cert.Core.main_arg16) = m ((c.tc : Thread Cert.Core.nD Cert.Core.τ).loc Cert.Core.main_arg16)
      ∧ r.2.mem ((c.tc : Thread Cert.Core.nD Cert.Core.τ).loc Cert.Core.main_arg17) = m ((c.tc : Thread Cert.Core.nD Cert.Core.τ).loc Cert.Core.main_arg17)
      ∧ r.2.mem ((c.tc : Thread Cert.Core.nD Cert.Core.τ).loc Cert.Core.main_arg18) = m ((c.tc : Thread Cert.Core.nD Cert.Core.τ).loc Cert.Core.main_arg18)
      ∧ r.2.mem ((c.tc : Thread Cert.Core.nD Cert.Core.τ).loc Cert.Core.main_arg19) = m ((c.tc : Thread Cert.Core.nD Cert.Core.τ).loc Cert.Core.main_arg19)
      ∧ r.2.mem ((c.tc : Thread Cert.Core.nD Cert.Core.τ).loc Cert.Core.main_arg20) = m ((c.tc : Thread Cert.Core.nD Cert.Core.τ).loc Cert.Core.main_arg20))
      ∧ r.2.sem = fun _ => 0)

def quiescent_Core_pre_core_pre [hCore : Cert.Core.Facts] [hPre_core_pre : Cert.Pre_core_pre.Facts] : Prop :=
  ∀ (m : (ℓ : Loc Cert.Core.nD Cert.Core.τ Cert.Core.sig) → Buf (Elt Bits) ℓ) (g : Dev Cert.Core.nD → PrngReg), Pre_Core_core_pre m →
    θ_run (Cert.Core.defs (F := Bits)) (onTc (τ := Cert.Core.τ) (Cert.Core.main (F := Bits))) ⟨m, fun _ => 0, g⟩ (fun r => (∀ c : Dev Cert.Core.nD,
      r.2.mem ((c.tc : Thread Cert.Core.nD Cert.Core.τ).loc Cert.Core.main_arg0) = m ((c.tc : Thread Cert.Core.nD Cert.Core.τ).loc Cert.Core.main_arg0)
      ∧ r.2.mem ((c.tc : Thread Cert.Core.nD Cert.Core.τ).loc Cert.Core.main_arg1) = m ((c.tc : Thread Cert.Core.nD Cert.Core.τ).loc Cert.Core.main_arg1)
      ∧ r.2.mem ((c.tc : Thread Cert.Core.nD Cert.Core.τ).loc Cert.Core.main_arg2) = m ((c.tc : Thread Cert.Core.nD Cert.Core.τ).loc Cert.Core.main_arg2)
      ∧ r.2.mem ((c.tc : Thread Cert.Core.nD Cert.Core.τ).loc Cert.Core.main_arg3) = m ((c.tc : Thread Cert.Core.nD Cert.Core.τ).loc Cert.Core.main_arg3)
      ∧ r.2.mem ((c.tc : Thread Cert.Core.nD Cert.Core.τ).loc Cert.Core.main_arg4) = m ((c.tc : Thread Cert.Core.nD Cert.Core.τ).loc Cert.Core.main_arg4)
      ∧ r.2.mem ((c.tc : Thread Cert.Core.nD Cert.Core.τ).loc Cert.Core.main_arg5) = m ((c.tc : Thread Cert.Core.nD Cert.Core.τ).loc Cert.Core.main_arg5)
      ∧ r.2.mem ((c.tc : Thread Cert.Core.nD Cert.Core.τ).loc Cert.Core.main_arg6) = m ((c.tc : Thread Cert.Core.nD Cert.Core.τ).loc Cert.Core.main_arg6)
      ∧ r.2.mem ((c.tc : Thread Cert.Core.nD Cert.Core.τ).loc Cert.Core.main_arg7) = m ((c.tc : Thread Cert.Core.nD Cert.Core.τ).loc Cert.Core.main_arg7)
      ∧ r.2.mem ((c.tc : Thread Cert.Core.nD Cert.Core.τ).loc Cert.Core.main_arg8) = m ((c.tc : Thread Cert.Core.nD Cert.Core.τ).loc Cert.Core.main_arg8)
      ∧ r.2.mem ((c.tc : Thread Cert.Core.nD Cert.Core.τ).loc Cert.Core.main_arg9) = m ((c.tc : Thread Cert.Core.nD Cert.Core.τ).loc Cert.Core.main_arg9)
      ∧ r.2.mem ((c.tc : Thread Cert.Core.nD Cert.Core.τ).loc Cert.Core.main_arg10) = m ((c.tc : Thread Cert.Core.nD Cert.Core.τ).loc Cert.Core.main_arg10)
      ∧ r.2.mem ((c.tc : Thread Cert.Core.nD Cert.Core.τ).loc Cert.Core.main_arg11) = m ((c.tc : Thread Cert.Core.nD Cert.Core.τ).loc Cert.Core.main_arg11)
      ∧ r.2.mem ((c.tc : Thread Cert.Core.nD Cert.Core.τ).loc Cert.Core.main_arg12) = m ((c.tc : Thread Cert.Core.nD Cert.Core.τ).loc Cert.Core.main_arg12)
      ∧ r.2.mem ((c.tc : Thread Cert.Core.nD Cert.Core.τ).loc Cert.Core.main_arg13) = m ((c.tc : Thread Cert.Core.nD Cert.Core.τ).loc Cert.Core.main_arg13)
      ∧ r.2.mem ((c.tc : Thread Cert.Core.nD Cert.Core.τ).loc Cert.Core.main_arg14) = m ((c.tc : Thread Cert.Core.nD Cert.Core.τ).loc Cert.Core.main_arg14)
      ∧ r.2.mem ((c.tc : Thread Cert.Core.nD Cert.Core.τ).loc Cert.Core.main_arg15) = m ((c.tc : Thread Cert.Core.nD Cert.Core.τ).loc Cert.Core.main_arg15)
      ∧ r.2.mem ((c.tc : Thread Cert.Core.nD Cert.Core.τ).loc Cert.Core.main_arg16) = m ((c.tc : Thread Cert.Core.nD Cert.Core.τ).loc Cert.Core.main_arg16)
      ∧ r.2.mem ((c.tc : Thread Cert.Core.nD Cert.Core.τ).loc Cert.Core.main_arg17) = m ((c.tc : Thread Cert.Core.nD Cert.Core.τ).loc Cert.Core.main_arg17)
      ∧ r.2.mem ((c.tc : Thread Cert.Core.nD Cert.Core.τ).loc Cert.Core.main_arg18) = m ((c.tc : Thread Cert.Core.nD Cert.Core.τ).loc Cert.Core.main_arg18)
      ∧ r.2.mem ((c.tc : Thread Cert.Core.nD Cert.Core.τ).loc Cert.Core.main_arg19) = m ((c.tc : Thread Cert.Core.nD Cert.Core.τ).loc Cert.Core.main_arg19)
      ∧ r.2.mem ((c.tc : Thread Cert.Core.nD Cert.Core.τ).loc Cert.Core.main_arg20) = m ((c.tc : Thread Cert.Core.nD Cert.Core.τ).loc Cert.Core.main_arg20))
      ∧ r.2.sem = fun _ => 0)

def quiescent_CoreIdeal [hCoreIdeal : Cert.CoreIdeal.Facts] [hPre_core_pre : Cert.Pre_core_pre.Facts] : Prop :=
  ∀ (m : (ℓ : Loc Cert.CoreIdeal.nD Cert.CoreIdeal.τ Cert.CoreIdeal.sig) → Buf (Elt Ideal) ℓ) (g : Dev Cert.CoreIdeal.nD → PrngReg), Pre_CoreIdeal m →
    θ_run (Cert.CoreIdeal.defs (F := Ideal)) (onTc (τ := Cert.CoreIdeal.τ) (Cert.CoreIdeal.main (F := Ideal))) ⟨m, fun _ => 0, g⟩ (fun r => (∀ c : Dev Cert.CoreIdeal.nD,
      r.2.mem ((c.tc : Thread Cert.CoreIdeal.nD Cert.CoreIdeal.τ).loc Cert.CoreIdeal.main_arg0) = m ((c.tc : Thread Cert.CoreIdeal.nD Cert.CoreIdeal.τ).loc Cert.CoreIdeal.main_arg0)
      ∧ r.2.mem ((c.tc : Thread Cert.CoreIdeal.nD Cert.CoreIdeal.τ).loc Cert.CoreIdeal.main_arg1) = m ((c.tc : Thread Cert.CoreIdeal.nD Cert.CoreIdeal.τ).loc Cert.CoreIdeal.main_arg1)
      ∧ r.2.mem ((c.tc : Thread Cert.CoreIdeal.nD Cert.CoreIdeal.τ).loc Cert.CoreIdeal.main_arg2) = m ((c.tc : Thread Cert.CoreIdeal.nD Cert.CoreIdeal.τ).loc Cert.CoreIdeal.main_arg2)
      ∧ r.2.mem ((c.tc : Thread Cert.CoreIdeal.nD Cert.CoreIdeal.τ).loc Cert.CoreIdeal.main_arg3) = m ((c.tc : Thread Cert.CoreIdeal.nD Cert.CoreIdeal.τ).loc Cert.CoreIdeal.main_arg3)
      ∧ r.2.mem ((c.tc : Thread Cert.CoreIdeal.nD Cert.CoreIdeal.τ).loc Cert.CoreIdeal.main_arg4) = m ((c.tc : Thread Cert.CoreIdeal.nD Cert.CoreIdeal.τ).loc Cert.CoreIdeal.main_arg4)
      ∧ r.2.mem ((c.tc : Thread Cert.CoreIdeal.nD Cert.CoreIdeal.τ).loc Cert.CoreIdeal.main_arg5) = m ((c.tc : Thread Cert.CoreIdeal.nD Cert.CoreIdeal.τ).loc Cert.CoreIdeal.main_arg5)
      ∧ r.2.mem ((c.tc : Thread Cert.CoreIdeal.nD Cert.CoreIdeal.τ).loc Cert.CoreIdeal.main_arg6) = m ((c.tc : Thread Cert.CoreIdeal.nD Cert.CoreIdeal.τ).loc Cert.CoreIdeal.main_arg6)
      ∧ r.2.mem ((c.tc : Thread Cert.CoreIdeal.nD Cert.CoreIdeal.τ).loc Cert.CoreIdeal.main_arg7) = m ((c.tc : Thread Cert.CoreIdeal.nD Cert.CoreIdeal.τ).loc Cert.CoreIdeal.main_arg7)
      ∧ r.2.mem ((c.tc : Thread Cert.CoreIdeal.nD Cert.CoreIdeal.τ).loc Cert.CoreIdeal.main_arg8) = m ((c.tc : Thread Cert.CoreIdeal.nD Cert.CoreIdeal.τ).loc Cert.CoreIdeal.main_arg8)
      ∧ r.2.mem ((c.tc : Thread Cert.CoreIdeal.nD Cert.CoreIdeal.τ).loc Cert.CoreIdeal.main_arg9) = m ((c.tc : Thread Cert.CoreIdeal.nD Cert.CoreIdeal.τ).loc Cert.CoreIdeal.main_arg9)
      ∧ r.2.mem ((c.tc : Thread Cert.CoreIdeal.nD Cert.CoreIdeal.τ).loc Cert.CoreIdeal.main_arg10) = m ((c.tc : Thread Cert.CoreIdeal.nD Cert.CoreIdeal.τ).loc Cert.CoreIdeal.main_arg10)
      ∧ r.2.mem ((c.tc : Thread Cert.CoreIdeal.nD Cert.CoreIdeal.τ).loc Cert.CoreIdeal.main_arg11) = m ((c.tc : Thread Cert.CoreIdeal.nD Cert.CoreIdeal.τ).loc Cert.CoreIdeal.main_arg11)
      ∧ r.2.mem ((c.tc : Thread Cert.CoreIdeal.nD Cert.CoreIdeal.τ).loc Cert.CoreIdeal.main_arg12) = m ((c.tc : Thread Cert.CoreIdeal.nD Cert.CoreIdeal.τ).loc Cert.CoreIdeal.main_arg12)
      ∧ r.2.mem ((c.tc : Thread Cert.CoreIdeal.nD Cert.CoreIdeal.τ).loc Cert.CoreIdeal.main_arg13) = m ((c.tc : Thread Cert.CoreIdeal.nD Cert.CoreIdeal.τ).loc Cert.CoreIdeal.main_arg13)
      ∧ r.2.mem ((c.tc : Thread Cert.CoreIdeal.nD Cert.CoreIdeal.τ).loc Cert.CoreIdeal.main_arg14) = m ((c.tc : Thread Cert.CoreIdeal.nD Cert.CoreIdeal.τ).loc Cert.CoreIdeal.main_arg14)
      ∧ r.2.mem ((c.tc : Thread Cert.CoreIdeal.nD Cert.CoreIdeal.τ).loc Cert.CoreIdeal.main_arg15) = m ((c.tc : Thread Cert.CoreIdeal.nD Cert.CoreIdeal.τ).loc Cert.CoreIdeal.main_arg15)
      ∧ r.2.mem ((c.tc : Thread Cert.CoreIdeal.nD Cert.CoreIdeal.τ).loc Cert.CoreIdeal.main_arg16) = m ((c.tc : Thread Cert.CoreIdeal.nD Cert.CoreIdeal.τ).loc Cert.CoreIdeal.main_arg16)
      ∧ r.2.mem ((c.tc : Thread Cert.CoreIdeal.nD Cert.CoreIdeal.τ).loc Cert.CoreIdeal.main_arg17) = m ((c.tc : Thread Cert.CoreIdeal.nD Cert.CoreIdeal.τ).loc Cert.CoreIdeal.main_arg17)
      ∧ r.2.mem ((c.tc : Thread Cert.CoreIdeal.nD Cert.CoreIdeal.τ).loc Cert.CoreIdeal.main_arg18) = m ((c.tc : Thread Cert.CoreIdeal.nD Cert.CoreIdeal.τ).loc Cert.CoreIdeal.main_arg18)
      ∧ r.2.mem ((c.tc : Thread Cert.CoreIdeal.nD Cert.CoreIdeal.τ).loc Cert.CoreIdeal.main_arg19) = m ((c.tc : Thread Cert.CoreIdeal.nD Cert.CoreIdeal.τ).loc Cert.CoreIdeal.main_arg19)
      ∧ r.2.mem ((c.tc : Thread Cert.CoreIdeal.nD Cert.CoreIdeal.τ).loc Cert.CoreIdeal.main_arg20) = m ((c.tc : Thread Cert.CoreIdeal.nD Cert.CoreIdeal.τ).loc Cert.CoreIdeal.main_arg20))
      ∧ r.2.sem = fun _ => 0)

def quiescent_CoreRefIdeal [hCoreRefIdeal : Cert.CoreRefIdeal.Facts] : Prop :=
  ∀ (m : (ℓ : Loc Cert.CoreRefIdeal.nD Cert.CoreRefIdeal.τ Cert.CoreRefIdeal.sig) → Buf (Elt Ideal) ℓ) (g : Dev Cert.CoreRefIdeal.nD → PrngReg), Pre_CoreRefIdeal m →
    θ_run (Cert.CoreRefIdeal.defs (F := Ideal)) (onTc (τ := Cert.CoreRefIdeal.τ) (Cert.CoreRefIdeal.main (F := Ideal))) ⟨m, fun _ => 0, g⟩ (fun r => (∀ c : Dev Cert.CoreRefIdeal.nD,
      r.2.mem ((c.tc : Thread Cert.CoreRefIdeal.nD Cert.CoreRefIdeal.τ).loc Cert.CoreRefIdeal.main_arg0) = m ((c.tc : Thread Cert.CoreRefIdeal.nD Cert.CoreRefIdeal.τ).loc Cert.CoreRefIdeal.main_arg0)
      ∧ r.2.mem ((c.tc : Thread Cert.CoreRefIdeal.nD Cert.CoreRefIdeal.τ).loc Cert.CoreRefIdeal.main_arg1) = m ((c.tc : Thread Cert.CoreRefIdeal.nD Cert.CoreRefIdeal.τ).loc Cert.CoreRefIdeal.main_arg1)
      ∧ r.2.mem ((c.tc : Thread Cert.CoreRefIdeal.nD Cert.CoreRefIdeal.τ).loc Cert.CoreRefIdeal.main_arg2) = m ((c.tc : Thread Cert.CoreRefIdeal.nD Cert.CoreRefIdeal.τ).loc Cert.CoreRefIdeal.main_arg2)
      ∧ r.2.mem ((c.tc : Thread Cert.CoreRefIdeal.nD Cert.CoreRefIdeal.τ).loc Cert.CoreRefIdeal.main_arg3) = m ((c.tc : Thread Cert.CoreRefIdeal.nD Cert.CoreRefIdeal.τ).loc Cert.CoreRefIdeal.main_arg3)
      ∧ r.2.mem ((c.tc : Thread Cert.CoreRefIdeal.nD Cert.CoreRefIdeal.τ).loc Cert.CoreRefIdeal.main_arg4) = m ((c.tc : Thread Cert.CoreRefIdeal.nD Cert.CoreRefIdeal.τ).loc Cert.CoreRefIdeal.main_arg4)
      ∧ r.2.mem ((c.tc : Thread Cert.CoreRefIdeal.nD Cert.CoreRefIdeal.τ).loc Cert.CoreRefIdeal.main_arg5) = m ((c.tc : Thread Cert.CoreRefIdeal.nD Cert.CoreRefIdeal.τ).loc Cert.CoreRefIdeal.main_arg5)
      ∧ r.2.mem ((c.tc : Thread Cert.CoreRefIdeal.nD Cert.CoreRefIdeal.τ).loc Cert.CoreRefIdeal.main_arg6) = m ((c.tc : Thread Cert.CoreRefIdeal.nD Cert.CoreRefIdeal.τ).loc Cert.CoreRefIdeal.main_arg6)
      ∧ r.2.mem ((c.tc : Thread Cert.CoreRefIdeal.nD Cert.CoreRefIdeal.τ).loc Cert.CoreRefIdeal.main_arg7) = m ((c.tc : Thread Cert.CoreRefIdeal.nD Cert.CoreRefIdeal.τ).loc Cert.CoreRefIdeal.main_arg7)
      ∧ r.2.mem ((c.tc : Thread Cert.CoreRefIdeal.nD Cert.CoreRefIdeal.τ).loc Cert.CoreRefIdeal.main_arg8) = m ((c.tc : Thread Cert.CoreRefIdeal.nD Cert.CoreRefIdeal.τ).loc Cert.CoreRefIdeal.main_arg8)
      ∧ r.2.mem ((c.tc : Thread Cert.CoreRefIdeal.nD Cert.CoreRefIdeal.τ).loc Cert.CoreRefIdeal.main_arg9) = m ((c.tc : Thread Cert.CoreRefIdeal.nD Cert.CoreRefIdeal.τ).loc Cert.CoreRefIdeal.main_arg9)
      ∧ r.2.mem ((c.tc : Thread Cert.CoreRefIdeal.nD Cert.CoreRefIdeal.τ).loc Cert.CoreRefIdeal.main_arg10) = m ((c.tc : Thread Cert.CoreRefIdeal.nD Cert.CoreRefIdeal.τ).loc Cert.CoreRefIdeal.main_arg10)
      ∧ r.2.mem ((c.tc : Thread Cert.CoreRefIdeal.nD Cert.CoreRefIdeal.τ).loc Cert.CoreRefIdeal.main_arg11) = m ((c.tc : Thread Cert.CoreRefIdeal.nD Cert.CoreRefIdeal.τ).loc Cert.CoreRefIdeal.main_arg11)
      ∧ r.2.mem ((c.tc : Thread Cert.CoreRefIdeal.nD Cert.CoreRefIdeal.τ).loc Cert.CoreRefIdeal.main_arg12) = m ((c.tc : Thread Cert.CoreRefIdeal.nD Cert.CoreRefIdeal.τ).loc Cert.CoreRefIdeal.main_arg12)
      ∧ r.2.mem ((c.tc : Thread Cert.CoreRefIdeal.nD Cert.CoreRefIdeal.τ).loc Cert.CoreRefIdeal.main_arg13) = m ((c.tc : Thread Cert.CoreRefIdeal.nD Cert.CoreRefIdeal.τ).loc Cert.CoreRefIdeal.main_arg13)
      ∧ r.2.mem ((c.tc : Thread Cert.CoreRefIdeal.nD Cert.CoreRefIdeal.τ).loc Cert.CoreRefIdeal.main_arg14) = m ((c.tc : Thread Cert.CoreRefIdeal.nD Cert.CoreRefIdeal.τ).loc Cert.CoreRefIdeal.main_arg14)
      ∧ r.2.mem ((c.tc : Thread Cert.CoreRefIdeal.nD Cert.CoreRefIdeal.τ).loc Cert.CoreRefIdeal.main_arg15) = m ((c.tc : Thread Cert.CoreRefIdeal.nD Cert.CoreRefIdeal.τ).loc Cert.CoreRefIdeal.main_arg15)
      ∧ r.2.mem ((c.tc : Thread Cert.CoreRefIdeal.nD Cert.CoreRefIdeal.τ).loc Cert.CoreRefIdeal.main_arg16) = m ((c.tc : Thread Cert.CoreRefIdeal.nD Cert.CoreRefIdeal.τ).loc Cert.CoreRefIdeal.main_arg16)
      ∧ r.2.mem ((c.tc : Thread Cert.CoreRefIdeal.nD Cert.CoreRefIdeal.τ).loc Cert.CoreRefIdeal.main_arg17) = m ((c.tc : Thread Cert.CoreRefIdeal.nD Cert.CoreRefIdeal.τ).loc Cert.CoreRefIdeal.main_arg17)
      ∧ r.2.mem ((c.tc : Thread Cert.CoreRefIdeal.nD Cert.CoreRefIdeal.τ).loc Cert.CoreRefIdeal.main_arg18) = m ((c.tc : Thread Cert.CoreRefIdeal.nD Cert.CoreRefIdeal.τ).loc Cert.CoreRefIdeal.main_arg18)
      ∧ r.2.mem ((c.tc : Thread Cert.CoreRefIdeal.nD Cert.CoreRefIdeal.τ).loc Cert.CoreRefIdeal.main_arg19) = m ((c.tc : Thread Cert.CoreRefIdeal.nD Cert.CoreRefIdeal.τ).loc Cert.CoreRefIdeal.main_arg19)
      ∧ r.2.mem ((c.tc : Thread Cert.CoreRefIdeal.nD Cert.CoreRefIdeal.τ).loc Cert.CoreRefIdeal.main_arg20) = m ((c.tc : Thread Cert.CoreRefIdeal.nD Cert.CoreRefIdeal.τ).loc Cert.CoreRefIdeal.main_arg20))
      ∧ r.2.sem = fun _ => 0)

def quiescent_CoreRefIdeal_pre_core_pre [hCoreRefIdeal : Cert.CoreRefIdeal.Facts] [hPre_core_pre : Cert.Pre_core_pre.Facts] : Prop :=
  ∀ (m : (ℓ : Loc Cert.CoreRefIdeal.nD Cert.CoreRefIdeal.τ Cert.CoreRefIdeal.sig) → Buf (Elt Ideal) ℓ) (g : Dev Cert.CoreRefIdeal.nD → PrngReg), Pre_CoreRefIdeal_core_pre m →
    θ_run (Cert.CoreRefIdeal.defs (F := Ideal)) (onTc (τ := Cert.CoreRefIdeal.τ) (Cert.CoreRefIdeal.main (F := Ideal))) ⟨m, fun _ => 0, g⟩ (fun r => (∀ c : Dev Cert.CoreRefIdeal.nD,
      r.2.mem ((c.tc : Thread Cert.CoreRefIdeal.nD Cert.CoreRefIdeal.τ).loc Cert.CoreRefIdeal.main_arg0) = m ((c.tc : Thread Cert.CoreRefIdeal.nD Cert.CoreRefIdeal.τ).loc Cert.CoreRefIdeal.main_arg0)
      ∧ r.2.mem ((c.tc : Thread Cert.CoreRefIdeal.nD Cert.CoreRefIdeal.τ).loc Cert.CoreRefIdeal.main_arg1) = m ((c.tc : Thread Cert.CoreRefIdeal.nD Cert.CoreRefIdeal.τ).loc Cert.CoreRefIdeal.main_arg1)
      ∧ r.2.mem ((c.tc : Thread Cert.CoreRefIdeal.nD Cert.CoreRefIdeal.τ).loc Cert.CoreRefIdeal.main_arg2) = m ((c.tc : Thread Cert.CoreRefIdeal.nD Cert.CoreRefIdeal.τ).loc Cert.CoreRefIdeal.main_arg2)
      ∧ r.2.mem ((c.tc : Thread Cert.CoreRefIdeal.nD Cert.CoreRefIdeal.τ).loc Cert.CoreRefIdeal.main_arg3) = m ((c.tc : Thread Cert.CoreRefIdeal.nD Cert.CoreRefIdeal.τ).loc Cert.CoreRefIdeal.main_arg3)
      ∧ r.2.mem ((c.tc : Thread Cert.CoreRefIdeal.nD Cert.CoreRefIdeal.τ).loc Cert.CoreRefIdeal.main_arg4) = m ((c.tc : Thread Cert.CoreRefIdeal.nD Cert.CoreRefIdeal.τ).loc Cert.CoreRefIdeal.main_arg4)
      ∧ r.2.mem ((c.tc : Thread Cert.CoreRefIdeal.nD Cert.CoreRefIdeal.τ).loc Cert.CoreRefIdeal.main_arg5) = m ((c.tc : Thread Cert.CoreRefIdeal.nD Cert.CoreRefIdeal.τ).loc Cert.CoreRefIdeal.main_arg5)
      ∧ r.2.mem ((c.tc : Thread Cert.CoreRefIdeal.nD Cert.CoreRefIdeal.τ).loc Cert.CoreRefIdeal.main_arg6) = m ((c.tc : Thread Cert.CoreRefIdeal.nD Cert.CoreRefIdeal.τ).loc Cert.CoreRefIdeal.main_arg6)
      ∧ r.2.mem ((c.tc : Thread Cert.CoreRefIdeal.nD Cert.CoreRefIdeal.τ).loc Cert.CoreRefIdeal.main_arg7) = m ((c.tc : Thread Cert.CoreRefIdeal.nD Cert.CoreRefIdeal.τ).loc Cert.CoreRefIdeal.main_arg7)
      ∧ r.2.mem ((c.tc : Thread Cert.CoreRefIdeal.nD Cert.CoreRefIdeal.τ).loc Cert.CoreRefIdeal.main_arg8) = m ((c.tc : Thread Cert.CoreRefIdeal.nD Cert.CoreRefIdeal.τ).loc Cert.CoreRefIdeal.main_arg8)
      ∧ r.2.mem ((c.tc : Thread Cert.CoreRefIdeal.nD Cert.CoreRefIdeal.τ).loc Cert.CoreRefIdeal.main_arg9) = m ((c.tc : Thread Cert.CoreRefIdeal.nD Cert.CoreRefIdeal.τ).loc Cert.CoreRefIdeal.main_arg9)
      ∧ r.2.mem ((c.tc : Thread Cert.CoreRefIdeal.nD Cert.CoreRefIdeal.τ).loc Cert.CoreRefIdeal.main_arg10) = m ((c.tc : Thread Cert.CoreRefIdeal.nD Cert.CoreRefIdeal.τ).loc Cert.CoreRefIdeal.main_arg10)
      ∧ r.2.mem ((c.tc : Thread Cert.CoreRefIdeal.nD Cert.CoreRefIdeal.τ).loc Cert.CoreRefIdeal.main_arg11) = m ((c.tc : Thread Cert.CoreRefIdeal.nD Cert.CoreRefIdeal.τ).loc Cert.CoreRefIdeal.main_arg11)
      ∧ r.2.mem ((c.tc : Thread Cert.CoreRefIdeal.nD Cert.CoreRefIdeal.τ).loc Cert.CoreRefIdeal.main_arg12) = m ((c.tc : Thread Cert.CoreRefIdeal.nD Cert.CoreRefIdeal.τ).loc Cert.CoreRefIdeal.main_arg12)
      ∧ r.2.mem ((c.tc : Thread Cert.CoreRefIdeal.nD Cert.CoreRefIdeal.τ).loc Cert.CoreRefIdeal.main_arg13) = m ((c.tc : Thread Cert.CoreRefIdeal.nD Cert.CoreRefIdeal.τ).loc Cert.CoreRefIdeal.main_arg13)
      ∧ r.2.mem ((c.tc : Thread Cert.CoreRefIdeal.nD Cert.CoreRefIdeal.τ).loc Cert.CoreRefIdeal.main_arg14) = m ((c.tc : Thread Cert.CoreRefIdeal.nD Cert.CoreRefIdeal.τ).loc Cert.CoreRefIdeal.main_arg14)
      ∧ r.2.mem ((c.tc : Thread Cert.CoreRefIdeal.nD Cert.CoreRefIdeal.τ).loc Cert.CoreRefIdeal.main_arg15) = m ((c.tc : Thread Cert.CoreRefIdeal.nD Cert.CoreRefIdeal.τ).loc Cert.CoreRefIdeal.main_arg15)
      ∧ r.2.mem ((c.tc : Thread Cert.CoreRefIdeal.nD Cert.CoreRefIdeal.τ).loc Cert.CoreRefIdeal.main_arg16) = m ((c.tc : Thread Cert.CoreRefIdeal.nD Cert.CoreRefIdeal.τ).loc Cert.CoreRefIdeal.main_arg16)
      ∧ r.2.mem ((c.tc : Thread Cert.CoreRefIdeal.nD Cert.CoreRefIdeal.τ).loc Cert.CoreRefIdeal.main_arg17) = m ((c.tc : Thread Cert.CoreRefIdeal.nD Cert.CoreRefIdeal.τ).loc Cert.CoreRefIdeal.main_arg17)
      ∧ r.2.mem ((c.tc : Thread Cert.CoreRefIdeal.nD Cert.CoreRefIdeal.τ).loc Cert.CoreRefIdeal.main_arg18) = m ((c.tc : Thread Cert.CoreRefIdeal.nD Cert.CoreRefIdeal.τ).loc Cert.CoreRefIdeal.main_arg18)
      ∧ r.2.mem ((c.tc : Thread Cert.CoreRefIdeal.nD Cert.CoreRefIdeal.τ).loc Cert.CoreRefIdeal.main_arg19) = m ((c.tc : Thread Cert.CoreRefIdeal.nD Cert.CoreRefIdeal.τ).loc Cert.CoreRefIdeal.main_arg19)
      ∧ r.2.mem ((c.tc : Thread Cert.CoreRefIdeal.nD Cert.CoreRefIdeal.τ).loc Cert.CoreRefIdeal.main_arg20) = m ((c.tc : Thread Cert.CoreRefIdeal.nD Cert.CoreRefIdeal.τ).loc Cert.CoreRefIdeal.main_arg20))
      ∧ r.2.sem = fun _ => 0)

def preserves_Core_CoreIdeal : Prop :=
  IdealRules.named_const.Statement Cert.CoreIdeal.κ "low" .f32 0x7F61B1E6#32 ⊤
  ∧ IdealRules.named_const.Statement Cert.CoreIdeal.κ "far" .f32 0x7F7FC99E#32 ⊤

def algebraic_CoreIdeal_CoreRefIdeal [hCoreIdeal : Cert.CoreIdeal.Facts] [hCoreRefIdeal : Cert.CoreRefIdeal.Facts] [hPre_core_pre : Cert.Pre_core_pre.Facts] : Prop :=
  ∀ (m : (ℓ : Loc Cert.CoreIdeal.nD Cert.CoreIdeal.τ Cert.CoreIdeal.sig) → Buf (Elt Ideal) ℓ) (g : Dev Cert.CoreIdeal.nD → PrngReg)
    (m' : (ℓ : Loc Cert.CoreRefIdeal.nD Cert.CoreRefIdeal.τ Cert.CoreRefIdeal.sig) → Buf (Elt Ideal) ℓ) (g' : Dev Cert.CoreRefIdeal.nD → PrngReg), Pre_CoreIdeal m →
    (∀ c : Dev Cert.CoreIdeal.nD,
      m' ((c.tc : Thread Cert.CoreRefIdeal.nD Cert.CoreRefIdeal.τ).loc Cert.CoreRefIdeal.main_arg0) = m ((c.tc : Thread Cert.CoreIdeal.nD Cert.CoreIdeal.τ).loc Cert.CoreIdeal.main_arg0)
      ∧ m' ((c.tc : Thread Cert.CoreRefIdeal.nD Cert.CoreRefIdeal.τ).loc Cert.CoreRefIdeal.main_arg1) = m ((c.tc : Thread Cert.CoreIdeal.nD Cert.CoreIdeal.τ).loc Cert.CoreIdeal.main_arg1)
      ∧ m' ((c.tc : Thread Cert.CoreRefIdeal.nD Cert.CoreRefIdeal.τ).loc Cert.CoreRefIdeal.main_arg2) = m ((c.tc : Thread Cert.CoreIdeal.nD Cert.CoreIdeal.τ).loc Cert.CoreIdeal.main_arg2)
      ∧ m' ((c.tc : Thread Cert.CoreRefIdeal.nD Cert.CoreRefIdeal.τ).loc Cert.CoreRefIdeal.main_arg3) = m ((c.tc : Thread Cert.CoreIdeal.nD Cert.CoreIdeal.τ).loc Cert.CoreIdeal.main_arg3)
      ∧ m' ((c.tc : Thread Cert.CoreRefIdeal.nD Cert.CoreRefIdeal.τ).loc Cert.CoreRefIdeal.main_arg4) = m ((c.tc : Thread Cert.CoreIdeal.nD Cert.CoreIdeal.τ).loc Cert.CoreIdeal.main_arg4)
      ∧ m' ((c.tc : Thread Cert.CoreRefIdeal.nD Cert.CoreRefIdeal.τ).loc Cert.CoreRefIdeal.main_arg5) = m ((c.tc : Thread Cert.CoreIdeal.nD Cert.CoreIdeal.τ).loc Cert.CoreIdeal.main_arg5)
      ∧ m' ((c.tc : Thread Cert.CoreRefIdeal.nD Cert.CoreRefIdeal.τ).loc Cert.CoreRefIdeal.main_arg6) = m ((c.tc : Thread Cert.CoreIdeal.nD Cert.CoreIdeal.τ).loc Cert.CoreIdeal.main_arg6)
      ∧ m' ((c.tc : Thread Cert.CoreRefIdeal.nD Cert.CoreRefIdeal.τ).loc Cert.CoreRefIdeal.main_arg7) = m ((c.tc : Thread Cert.CoreIdeal.nD Cert.CoreIdeal.τ).loc Cert.CoreIdeal.main_arg7)
      ∧ m' ((c.tc : Thread Cert.CoreRefIdeal.nD Cert.CoreRefIdeal.τ).loc Cert.CoreRefIdeal.main_arg8) = m ((c.tc : Thread Cert.CoreIdeal.nD Cert.CoreIdeal.τ).loc Cert.CoreIdeal.main_arg8)
      ∧ m' ((c.tc : Thread Cert.CoreRefIdeal.nD Cert.CoreRefIdeal.τ).loc Cert.CoreRefIdeal.main_arg9) = m ((c.tc : Thread Cert.CoreIdeal.nD Cert.CoreIdeal.τ).loc Cert.CoreIdeal.main_arg9)
      ∧ m' ((c.tc : Thread Cert.CoreRefIdeal.nD Cert.CoreRefIdeal.τ).loc Cert.CoreRefIdeal.main_arg10) = m ((c.tc : Thread Cert.CoreIdeal.nD Cert.CoreIdeal.τ).loc Cert.CoreIdeal.main_arg10)
      ∧ m' ((c.tc : Thread Cert.CoreRefIdeal.nD Cert.CoreRefIdeal.τ).loc Cert.CoreRefIdeal.main_arg11) = m ((c.tc : Thread Cert.CoreIdeal.nD Cert.CoreIdeal.τ).loc Cert.CoreIdeal.main_arg11)
      ∧ m' ((c.tc : Thread Cert.CoreRefIdeal.nD Cert.CoreRefIdeal.τ).loc Cert.CoreRefIdeal.main_arg12) = m ((c.tc : Thread Cert.CoreIdeal.nD Cert.CoreIdeal.τ).loc Cert.CoreIdeal.main_arg12)
      ∧ m' ((c.tc : Thread Cert.CoreRefIdeal.nD Cert.CoreRefIdeal.τ).loc Cert.CoreRefIdeal.main_arg13) = m ((c.tc : Thread Cert.CoreIdeal.nD Cert.CoreIdeal.τ).loc Cert.CoreIdeal.main_arg13)
      ∧ m' ((c.tc : Thread Cert.CoreRefIdeal.nD Cert.CoreRefIdeal.τ).loc Cert.CoreRefIdeal.main_arg14) = m ((c.tc : Thread Cert.CoreIdeal.nD Cert.CoreIdeal.τ).loc Cert.CoreIdeal.main_arg14)
      ∧ m' ((c.tc : Thread Cert.CoreRefIdeal.nD Cert.CoreRefIdeal.τ).loc Cert.CoreRefIdeal.main_arg15) = m ((c.tc : Thread Cert.CoreIdeal.nD Cert.CoreIdeal.τ).loc Cert.CoreIdeal.main_arg15)
      ∧ m' ((c.tc : Thread Cert.CoreRefIdeal.nD Cert.CoreRefIdeal.τ).loc Cert.CoreRefIdeal.main_arg16) = m ((c.tc : Thread Cert.CoreIdeal.nD Cert.CoreIdeal.τ).loc Cert.CoreIdeal.main_arg16)
      ∧ m' ((c.tc : Thread Cert.CoreRefIdeal.nD Cert.CoreRefIdeal.τ).loc Cert.CoreRefIdeal.main_arg17) = m ((c.tc : Thread Cert.CoreIdeal.nD Cert.CoreIdeal.τ).loc Cert.CoreIdeal.main_arg17)
      ∧ m' ((c.tc : Thread Cert.CoreRefIdeal.nD Cert.CoreRefIdeal.τ).loc Cert.CoreRefIdeal.main_arg18) = m ((c.tc : Thread Cert.CoreIdeal.nD Cert.CoreIdeal.τ).loc Cert.CoreIdeal.main_arg18)
      ∧ m' ((c.tc : Thread Cert.CoreRefIdeal.nD Cert.CoreRefIdeal.τ).loc Cert.CoreRefIdeal.main_arg19) = m ((c.tc : Thread Cert.CoreIdeal.nD Cert.CoreIdeal.τ).loc Cert.CoreIdeal.main_arg19)
      ∧ m' ((c.tc : Thread Cert.CoreRefIdeal.nD Cert.CoreRefIdeal.τ).loc Cert.CoreRefIdeal.main_arg20) = m ((c.tc : Thread Cert.CoreIdeal.nD Cert.CoreIdeal.τ).loc Cert.CoreIdeal.main_arg20)) →
    ∃ (v0 : (c : Dev Cert.CoreIdeal.nD) → Buf (Elt Ideal) ((c.tc : Thread Cert.CoreIdeal.nD Cert.CoreIdeal.τ).loc Cert.CoreIdeal.main_v236)),
      θ_run (Cert.CoreIdeal.defs (F := Ideal)) (onTc (τ := Cert.CoreIdeal.τ) (Cert.CoreIdeal.main (F := Ideal))) ⟨m, fun _ => 0, g⟩ (fun r => ∀ c : Dev Cert.CoreIdeal.nD,
          r.2.mem ((c.tc : Thread Cert.CoreIdeal.nD Cert.CoreIdeal.τ).loc Cert.CoreIdeal.main_v236) = v0 c
          ∧ r.2.mem ((c.tc : Thread Cert.CoreIdeal.nD Cert.CoreIdeal.τ).loc Cert.CoreIdeal.main_arg0) = m ((c.tc : Thread Cert.CoreIdeal.nD Cert.CoreIdeal.τ).loc Cert.CoreIdeal.main_arg0)
          ∧ r.2.mem ((c.tc : Thread Cert.CoreIdeal.nD Cert.CoreIdeal.τ).loc Cert.CoreIdeal.main_arg1) = m ((c.tc : Thread Cert.CoreIdeal.nD Cert.CoreIdeal.τ).loc Cert.CoreIdeal.main_arg1)
          ∧ r.2.mem ((c.tc : Thread Cert.CoreIdeal.nD Cert.CoreIdeal.τ).loc Cert.CoreIdeal.main_arg2) = m ((c.tc : Thread Cert.CoreIdeal.nD Cert.CoreIdeal.τ).loc Cert.CoreIdeal.main_arg2)
          ∧ r.2.mem ((c.tc : Thread Cert.CoreIdeal.nD Cert.CoreIdeal.τ).loc Cert.CoreIdeal.main_arg3) = m ((c.tc : Thread Cert.CoreIdeal.nD Cert.CoreIdeal.τ).loc Cert.CoreIdeal.main_arg3)
          ∧ r.2.mem ((c.tc : Thread Cert.CoreIdeal.nD Cert.CoreIdeal.τ).loc Cert.CoreIdeal.main_arg4) = m ((c.tc : Thread Cert.CoreIdeal.nD Cert.CoreIdeal.τ).loc Cert.CoreIdeal.main_arg4)
          ∧ r.2.mem ((c.tc : Thread Cert.CoreIdeal.nD Cert.CoreIdeal.τ).loc Cert.CoreIdeal.main_arg5) = m ((c.tc : Thread Cert.CoreIdeal.nD Cert.CoreIdeal.τ).loc Cert.CoreIdeal.main_arg5)
          ∧ r.2.mem ((c.tc : Thread Cert.CoreIdeal.nD Cert.CoreIdeal.τ).loc Cert.CoreIdeal.main_arg6) = m ((c.tc : Thread Cert.CoreIdeal.nD Cert.CoreIdeal.τ).loc Cert.CoreIdeal.main_arg6)
          ∧ r.2.mem ((c.tc : Thread Cert.CoreIdeal.nD Cert.CoreIdeal.τ).loc Cert.CoreIdeal.main_arg7) = m ((c.tc : Thread Cert.CoreIdeal.nD Cert.CoreIdeal.τ).loc Cert.CoreIdeal.main_arg7)
          ∧ r.2.mem ((c.tc : Thread Cert.CoreIdeal.nD Cert.CoreIdeal.τ).loc Cert.CoreIdeal.main_arg8) = m ((c.tc : Thread Cert.CoreIdeal.nD Cert.CoreIdeal.τ).loc Cert.CoreIdeal.main_arg8)
          ∧ r.2.mem ((c.tc : Thread Cert.CoreIdeal.nD Cert.CoreIdeal.τ).loc Cert.CoreIdeal.main_arg9) = m ((c.tc : Thread Cert.CoreIdeal.nD Cert.CoreIdeal.τ).loc Cert.CoreIdeal.main_arg9)
          ∧ r.2.mem ((c.tc : Thread Cert.CoreIdeal.nD Cert.CoreIdeal.τ).loc Cert.CoreIdeal.main_arg10) = m ((c.tc : Thread Cert.CoreIdeal.nD Cert.CoreIdeal.τ).loc Cert.CoreIdeal.main_arg10)
          ∧ r.2.mem ((c.tc : Thread Cert.CoreIdeal.nD Cert.CoreIdeal.τ).loc Cert.CoreIdeal.main_arg11) = m ((c.tc : Thread Cert.CoreIdeal.nD Cert.CoreIdeal.τ).loc Cert.CoreIdeal.main_arg11)
          ∧ r.2.mem ((c.tc : Thread Cert.CoreIdeal.nD Cert.CoreIdeal.τ).loc Cert.CoreIdeal.main_arg12) = m ((c.tc : Thread Cert.CoreIdeal.nD Cert.CoreIdeal.τ).loc Cert.CoreIdeal.main_arg12)
          ∧ r.2.mem ((c.tc : Thread Cert.CoreIdeal.nD Cert.CoreIdeal.τ).loc Cert.CoreIdeal.main_arg13) = m ((c.tc : Thread Cert.CoreIdeal.nD Cert.CoreIdeal.τ).loc Cert.CoreIdeal.main_arg13)
          ∧ r.2.mem ((c.tc : Thread Cert.CoreIdeal.nD Cert.CoreIdeal.τ).loc Cert.CoreIdeal.main_arg14) = m ((c.tc : Thread Cert.CoreIdeal.nD Cert.CoreIdeal.τ).loc Cert.CoreIdeal.main_arg14)
          ∧ r.2.mem ((c.tc : Thread Cert.CoreIdeal.nD Cert.CoreIdeal.τ).loc Cert.CoreIdeal.main_arg15) = m ((c.tc : Thread Cert.CoreIdeal.nD Cert.CoreIdeal.τ).loc Cert.CoreIdeal.main_arg15)
          ∧ r.2.mem ((c.tc : Thread Cert.CoreIdeal.nD Cert.CoreIdeal.τ).loc Cert.CoreIdeal.main_arg16) = m ((c.tc : Thread Cert.CoreIdeal.nD Cert.CoreIdeal.τ).loc Cert.CoreIdeal.main_arg16)
          ∧ r.2.mem ((c.tc : Thread Cert.CoreIdeal.nD Cert.CoreIdeal.τ).loc Cert.CoreIdeal.main_arg17) = m ((c.tc : Thread Cert.CoreIdeal.nD Cert.CoreIdeal.τ).loc Cert.CoreIdeal.main_arg17)
          ∧ r.2.mem ((c.tc : Thread Cert.CoreIdeal.nD Cert.CoreIdeal.τ).loc Cert.CoreIdeal.main_arg18) = m ((c.tc : Thread Cert.CoreIdeal.nD Cert.CoreIdeal.τ).loc Cert.CoreIdeal.main_arg18)
          ∧ r.2.mem ((c.tc : Thread Cert.CoreIdeal.nD Cert.CoreIdeal.τ).loc Cert.CoreIdeal.main_arg19) = m ((c.tc : Thread Cert.CoreIdeal.nD Cert.CoreIdeal.τ).loc Cert.CoreIdeal.main_arg19)
          ∧ r.2.mem ((c.tc : Thread Cert.CoreIdeal.nD Cert.CoreIdeal.τ).loc Cert.CoreIdeal.main_arg20) = m ((c.tc : Thread Cert.CoreIdeal.nD Cert.CoreIdeal.τ).loc Cert.CoreIdeal.main_arg20))
      ∧ θ_run (Cert.CoreRefIdeal.defs (F := Ideal)) (onTc (τ := Cert.CoreRefIdeal.τ) (Cert.CoreRefIdeal.main (F := Ideal))) ⟨m', fun _ => 0, g'⟩ (fun r => ∀ c : Dev Cert.CoreRefIdeal.nD,
          r.2.mem ((c.tc : Thread Cert.CoreRefIdeal.nD Cert.CoreRefIdeal.τ).loc Cert.CoreRefIdeal.main_v387) = v0 c
          ∧ r.2.mem ((c.tc : Thread Cert.CoreRefIdeal.nD Cert.CoreRefIdeal.τ).loc Cert.CoreRefIdeal.main_arg0) = m' ((c.tc : Thread Cert.CoreRefIdeal.nD Cert.CoreRefIdeal.τ).loc Cert.CoreRefIdeal.main_arg0)
          ∧ r.2.mem ((c.tc : Thread Cert.CoreRefIdeal.nD Cert.CoreRefIdeal.τ).loc Cert.CoreRefIdeal.main_arg1) = m' ((c.tc : Thread Cert.CoreRefIdeal.nD Cert.CoreRefIdeal.τ).loc Cert.CoreRefIdeal.main_arg1)
          ∧ r.2.mem ((c.tc : Thread Cert.CoreRefIdeal.nD Cert.CoreRefIdeal.τ).loc Cert.CoreRefIdeal.main_arg2) = m' ((c.tc : Thread Cert.CoreRefIdeal.nD Cert.CoreRefIdeal.τ).loc Cert.CoreRefIdeal.main_arg2)
          ∧ r.2.mem ((c.tc : Thread Cert.CoreRefIdeal.nD Cert.CoreRefIdeal.τ).loc Cert.CoreRefIdeal.main_arg3) = m' ((c.tc : Thread Cert.CoreRefIdeal.nD Cert.CoreRefIdeal.τ).loc Cert.CoreRefIdeal.main_arg3)
          ∧ r.2.mem ((c.tc : Thread Cert.CoreRefIdeal.nD Cert.CoreRefIdeal.τ).loc Cert.CoreRefIdeal.main_arg4) = m' ((c.tc : Thread Cert.CoreRefIdeal.nD Cert.CoreRefIdeal.τ).loc Cert.CoreRefIdeal.main_arg4)
          ∧ r.2.mem ((c.tc : Thread Cert.CoreRefIdeal.nD Cert.CoreRefIdeal.τ).loc Cert.CoreRefIdeal.main_arg5) = m' ((c.tc : Thread Cert.CoreRefIdeal.nD Cert.CoreRefIdeal.τ).loc Cert.CoreRefIdeal.main_arg5)
          ∧ r.2.mem ((c.tc : Thread Cert.CoreRefIdeal.nD Cert.CoreRefIdeal.τ).loc Cert.CoreRefIdeal.main_arg6) = m' ((c.tc : Thread Cert.CoreRefIdeal.nD Cert.CoreRefIdeal.τ).loc Cert.CoreRefIdeal.main_arg6)
          ∧ r.2.mem ((c.tc : Thread Cert.CoreRefIdeal.nD Cert.CoreRefIdeal.τ).loc Cert.CoreRefIdeal.main_arg7) = m' ((c.tc : Thread Cert.CoreRefIdeal.nD Cert.CoreRefIdeal.τ).loc Cert.CoreRefIdeal.main_arg7)
          ∧ r.2.mem ((c.tc : Thread Cert.CoreRefIdeal.nD Cert.CoreRefIdeal.τ).loc Cert.CoreRefIdeal.main_arg8) = m' ((c.tc : Thread Cert.CoreRefIdeal.nD Cert.CoreRefIdeal.τ).loc Cert.CoreRefIdeal.main_arg8)
          ∧ r.2.mem ((c.tc : Thread Cert.CoreRefIdeal.nD Cert.CoreRefIdeal.τ).loc Cert.CoreRefIdeal.main_arg9) = m' ((c.tc : Thread Cert.CoreRefIdeal.nD Cert.CoreRefIdeal.τ).loc Cert.CoreRefIdeal.main_arg9)
          ∧ r.2.mem ((c.tc : Thread Cert.CoreRefIdeal.nD Cert.CoreRefIdeal.τ).loc Cert.CoreRefIdeal.main_arg10) = m' ((c.tc : Thread Cert.CoreRefIdeal.nD Cert.CoreRefIdeal.τ).loc Cert.CoreRefIdeal.main_arg10)
          ∧ r.2.mem ((c.tc : Thread Cert.CoreRefIdeal.nD Cert.CoreRefIdeal.τ).loc Cert.CoreRefIdeal.main_arg11) = m' ((c.tc : Thread Cert.CoreRefIdeal.nD Cert.CoreRefIdeal.τ).loc Cert.CoreRefIdeal.main_arg11)
          ∧ r.2.mem ((c.tc : Thread Cert.CoreRefIdeal.nD Cert.CoreRefIdeal.τ).loc Cert.CoreRefIdeal.main_arg12) = m' ((c.tc : Thread Cert.CoreRefIdeal.nD Cert.CoreRefIdeal.τ).loc Cert.CoreRefIdeal.main_arg12)
          ∧ r.2.mem ((c.tc : Thread Cert.CoreRefIdeal.nD Cert.CoreRefIdeal.τ).loc Cert.CoreRefIdeal.main_arg13) = m' ((c.tc : Thread Cert.CoreRefIdeal.nD Cert.CoreRefIdeal.τ).loc Cert.CoreRefIdeal.main_arg13)
          ∧ r.2.mem ((c.tc : Thread Cert.CoreRefIdeal.nD Cert.CoreRefIdeal.τ).loc Cert.CoreRefIdeal.main_arg14) = m' ((c.tc : Thread Cert.CoreRefIdeal.nD Cert.CoreRefIdeal.τ).loc Cert.CoreRefIdeal.main_arg14)
          ∧ r.2.mem ((c.tc : Thread Cert.CoreRefIdeal.nD Cert.CoreRefIdeal.τ).loc Cert.CoreRefIdeal.main_arg15) = m' ((c.tc : Thread Cert.CoreRefIdeal.nD Cert.CoreRefIdeal.τ).loc Cert.CoreRefIdeal.main_arg15)
          ∧ r.2.mem ((c.tc : Thread Cert.CoreRefIdeal.nD Cert.CoreRefIdeal.τ).loc Cert.CoreRefIdeal.main_arg16) = m' ((c.tc : Thread Cert.CoreRefIdeal.nD Cert.CoreRefIdeal.τ).loc Cert.CoreRefIdeal.main_arg16)
          ∧ r.2.mem ((c.tc : Thread Cert.CoreRefIdeal.nD Cert.CoreRefIdeal.τ).loc Cert.CoreRefIdeal.main_arg17) = m' ((c.tc : Thread Cert.CoreRefIdeal.nD Cert.CoreRefIdeal.τ).loc Cert.CoreRefIdeal.main_arg17)
          ∧ r.2.mem ((c.tc : Thread Cert.CoreRefIdeal.nD Cert.CoreRefIdeal.τ).loc Cert.CoreRefIdeal.main_arg18) = m' ((c.tc : Thread Cert.CoreRefIdeal.nD Cert.CoreRefIdeal.τ).loc Cert.CoreRefIdeal.main_arg18)
          ∧ r.2.mem ((c.tc : Thread Cert.CoreRefIdeal.nD Cert.CoreRefIdeal.τ).loc Cert.CoreRefIdeal.main_arg19) = m' ((c.tc : Thread Cert.CoreRefIdeal.nD Cert.CoreRefIdeal.τ).loc Cert.CoreRefIdeal.main_arg19)
          ∧ r.2.mem ((c.tc : Thread Cert.CoreRefIdeal.nD Cert.CoreRefIdeal.τ).loc Cert.CoreRefIdeal.main_arg20) = m' ((c.tc : Thread Cert.CoreRefIdeal.nD Cert.CoreRefIdeal.τ).loc Cert.CoreRefIdeal.main_arg20))

def Claim : Prop :=
  ∃ (hCore : Cert.Core.Facts) (hCoreIdeal : Cert.CoreIdeal.Facts) (hCoreRefIdeal : Cert.CoreRefIdeal.Facts) (hPre_core_pre : Cert.Pre_core_pre.Facts),
    quiescent_Core (hCore := hCore)
    ∧ quiescent_Core_pre_core_pre (hCore := hCore) (hPre_core_pre := hPre_core_pre)
    ∧ quiescent_CoreIdeal (hCoreIdeal := hCoreIdeal) (hPre_core_pre := hPre_core_pre)
    ∧ quiescent_CoreRefIdeal (hCoreRefIdeal := hCoreRefIdeal)
    ∧ quiescent_CoreRefIdeal_pre_core_pre (hCoreRefIdeal := hCoreRefIdeal) (hPre_core_pre := hPre_core_pre)
    ∧ preserves_Core_CoreIdeal
    ∧ algebraic_CoreIdeal_CoreRefIdeal (hCoreIdeal := hCoreIdeal) (hCoreRefIdeal := hCoreRefIdeal) (hPre_core_pre := hPre_core_pre)
-- ==== Pre_core_pre.lean ====
abbrev S16x6x2048 : Shape := ⟨3, ![16, 6, 2048]⟩
abbrev S64x6 : Shape := ⟨2, ![64, 6]⟩
abbrev S4x64 : Shape := ⟨2, ![4, 64]⟩
abbrev S1024x64 : Shape := ⟨2, ![1024, 64]⟩
abbrev S4x1024 : Shape := ⟨2, ![4, 1024]⟩
abbrev S64x128 : Shape := ⟨2, ![64, 128]⟩
abbrev S128x128 : Shape := ⟨2, ![128, 128]⟩
abbrev S4x128 : Shape := ⟨2, ![4, 128]⟩
abbrev S256x256 : Shape := ⟨2, ![256, 256]⟩
abbrev S4x256 : Shape := ⟨2, ![4, 256]⟩
abbrev S512x1280 : Shape := ⟨2, ![512, 1280]⟩
abbrev S4x512 : Shape := ⟨2, ![4, 512]⟩
abbrev S16x512x3 : Shape := ⟨3, ![16, 512, 3]⟩
abbrev S16x512 : Shape := ⟨2, ![16, 512]⟩
abbrev S16x256x3 : Shape := ⟨3, ![16, 256, 3]⟩
abbrev S16x256 : Shape := ⟨2, ![16, 256]⟩
abbrev S16x3x2048 : Shape := ⟨3, ![16, 3, 2048]⟩
abbrev S16x2048x3 : Shape := ⟨3, ![16, 2048, 3]⟩
abbrev S64x16x2048 : Shape := ⟨3, ![64, 16, 2048]⟩
abbrev S16x64x2048 : Shape := ⟨3, ![16, 64, 2048]⟩
abbrev S1x64 : Shape := ⟨2, ![1, 64]⟩
abbrev S64 : Shape := ⟨1, ![64]⟩
abbrev S1x64x1 : Shape := ⟨3, ![1, 64, 1]⟩
abbrev S_ : Shape := ⟨0, ![]⟩
abbrev S16x2048x64 : Shape := ⟨3, ![16, 2048, 64]⟩
abbrev S1x1024 : Shape := ⟨2, ![1, 1024]⟩
abbrev S1024 : Shape := ⟨1, ![1024]⟩
abbrev S1x128 : Shape := ⟨2, ![1, 128]⟩
abbrev S128 : Shape := ⟨1, ![128]⟩
abbrev S1x256 : Shape := ⟨2, ![1, 256]⟩
abbrev S256 : Shape := ⟨1, ![256]⟩
abbrev S1x512 : Shape := ⟨2, ![1, 512]⟩
abbrev S512 : Shape := ⟨1, ![512]⟩
abbrev S16x2048 : Shape := ⟨2, ![16, 2048]⟩
abbrev S16x2048x1 : Shape := ⟨3, ![16, 2048, 1]⟩
abbrev S16x2048x2048 : Shape := ⟨3, ![16, 2048, 2048]⟩
abbrev S16x1x2048 : Shape := ⟨3, ![16, 1, 2048]⟩
abbrev S16x2048x2047 : Shape := ⟨3, ![16, 2048, 2047]⟩
abbrev S16x512x1 : Shape := ⟨3, ![16, 512, 1]⟩
abbrev S16x512x2048 : Shape := ⟨3, ![16, 512, 2048]⟩
abbrev S16x512x2047 : Shape := ⟨3, ![16, 512, 2047]⟩
abbrev S16x256x1 : Shape := ⟨3, ![16, 256, 1]⟩
abbrev S16x256x512 : Shape := ⟨3, ![16, 256, 512]⟩
abbrev S16x1x512 : Shape := ⟨3, ![16, 1, 512]⟩
abbrev S16x256x511 : Shape := ⟨3, ![16, 256, 511]⟩

class Facts : Prop where
  slices_S16x6x2048_S16x3x2048_0_0_0 : S16x6x2048.Slices ![0, 0, 0] S16x3x2048
  transposes_S16x3x2048_S16x2048x3_0_2_1 : S16x3x2048.Transposes [0, 2, 1] S16x2048x3
  transposes_S64x16x2048_S16x64x2048_1_0_2 : S64x16x2048.Transposes [1, 0, 2] S16x64x2048
  slices_S4x64_S1x64_0_0 : S4x64.Slices ![0, 0] S1x64
  shapeCasts_S1x64_S64 : S1x64.ShapeCasts S64
  slices_S4x64_S1x64_1_0 : S4x64.Slices ![1, 0] S1x64
  slices_S4x64_S1x64_2_0 : S4x64.Slices ![2, 0] S1x64
  slices_S4x64_S1x64_3_0 : S4x64.Slices ![3, 0] S1x64
  shapeCasts_S64_S1x64x1 : S64.ShapeCasts S1x64x1
  bcast_S1x64x1_S16x64x2048_0_1_2 : S1x64x1.BroadcastsInDim S16x64x2048 (![0, 1, 2] : Fin 3 → Fin S16x64x2048.rank)
  bcast_S_S1x64x1 : S_.BroadcastsInDim S1x64x1 (![] : Fin 0 → Fin S1x64x1.rank)
  bcast_S_S16x64x2048 : S_.BroadcastsInDim S16x64x2048 (![] : Fin 0 → Fin S16x64x2048.rank)
  transposes_S16x64x2048_S16x2048x64_0_2_1 : S16x64x2048.Transposes [0, 2, 1] S16x2048x64
  bcast_S_S16x6x2048 : S_.BroadcastsInDim S16x6x2048 (![] : Fin 0 → Fin S16x6x2048.rank)
  reducesTo_S16x6x2048_S_d0_1_2 : S16x6x2048.ReducesTo [0, 1, 2] S_
  h_S_ : 0 < S_.numel
  bcast_S_S64x6 : S_.BroadcastsInDim S64x6 (![] : Fin 0 → Fin S64x6.rank)
  reducesTo_S64x6_S_d0_1 : S64x6.ReducesTo [0, 1] S_
  bcast_S_S4x64 : S_.BroadcastsInDim S4x64 (![] : Fin 0 → Fin S4x64.rank)
  reducesTo_S4x64_S_d0_1 : S4x64.ReducesTo [0, 1] S_
  bcast_S_S1024x64 : S_.BroadcastsInDim S1024x64 (![] : Fin 0 → Fin S1024x64.rank)
  reducesTo_S1024x64_S_d0_1 : S1024x64.ReducesTo [0, 1] S_
  bcast_S_S4x1024 : S_.BroadcastsInDim S4x1024 (![] : Fin 0 → Fin S4x1024.rank)
  reducesTo_S4x1024_S_d0_1 : S4x1024.ReducesTo [0, 1] S_
  bcast_S_S64x128 : S_.BroadcastsInDim S64x128 (![] : Fin 0 → Fin S64x128.rank)
  reducesTo_S64x128_S_d0_1 : S64x128.ReducesTo [0, 1] S_
  bcast_S_S128x128 : S_.BroadcastsInDim S128x128 (![] : Fin 0 → Fin S128x128.rank)
  reducesTo_S128x128_S_d0_1 : S128x128.ReducesTo [0, 1] S_
  bcast_S_S4x128 : S_.BroadcastsInDim S4x128 (![] : Fin 0 → Fin S4x128.rank)
  reducesTo_S4x128_S_d0_1 : S4x128.ReducesTo [0, 1] S_
  bcast_S_S256x256 : S_.BroadcastsInDim S256x256 (![] : Fin 0 → Fin S256x256.rank)
  reducesTo_S256x256_S_d0_1 : S256x256.ReducesTo [0, 1] S_
  bcast_S_S4x256 : S_.BroadcastsInDim S4x256 (![] : Fin 0 → Fin S4x256.rank)
  reducesTo_S4x256_S_d0_1 : S4x256.ReducesTo [0, 1] S_
  bcast_S_S512x1280 : S_.BroadcastsInDim S512x1280 (![] : Fin 0 → Fin S512x1280.rank)
  reducesTo_S512x1280_S_d0_1 : S512x1280.ReducesTo [0, 1] S_
  bcast_S_S4x512 : S_.BroadcastsInDim S4x512 (![] : Fin 0 → Fin S4x512.rank)
  reducesTo_S4x512_S_d0_1 : S4x512.ReducesTo [0, 1] S_
  bcast_S_S16x512x3 : S_.BroadcastsInDim S16x512x3 (![] : Fin 0 → Fin S16x512x3.rank)
  reducesTo_S16x512x3_S_d0_1_2 : S16x512x3.ReducesTo [0, 1, 2] S_
  bcast_S_S16x256x3 : S_.BroadcastsInDim S16x256x3 (![] : Fin 0 → Fin S16x256x3.rank)
  reducesTo_S16x256x3_S_d0_1_2 : S16x256x3.ReducesTo [0, 1, 2] S_
  bcast_S_S64 : S_.BroadcastsInDim S64 (![] : Fin 0 → Fin S64.rank)
  reducesTo_S64_S_d0 : S64.ReducesTo [0] S_
  slices_S4x1024_S1x1024_3_0 : S4x1024.Slices ![3, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  slices_S4x128_S1x128_3_0 : S4x128.Slices ![3, 0] S1x128
  shapeCasts_S1x128_S128 : S1x128.ShapeCasts S128
  bcast_S_S128 : S_.BroadcastsInDim S128 (![] : Fin 0 → Fin S128.rank)
  reducesTo_S128_S_d0 : S128.ReducesTo [0] S_
  slices_S4x256_S1x256_3_0 : S4x256.Slices ![3, 0] S1x256
  shapeCasts_S1x256_S256 : S1x256.ShapeCasts S256
  bcast_S_S256 : S_.BroadcastsInDim S256 (![] : Fin 0 → Fin S256.rank)
  reducesTo_S256_S_d0 : S256.ReducesTo [0] S_
  slices_S4x512_S1x512_3_0 : S4x512.Slices ![3, 0] S1x512
  shapeCasts_S1x512_S512 : S1x512.ShapeCasts S512
  bcast_S_S512 : S_.BroadcastsInDim S512 (![] : Fin 0 → Fin S512.rank)
  reducesTo_S512_S_d0 : S512.ReducesTo [0] S_
  reducesTo_S16x2048x3_S16x2048_d2 : S16x2048x3.ReducesTo [2] S16x2048
  bcast_S16x2048_S16x2048x1_0_1 : S16x2048.BroadcastsInDim S16x2048x1 (![0, 1] : Fin 2 → Fin S16x2048x1.rank)
  bcast_S_S16x2048x2048 : S_.BroadcastsInDim S16x2048x2048 (![] : Fin 0 → Fin S16x2048x2048.rank)
  bcast_S16x2048x1_S16x2048x2048_0_1_2 : S16x2048x1.BroadcastsInDim S16x2048x2048 (![0, 1, 2] : Fin 3 → Fin S16x2048x2048.rank)
  bcast_S16x2048_S16x1x2048_0_2 : S16x2048.BroadcastsInDim S16x1x2048 (![0, 2] : Fin 2 → Fin S16x1x2048.rank)
  bcast_S16x1x2048_S16x2048x2048_0_1_2 : S16x1x2048.BroadcastsInDim S16x2048x2048 (![0, 1, 2] : Fin 3 → Fin S16x2048x2048.rank)
  slices_S16x2048x2048_S16x2048x2047_0_0_1 : S16x2048x2048.Slices ![0, 0, 1] S16x2048x2047
  slices_S16x2048x2048_S16x2048x2047_0_0_0 : S16x2048x2048.Slices ![0, 0, 0] S16x2048x2047
  reducesTo_S16x2048x2047_S_d0_1_2 : S16x2048x2047.ReducesTo [0, 1, 2] S_
  reducesTo_S16x2048x64_S16x2048_d2 : S16x2048x64.ReducesTo [2] S16x2048
  reducesTo_S16x512x3_S16x512_d2 : S16x512x3.ReducesTo [2] S16x512
  bcast_S16x512_S16x512x1_0_1 : S16x512.BroadcastsInDim S16x512x1 (![0, 1] : Fin 2 → Fin S16x512x1.rank)
  bcast_S_S16x512x2048 : S_.BroadcastsInDim S16x512x2048 (![] : Fin 0 → Fin S16x512x2048.rank)
  bcast_S16x512x1_S16x512x2048_0_1_2 : S16x512x1.BroadcastsInDim S16x512x2048 (![0, 1, 2] : Fin 3 → Fin S16x512x2048.rank)
  bcast_S16x1x2048_S16x512x2048_0_1_2 : S16x1x2048.BroadcastsInDim S16x512x2048 (![0, 1, 2] : Fin 3 → Fin S16x512x2048.rank)
  slices_S16x512x2048_S16x512x2047_0_0_1 : S16x512x2048.Slices ![0, 0, 1] S16x512x2047
  slices_S16x512x2048_S16x512x2047_0_0_0 : S16x512x2048.Slices ![0, 0, 0] S16x512x2047
  reducesTo_S16x512x2047_S_d0_1_2 : S16x512x2047.ReducesTo [0, 1, 2] S_
  reducesTo_S16x256x3_S16x256_d2 : S16x256x3.ReducesTo [2] S16x256
  bcast_S16x256_S16x256x1_0_1 : S16x256.BroadcastsInDim S16x256x1 (![0, 1] : Fin 2 → Fin S16x256x1.rank)
  bcast_S_S16x256x512 : S_.BroadcastsInDim S16x256x512 (![] : Fin 0 → Fin S16x256x512.rank)
  bcast_S16x256x1_S16x256x512_0_1_2 : S16x256x1.BroadcastsInDim S16x256x512 (![0, 1, 2] : Fin 3 → Fin S16x256x512.rank)
  bcast_S16x512_S16x1x512_0_2 : S16x512.BroadcastsInDim S16x1x512 (![0, 2] : Fin 2 → Fin S16x1x512.rank)
  bcast_S16x1x512_S16x256x512_0_1_2 : S16x1x512.BroadcastsInDim S16x256x512 (![0, 1, 2] : Fin 3 → Fin S16x256x512.rank)
  slices_S16x256x512_S16x256x511_0_0_1 : S16x256x512.Slices ![0, 0, 1] S16x256x511
  slices_S16x256x512_S16x256x511_0_0_0 : S16x256x512.Slices ![0, 0, 0] S16x256x511
  reducesTo_S16x256x511_S_d0_1_2 : S16x256x511.ReducesTo [0, 1, 2] S_
  dot_S64x6_S16x6x2048_S64x16x2048_1_1_0_02_n_n_wf : DotDims.WF S64x6 S16x6x2048 S64x16x2048 [1] [1] [0] [0, 2] [] []
  dot_S16x2048x3_S16x2048x3_S16x2048x2048_2_2_1_1_0_0_wf : DotDims.WF S16x2048x3 S16x2048x3 S16x2048x2048 [2] [2] [1] [1] [0] [0]
  dot_S16x2048x64_S16x2048x64_S16x2048x2048_2_2_1_1_0_0_wf : DotDims.WF S16x2048x64 S16x2048x64 S16x2048x2048 [2] [2] [1] [1] [0] [0]
  dot_S16x512x3_S16x2048x3_S16x512x2048_2_2_1_1_0_0_wf : DotDims.WF S16x512x3 S16x2048x3 S16x512x2048 [2] [2] [1] [1] [0] [0]
  dot_S16x256x3_S16x512x3_S16x256x512_2_2_1_1_0_0_wf : DotDims.WF S16x256x3 S16x512x3 S16x256x512 [2] [2] [1] [1] [0] [0]

variable [Facts]

variable {F : FTy → Type} [FloatOps F]
def dot_S64x6_S16x6x2048_S64x16x2048_1_1_0_02_n_n : DotDims S64x6 S16x6x2048 S64x16x2048 where
  lhsContracting := [1]
  rhsContracting := [1]
  lhsNonContracting := [0]
  rhsNonContracting := [0, 2]
  lhsBatch := []
  rhsBatch := []
  wf := dot_S64x6_S16x6x2048_S64x16x2048_1_1_0_02_n_n_wf
def dot_S16x2048x3_S16x2048x3_S16x2048x2048_2_2_1_1_0_0 : DotDims S16x2048x3 S16x2048x3 S16x2048x2048 where
  lhsContracting := [2]
  rhsContracting := [2]
  lhsNonContracting := [1]
  rhsNonContracting := [1]
  lhsBatch := [0]
  rhsBatch := [0]
  wf := dot_S16x2048x3_S16x2048x3_S16x2048x2048_2_2_1_1_0_0_wf
def comparator_f32_d2 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9
def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x512x3_S16x2048x3_S16x512x2048_2_2_1_1_0_0 : DotDims S16x512x3 S16x2048x3 S16x512x2048 where
  lhsContracting := [2]
  rhsContracting := [2]
  lhsNonContracting := [1]
  rhsNonContracting := [1]
  lhsBatch := [0]
  rhsBatch := [0]
  wf := dot_S16x512x3_S16x2048x3_S16x512x2048_2_2_1_1_0_0_wf
def dot_S16x256x3_S16x512x3_S16x256x512_2_2_1_1_0_0 : DotDims S16x256x3 S16x512x3 S16x256x512 where
  lhsContracting := [2]
  rhsContracting := [2]
  lhsNonContracting := [1]
  rhsNonContracting := [1]
  lhsBatch := [0]
  rhsBatch := [0]
  wf := dot_S16x256x3_S16x512x3_S16x256x512_2_2_1_1_0_0_wf

def fn_relu {F : FTy → Type} [FloatOps F] (arg0 : FVec F S16x64x2048 .f32) : FVec F S16x64x2048 .f32 :=
  let cst : FVec F S_ .f32 := constant S_ .f32 0x00000000#32
  let v0 : FVec F S16x64x2048 .f32 := broadcastInDim S16x64x2048 ![] bcast_S_S16x64x2048 cst
  let v1 : FVec F S16x64x2048 .f32 := maximumf arg0 v0
  v1

def fn_sort {F : FTy → Type} [FloatOps F] (arg0 : FVec F S16x2048x2048 .f32) : FVec F S16x2048x2048 .f32 :=
  let v0 : FVec F S16x2048x2048 .f32 := (fun x => Host.sort S16x2048x2048 2 comparator_f32_d2 x) arg0
  v0

def fn_sort_0 {F : FTy → Type} [FloatOps F] (arg0 : FVec F S16x512x2048 .f32) : FVec F S16x512x2048 .f32 :=
  let v0 : FVec F S16x512x2048 .f32 := (fun x => Host.sort S16x512x2048 2 comparator_f32_d2 x) arg0
  v0

def fn_sort_1 {F : FTy → Type} [FloatOps F] (arg0 : FVec F S16x256x512 .f32) : FVec F S16x256x512 .f32 :=
  let v0 : FVec F S16x256x512 .f32 := (fun x => Host.sort S16x256x512 2 comparator_f32_d2 x) arg0
  v0

def fn_part13 {F : FTy → Type} [FloatOps F] (main_v227 : IVec S_ 1) (main_v241 : FVec F S16x256x512 .f32) : IVec S_ 1 :=
  let main_v242 : FVec F S16x256x511 .f32 := (extractStridedSlice S16x256x511 ![0, 0, 1] · slices_S16x256x512_S16x256x511_0_0_1) main_v241
  let main_v243 : FVec F S16x256x511 .f32 := (extractStridedSlice S16x256x511 ![0, 0, 0] · slices_S16x256x512_S16x256x511_0_0_0) main_v241
  let main_v244 : IVec S16x256x511 1 := cmpf .ogt main_v242 main_v243
  let main_c_68 : IVec S_ 1 := constantI S_ 1 1#1
  let main_v245 : IVec S_ 1 := (fun x v => Host.reduce IntOp.andi x v reducesTo_S16x256x511_S_d0_1_2 h_S_) main_v244 main_c_68
  let main_v246 : IVec S_ 1 := andi main_v227 main_v245
  main_v246

def fn_part12 {F : FTy → Type} [FloatOps F] (main_arg17 : FVec F S16x512x3 .f32) (main_arg19 : FVec F S16x256x3 .f32) (main_v208 : IVec S_ 1) (main_v221 : FVec F S16x512x2048 .f32) : IVec S_ 1 :=
  let main_v222 : FVec F S16x512x2048 .f32 := fn_sort_0 (F := F) main_v221
  let main_v223 : FVec F S16x512x2047 .f32 := (extractStridedSlice S16x512x2047 ![0, 0, 1] · slices_S16x512x2048_S16x512x2047_0_0_1) main_v222
  let main_v224 : FVec F S16x512x2047 .f32 := (extractStridedSlice S16x512x2047 ![0, 0, 0] · slices_S16x512x2048_S16x512x2047_0_0_0) main_v222
  let main_v225 : IVec S16x512x2047 1 := cmpf .ogt main_v223 main_v224
  let main_c_64 : IVec S_ 1 := constantI S_ 1 1#1
  let main_v226 : IVec S_ 1 := (fun x v => Host.reduce IntOp.andi x v reducesTo_S16x512x2047_S_d0_1_2 h_S_) main_v225 main_c_64
  let main_v227 : IVec S_ 1 := andi main_v208 main_v226
  let main_v228 : FVec F S16x256x3 .f32 := mulf main_arg19 main_arg19
  let main_cst_65 : FVec F S_ .f32 := constant S_ .f32 0x00000000#32
  let main_v229 : FVec F S16x256 .f32 := (fun x v => Host.reduceAdd x v reducesTo_S16x256x3_S16x256_d2 h_S_) main_v228 main_cst_65
  let main_v230 : FVec F S16x256x1 .f32 := broadcastInDim S16x256x1 ![0, 1] bcast_S16x256_S16x256x1_0_1 main_v229
  let main_v231 : FVec F S16x256x512 .f32 := (fun l r => Host.dotGeneral dot_S16x256x3_S16x512x3_S16x256x512_2_2_1_1_0_0 none l r) main_arg19 main_arg17
  let main_cst_66 : FVec F S_ .f32 := constant S_ .f32 0x40000000#32
  let main_v232 : FVec F S16x256x512 .f32 := broadcastInDim S16x256x512 ![] bcast_S_S16x256x512 main_cst_66
  let main_v233 : FVec F S16x256x512 .f32 := mulf main_v232 main_v231
  let main_v234 : FVec F S16x256x512 .f32 := broadcastInDim S16x256x512 ![0, 1, 2] bcast_S16x256x1_S16x256x512_0_1_2 main_v230
  let main_v235 : FVec F S16x256x512 .f32 := subf main_v234 main_v233
  let main_v236 : FVec F S16x512x3 .f32 := mulf main_arg17 main_arg17
  let main_cst_67 : FVec F S_ .f32 := constant S_ .f32 0x00000000#32
  let main_v237 : FVec F S16x512 .f32 := (fun x v => Host.reduceAdd x v reducesTo_S16x512x3_S16x512_d2 h_S_) main_v236 main_cst_67
  let main_v238 : FVec F S16x1x512 .f32 := broadcastInDim S16x1x512 ![0, 2] bcast_S16x512_S16x1x512_0_2 main_v237
  let main_v239 : FVec F S16x256x512 .f32 := broadcastInDim S16x256x512 ![0, 1, 2] bcast_S16x1x512_S16x256x512_0_1_2 main_v238
  let main_v240 : FVec F S16x256x512 .f32 := addf main_v235 main_v239
  let main_v241 : FVec F S16x256x512 .f32 := fn_sort_1 (F := F) main_v240
  fn_part13 (F := F) main_v227 main_v241

def fn_part11 {F : FTy → Type} [FloatOps F] (main_arg17 : FVec F S16x512x3 .f32) (main_arg19 : FVec F S16x256x3 .f32) (main_v1 : FVec F S16x2048x3 .f32) (main_v189 : IVec S_ 1) (main_v197 : FVec F S16x2048x2048 .f32) (main_v201 : FVec F S16x2048x2048 .f32) : IVec S_ 1 :=
  let main_v202 : FVec F S16x2048x2048 .f32 := addf main_v197 main_v201
  let main_v203 : FVec F S16x2048x2048 .f32 := fn_sort (F := F) main_v202
  let main_v204 : FVec F S16x2048x2047 .f32 := (extractStridedSlice S16x2048x2047 ![0, 0, 1] · slices_S16x2048x2048_S16x2048x2047_0_0_1) main_v203
  let main_v205 : FVec F S16x2048x2047 .f32 := (extractStridedSlice S16x2048x2047 ![0, 0, 0] · slices_S16x2048x2048_S16x2048x2047_0_0_0) main_v203
  let main_v206 : IVec S16x2048x2047 1 := cmpf .ogt main_v204 main_v205
  let main_c_60 : IVec S_ 1 := constantI S_ 1 1#1
  let main_v207 : IVec S_ 1 := (fun x v => Host.reduce IntOp.andi x v reducesTo_S16x2048x2047_S_d0_1_2 h_S_) main_v206 main_c_60
  let main_v208 : IVec S_ 1 := andi main_v189 main_v207
  let main_v209 : FVec F S16x512x3 .f32 := mulf main_arg17 main_arg17
  let main_cst_61 : FVec F S_ .f32 := constant S_ .f32 0x00000000#32
  let main_v210 : FVec F S16x512 .f32 := (fun x v => Host.reduceAdd x v reducesTo_S16x512x3_S16x512_d2 h_S_) main_v209 main_cst_61
  let main_v211 : FVec F S16x512x1 .f32 := broadcastInDim S16x512x1 ![0, 1] bcast_S16x512_S16x512x1_0_1 main_v210
  let main_v212 : FVec F S16x512x2048 .f32 := (fun l r => Host.dotGeneral dot_S16x512x3_S16x2048x3_S16x512x2048_2_2_1_1_0_0 none l r) main_arg17 main_v1
  let main_cst_62 : FVec F S_ .f32 := constant S_ .f32 0x40000000#32
  let main_v213 : FVec F S16x512x2048 .f32 := broadcastInDim S16x512x2048 ![] bcast_S_S16x512x2048 main_cst_62
  let main_v214 : FVec F S16x512x2048 .f32 := mulf main_v213 main_v212
  let main_v215 : FVec F S16x512x2048 .f32 := broadcastInDim S16x512x2048 ![0, 1, 2] bcast_S16x512x1_S16x512x2048_0_1_2 main_v211
  let main_v216 : FVec F S16x512x2048 .f32 := subf main_v215 main_v214
  let main_v217 : FVec F S16x2048x3 .f32 := mulf main_v1 main_v1
  let main_cst_63 : FVec F S_ .f32 := constant S_ .f32 0x00000000#32
  let main_v218 : FVec F S16x2048 .f32 := (fun x v => Host.reduceAdd x v reducesTo_S16x2048x3_S16x2048_d2 h_S_) main_v217 main_cst_63
  let main_v219 : FVec F S16x1x2048 .f32 := broadcastInDim S16x1x2048 ![0, 2] bcast_S16x2048_S16x1x2048_0_2 main_v218
  let main_v220 : FVec F S16x512x2048 .f32 := broadcastInDim S16x512x2048 ![0, 1, 2] bcast_S16x1x2048_S16x512x2048_0_1_2 main_v219
  let main_v221 : FVec F S16x512x2048 .f32 := addf main_v216 main_v220
  fn_part12 (F := F) main_arg17 main_arg19 main_v208 main_v221

def fn_part10 {F : FTy → Type} [FloatOps F] (main_arg17 : FVec F S16x512x3 .f32) (main_arg19 : FVec F S16x256x3 .f32) (main_v1 : FVec F S16x2048x3 .f32) (main_v28 : FVec F S16x2048x64 .f32) (main_v170 : IVec S_ 1) (main_v178 : FVec F S16x2048x2048 .f32) (main_v181 : FVec F S16x1x2048 .f32) : IVec S_ 1 :=
  let main_v182 : FVec F S16x2048x2048 .f32 := broadcastInDim S16x2048x2048 ![0, 1, 2] bcast_S16x1x2048_S16x2048x2048_0_1_2 main_v181
  let main_v183 : FVec F S16x2048x2048 .f32 := addf main_v178 main_v182
  let main_v184 : FVec F S16x2048x2048 .f32 := fn_sort (F := F) main_v183
  let main_v185 : FVec F S16x2048x2047 .f32 := (extractStridedSlice S16x2048x2047 ![0, 0, 1] · slices_S16x2048x2048_S16x2048x2047_0_0_1) main_v184
  let main_v186 : FVec F S16x2048x2047 .f32 := (extractStridedSlice S16x2048x2047 ![0, 0, 0] · slices_S16x2048x2048_S16x2048x2047_0_0_0) main_v184
  let main_v187 : IVec S16x2048x2047 1 := cmpf .ogt main_v185 main_v186
  let main_c_56 : IVec S_ 1 := constantI S_ 1 1#1
  let main_v188 : IVec S_ 1 := (fun x v => Host.reduce IntOp.andi x v reducesTo_S16x2048x2047_S_d0_1_2 h_S_) main_v187 main_c_56
  let main_v189 : IVec S_ 1 := andi main_v170 main_v188
  let main_v190 : FVec F S16x2048x64 .f32 := mulf main_v28 main_v28
  let main_cst_57 : FVec F S_ .f32 := constant S_ .f32 0x00000000#32
  let main_v191 : FVec F S16x2048 .f32 := (fun x v => Host.reduceAdd x v reducesTo_S16x2048x64_S16x2048_d2 h_S_) main_v190 main_cst_57
  let main_v192 : FVec F S16x2048x1 .f32 := broadcastInDim S16x2048x1 ![0, 1] bcast_S16x2048_S16x2048x1_0_1 main_v191
  let main_v193 : FVec F S16x2048x2048 .f32 := (fun l r => Host.dotGeneral dot_S16x2048x64_S16x2048x64_S16x2048x2048_2_2_1_1_0_0 none l r) main_v28 main_v28
  let main_cst_58 : FVec F S_ .f32 := constant S_ .f32 0x40000000#32
  let main_v194 : FVec F S16x2048x2048 .f32 := broadcastInDim S16x2048x2048 ![] bcast_S_S16x2048x2048 main_cst_58
  let main_v195 : FVec F S16x2048x2048 .f32 := mulf main_v194 main_v193
  let main_v196 : FVec F S16x2048x2048 .f32 := broadcastInDim S16x2048x2048 ![0, 1, 2] bcast_S16x2048x1_S16x2048x2048_0_1_2 main_v192
  let main_v197 : FVec F S16x2048x2048 .f32 := subf main_v196 main_v195
  let main_v198 : FVec F S16x2048x64 .f32 := mulf main_v28 main_v28
  let main_cst_59 : FVec F S_ .f32 := constant S_ .f32 0x00000000#32
  let main_v199 : FVec F S16x2048 .f32 := (fun x v => Host.reduceAdd x v reducesTo_S16x2048x64_S16x2048_d2 h_S_) main_v198 main_cst_59
  let main_v200 : FVec F S16x1x2048 .f32 := broadcastInDim S16x1x2048 ![0, 2] bcast_S16x2048_S16x1x2048_0_2 main_v199
  let main_v201 : FVec F S16x2048x2048 .f32 := broadcastInDim S16x2048x2048 ![0, 1, 2] bcast_S16x1x2048_S16x2048x2048_0_1_2 main_v200
  fn_part11 (F := F) main_arg17 main_arg19 main_v1 main_v189 main_v197 main_v201

def fn_part9 {F : FTy → Type} [FloatOps F] (main_arg16 : FVec F S4x512 .f32) (main_arg17 : FVec F S16x512x3 .f32) (main_arg19 : FVec F S16x256x3 .f32) (main_v1 : FVec F S16x2048x3 .f32) (main_v28 : FVec F S16x2048x64 .f32) (main_v158 : IVec S_ 1) (main_v162 : IVec S256 1) (main_c_50 : IVec S_ 1) : IVec S_ 1 :=
  let main_v163 : IVec S_ 1 := (fun x v => Host.reduce IntOp.andi x v reducesTo_S256_S_d0 h_S_) main_v162 main_c_50
  let main_v164 : IVec S_ 1 := andi main_v158 main_v163
  let main_v165 : FVec F S1x512 .f32 := (extractStridedSlice S1x512 ![3, 0] · slices_S4x512_S1x512_3_0) main_arg16
  let main_v166 : FVec F S512 .f32 := shapeCast S512 main_v165 shapeCasts_S1x512_S512
  let main_cst_51 : FVec F S_ .f32 := constant S_ .f32 0x00000000#32
  let main_v167 : FVec F S512 .f32 := broadcastInDim S512 ![] bcast_S_S512 main_cst_51
  let main_v168 : IVec S512 1 := cmpf .oge main_v166 main_v167
  let main_c_52 : IVec S_ 1 := constantI S_ 1 1#1
  let main_v169 : IVec S_ 1 := (fun x v => Host.reduce IntOp.andi x v reducesTo_S512_S_d0 h_S_) main_v168 main_c_52
  let main_v170 : IVec S_ 1 := andi main_v164 main_v169
  let main_v171 : FVec F S16x2048x3 .f32 := mulf main_v1 main_v1
  let main_cst_53 : FVec F S_ .f32 := constant S_ .f32 0x00000000#32
  let main_v172 : FVec F S16x2048 .f32 := (fun x v => Host.reduceAdd x v reducesTo_S16x2048x3_S16x2048_d2 h_S_) main_v171 main_cst_53
  let main_v173 : FVec F S16x2048x1 .f32 := broadcastInDim S16x2048x1 ![0, 1] bcast_S16x2048_S16x2048x1_0_1 main_v172
  let main_v174 : FVec F S16x2048x2048 .f32 := (fun l r => Host.dotGeneral dot_S16x2048x3_S16x2048x3_S16x2048x2048_2_2_1_1_0_0 none l r) main_v1 main_v1
  let main_cst_54 : FVec F S_ .f32 := constant S_ .f32 0x40000000#32
  let main_v175 : FVec F S16x2048x2048 .f32 := broadcastInDim S16x2048x2048 ![] bcast_S_S16x2048x2048 main_cst_54
  let main_v176 : FVec F S16x2048x2048 .f32 := mulf main_v175 main_v174
  let main_v177 : FVec F S16x2048x2048 .f32 := broadcastInDim S16x2048x2048 ![0, 1, 2] bcast_S16x2048x1_S16x2048x2048_0_1_2 main_v173
  let main_v178 : FVec F S16x2048x2048 .f32 := subf main_v177 main_v176
  let main_v179 : FVec F S16x2048x3 .f32 := mulf main_v1 main_v1
  let main_cst_55 : FVec F S_ .f32 := constant S_ .f32 0x00000000#32
  let main_v180 : FVec F S16x2048 .f32 := (fun x v => Host.reduceAdd x v reducesTo_S16x2048x3_S16x2048_d2 h_S_) main_v179 main_cst_55
  let main_v181 : FVec F S16x1x2048 .f32 := broadcastInDim S16x1x2048 ![0, 2] bcast_S16x2048_S16x1x2048_0_2 main_v180
  fn_part10 (F := F) main_arg17 main_arg19 main_v1 main_v28 main_v170 main_v178 main_v181

def fn_part8 {F : FTy → Type} [FloatOps F] (main_arg10 : FVec F S4x64 .f32) (main_arg12 : FVec F S4x128 .f32) (main_arg14 : FVec F S4x256 .f32) (main_arg16 : FVec F S4x512 .f32) (main_arg17 : FVec F S16x512x3 .f32) (main_arg19 : FVec F S16x256x3 .f32) (main_v1 : FVec F S16x2048x3 .f32) (main_v28 : FVec F S16x2048x64 .f32) (main_v140 : IVec S_ 1) (main_v144 : IVec S64 1) (main_c_44 : IVec S_ 1) : IVec S_ 1 :=
  let main_v145 : IVec S_ 1 := (fun x v => Host.reduce IntOp.andi x v reducesTo_S64_S_d0 h_S_) main_v144 main_c_44
  let main_v146 : IVec S_ 1 := andi main_v140 main_v145
  let main_v147 : FVec F S1x64 .f32 := (extractStridedSlice S1x64 ![3, 0] · slices_S4x64_S1x64_3_0) main_arg10
  let main_v148 : FVec F S64 .f32 := shapeCast S64 main_v147 shapeCasts_S1x64_S64
  let main_cst_45 : FVec F S_ .f32 := constant S_ .f32 0x00000000#32
  let main_v149 : FVec F S64 .f32 := broadcastInDim S64 ![] bcast_S_S64 main_cst_45
  let main_v150 : IVec S64 1 := cmpf .oge main_v148 main_v149
  let main_c_46 : IVec S_ 1 := constantI S_ 1 1#1
  let main_v151 : IVec S_ 1 := (fun x v => Host.reduce IntOp.andi x v reducesTo_S64_S_d0 h_S_) main_v150 main_c_46
  let main_v152 : IVec S_ 1 := andi main_v146 main_v151
  let main_v153 : FVec F S1x128 .f32 := (extractStridedSlice S1x128 ![3, 0] · slices_S4x128_S1x128_3_0) main_arg12
  let main_v154 : FVec F S128 .f32 := shapeCast S128 main_v153 shapeCasts_S1x128_S128
  let main_cst_47 : FVec F S_ .f32 := constant S_ .f32 0x00000000#32
  let main_v155 : FVec F S128 .f32 := broadcastInDim S128 ![] bcast_S_S128 main_cst_47
  let main_v156 : IVec S128 1 := cmpf .oge main_v154 main_v155
  let main_c_48 : IVec S_ 1 := constantI S_ 1 1#1
  let main_v157 : IVec S_ 1 := (fun x v => Host.reduce IntOp.andi x v reducesTo_S128_S_d0 h_S_) main_v156 main_c_48
  let main_v158 : IVec S_ 1 := andi main_v152 main_v157
  let main_v159 : FVec F S1x256 .f32 := (extractStridedSlice S1x256 ![3, 0] · slices_S4x256_S1x256_3_0) main_arg14
  let main_v160 : FVec F S256 .f32 := shapeCast S256 main_v159 shapeCasts_S1x256_S256
  let main_cst_49 : FVec F S_ .f32 := constant S_ .f32 0x00000000#32
  let main_v161 : FVec F S256 .f32 := broadcastInDim S256 ![] bcast_S_S256 main_cst_49
  let main_v162 : IVec S256 1 := cmpf .oge main_v160 main_v161
  let main_c_50 : IVec S_ 1 := constantI S_ 1 1#1
  fn_part9 (F := F) main_arg16 main_arg17 main_arg19 main_v1 main_v28 main_v158 main_v162 main_c_50

def fn_part7 {F : FTy → Type} [FloatOps F] (main_arg4 : FVec F S4x1024 .f32) (main_arg6 : FVec F S4x64 .f32) (main_arg8 : FVec F S4x64 .f32) (main_arg10 : FVec F S4x64 .f32) (main_arg12 : FVec F S4x128 .f32) (main_arg14 : FVec F S4x256 .f32) (main_arg16 : FVec F S4x512 .f32) (main_arg17 : FVec F S16x512x3 .f32) (main_arg19 : FVec F S16x256x3 .f32) (main_v1 : FVec F S16x2048x3 .f32) (main_v28 : FVec F S16x2048x64 .f32) (main_v122 : IVec S_ 1) (main_v126 : IVec S64 1) (main_c_38 : IVec S_ 1) : IVec S_ 1 :=
  let main_v127 : IVec S_ 1 := (fun x v => Host.reduce IntOp.andi x v reducesTo_S64_S_d0 h_S_) main_v126 main_c_38
  let main_v128 : IVec S_ 1 := andi main_v122 main_v127
  let main_v129 : FVec F S1x1024 .f32 := (extractStridedSlice S1x1024 ![3, 0] · slices_S4x1024_S1x1024_3_0) main_arg4
  let main_v130 : FVec F S1024 .f32 := shapeCast S1024 main_v129 shapeCasts_S1x1024_S1024
  let main_cst_39 : FVec F S_ .f32 := constant S_ .f32 0x00000000#32
  let main_v131 : FVec F S1024 .f32 := broadcastInDim S1024 ![] bcast_S_S1024 main_cst_39
  let main_v132 : IVec S1024 1 := cmpf .oge main_v130 main_v131
  let main_c_40 : IVec S_ 1 := constantI S_ 1 1#1
  let main_v133 : IVec S_ 1 := (fun x v => Host.reduce IntOp.andi x v reducesTo_S1024_S_d0 h_S_) main_v132 main_c_40
  let main_v134 : IVec S_ 1 := andi main_v128 main_v133
  let main_v135 : FVec F S1x64 .f32 := (extractStridedSlice S1x64 ![3, 0] · slices_S4x64_S1x64_3_0) main_arg6
  let main_v136 : FVec F S64 .f32 := shapeCast S64 main_v135 shapeCasts_S1x64_S64
  let main_cst_41 : FVec F S_ .f32 := constant S_ .f32 0x00000000#32
  let main_v137 : FVec F S64 .f32 := broadcastInDim S64 ![] bcast_S_S64 main_cst_41
  let main_v138 : IVec S64 1 := cmpf .oge main_v136 main_v137
  let main_c_42 : IVec S_ 1 := constantI S_ 1 1#1
  let main_v139 : IVec S_ 1 := (fun x v => Host.reduce IntOp.andi x v reducesTo_S64_S_d0 h_S_) main_v138 main_c_42
  let main_v140 : IVec S_ 1 := andi main_v134 main_v139
  let main_v141 : FVec F S1x64 .f32 := (extractStridedSlice S1x64 ![3, 0] · slices_S4x64_S1x64_3_0) main_arg8
  let main_v142 : FVec F S64 .f32 := shapeCast S64 main_v141 shapeCasts_S1x64_S64
  let main_cst_43 : FVec F S_ .f32 := constant S_ .f32 0x00000000#32
  let main_v143 : FVec F S64 .f32 := broadcastInDim S64 ![] bcast_S_S64 main_cst_43
  let main_v144 : IVec S64 1 := cmpf .oge main_v142 main_v143
  let main_c_44 : IVec S_ 1 := constantI S_ 1 1#1
  fn_part8 (F := F) main_arg10 main_arg12 main_arg14 main_arg16 main_arg17 main_arg19 main_v1 main_v28 main_v140 main_v144 main_c_44

def fn_part6 {F : FTy → Type} [FloatOps F] (main_arg2 : FVec F S4x64 .f32) (main_arg4 : FVec F S4x1024 .f32) (main_arg6 : FVec F S4x64 .f32) (main_arg8 : FVec F S4x64 .f32) (main_arg10 : FVec F S4x64 .f32) (main_arg12 : FVec F S4x128 .f32) (main_arg14 : FVec F S4x256 .f32) (main_arg16 : FVec F S4x512 .f32) (main_arg17 : FVec F S16x512x3 .f32) (main_arg19 : FVec F S16x256x3 .f32) (main_v1 : FVec F S16x2048x3 .f32) (main_v28 : FVec F S16x2048x64 .f32) (main_v107 : IVec S_ 1) (main_v108 : FVec F S4x512 .f32) (main_v109 : FVec F S4x512 .f32) : IVec S_ 1 :=
  let main_v110 : IVec S4x512 1 := cmpf .olt main_v108 main_v109
  let main_c_32 : IVec S_ 1 := constantI S_ 1 1#1
  let main_v111 : IVec S_ 1 := (fun x v => Host.reduce IntOp.andi x v reducesTo_S4x512_S_d0_1 h_S_) main_v110 main_c_32
  let main_v112 : IVec S_ 1 := andi main_v107 main_v111
  let main_v113 : FVec F S16x512x3 .f32 := Host.absf main_arg17
  let main_cst_33 : FVec F S_ .f32 := constant S_ .f32 0x7F800000#32
  let main_v114 : FVec F S16x512x3 .f32 := broadcastInDim S16x512x3 ![] bcast_S_S16x512x3 main_cst_33
  let main_v115 : IVec S16x512x3 1 := cmpf .olt main_v113 main_v114
  let main_c_34 : IVec S_ 1 := constantI S_ 1 1#1
  let main_v116 : IVec S_ 1 := (fun x v => Host.reduce IntOp.andi x v reducesTo_S16x512x3_S_d0_1_2 h_S_) main_v115 main_c_34
  let main_v117 : IVec S_ 1 := andi main_v112 main_v116
  let main_v118 : FVec F S16x256x3 .f32 := Host.absf main_arg19
  let main_cst_35 : FVec F S_ .f32 := constant S_ .f32 0x7F800000#32
  let main_v119 : FVec F S16x256x3 .f32 := broadcastInDim S16x256x3 ![] bcast_S_S16x256x3 main_cst_35
  let main_v120 : IVec S16x256x3 1 := cmpf .olt main_v118 main_v119
  let main_c_36 : IVec S_ 1 := constantI S_ 1 1#1
  let main_v121 : IVec S_ 1 := (fun x v => Host.reduce IntOp.andi x v reducesTo_S16x256x3_S_d0_1_2 h_S_) main_v120 main_c_36
  let main_v122 : IVec S_ 1 := andi main_v117 main_v121
  let main_v123 : FVec F S1x64 .f32 := (extractStridedSlice S1x64 ![3, 0] · slices_S4x64_S1x64_3_0) main_arg2
  let main_v124 : FVec F S64 .f32 := shapeCast S64 main_v123 shapeCasts_S1x64_S64
  let main_cst_37 : FVec F S_ .f32 := constant S_ .f32 0x00000000#32
  let main_v125 : FVec F S64 .f32 := broadcastInDim S64 ![] bcast_S_S64 main_cst_37
  let main_v126 : IVec S64 1 := cmpf .oge main_v124 main_v125
  let main_c_38 : IVec S_ 1 := constantI S_ 1 1#1
  fn_part7 (F := F) main_arg4 main_arg6 main_arg8 main_arg10 main_arg12 main_arg14 main_arg16 main_arg17 main_arg19 main_v1 main_v28 main_v122 main_v126 main_c_38

def fn_part5 {F : FTy → Type} [FloatOps F] (main_arg2 : FVec F S4x64 .f32) (main_arg4 : FVec F S4x1024 .f32) (main_arg6 : FVec F S4x64 .f32) (main_arg8 : FVec F S4x64 .f32) (main_arg10 : FVec F S4x64 .f32) (main_arg12 : FVec F S4x128 .f32) (main_arg13 : FVec F S256x256 .f32) (main_arg14 : FVec F S4x256 .f32) (main_arg15 : FVec F S512x1280 .f32) (main_arg16 : FVec F S4x512 .f32) (main_arg17 : FVec F S16x512x3 .f32) (main_arg19 : FVec F S16x256x3 .f32) (main_v1 : FVec F S16x2048x3 .f32) (main_v28 : FVec F S16x2048x64 .f32) (main_v92 : IVec S_ 1) : IVec S_ 1 :=
  let main_v93 : FVec F S256x256 .f32 := Host.absf main_arg13
  let main_cst_25 : FVec F S_ .f32 := constant S_ .f32 0x7F800000#32
  let main_v94 : FVec F S256x256 .f32 := broadcastInDim S256x256 ![] bcast_S_S256x256 main_cst_25
  let main_v95 : IVec S256x256 1 := cmpf .olt main_v93 main_v94
  let main_c_26 : IVec S_ 1 := constantI S_ 1 1#1
  let main_v96 : IVec S_ 1 := (fun x v => Host.reduce IntOp.andi x v reducesTo_S256x256_S_d0_1 h_S_) main_v95 main_c_26
  let main_v97 : IVec S_ 1 := andi main_v92 main_v96
  let main_v98 : FVec F S4x256 .f32 := Host.absf main_arg14
  let main_cst_27 : FVec F S_ .f32 := constant S_ .f32 0x7F800000#32
  let main_v99 : FVec F S4x256 .f32 := broadcastInDim S4x256 ![] bcast_S_S4x256 main_cst_27
  let main_v100 : IVec S4x256 1 := cmpf .olt main_v98 main_v99
  let main_c_28 : IVec S_ 1 := constantI S_ 1 1#1
  let main_v101 : IVec S_ 1 := (fun x v => Host.reduce IntOp.andi x v reducesTo_S4x256_S_d0_1 h_S_) main_v100 main_c_28
  let main_v102 : IVec S_ 1 := andi main_v97 main_v101
  let main_v103 : FVec F S512x1280 .f32 := Host.absf main_arg15
  let main_cst_29 : FVec F S_ .f32 := constant S_ .f32 0x7F800000#32
  let main_v104 : FVec F S512x1280 .f32 := broadcastInDim S512x1280 ![] bcast_S_S512x1280 main_cst_29
  let main_v105 : IVec S512x1280 1 := cmpf .olt main_v103 main_v104
  let main_c_30 : IVec S_ 1 := constantI S_ 1 1#1
  let main_v106 : IVec S_ 1 := (fun x v => Host.reduce IntOp.andi x v reducesTo_S512x1280_S_d0_1 h_S_) main_v105 main_c_30
  let main_v107 : IVec S_ 1 := andi main_v102 main_v106
  let main_v108 : FVec F S4x512 .f32 := Host.absf main_arg16
  let main_cst_31 : FVec F S_ .f32 := constant S_ .f32 0x7F800000#32
  let main_v109 : FVec F S4x512 .f32 := broadcastInDim S4x512 ![] bcast_S_S4x512 main_cst_31
  fn_part6 (F := F) main_arg2 main_arg4 main_arg6 main_arg8 main_arg10 main_arg12 main_arg14 main_arg16 main_arg17 main_arg19 main_v1 main_v28 main_v107 main_v108 main_v109

def fn_part4 {F : FTy → Type} [FloatOps F] (main_arg2 : FVec F S4x64 .f32) (main_arg4 : FVec F S4x1024 .f32) (main_arg6 : FVec F S4x64 .f32) (main_arg8 : FVec F S4x64 .f32) (main_arg10 : FVec F S4x64 .f32) (main_arg11 : FVec F S128x128 .f32) (main_arg12 : FVec F S4x128 .f32) (main_arg13 : FVec F S256x256 .f32) (main_arg14 : FVec F S4x256 .f32) (main_arg15 : FVec F S512x1280 .f32) (main_arg16 : FVec F S4x512 .f32) (main_arg17 : FVec F S16x512x3 .f32) (main_arg19 : FVec F S16x256x3 .f32) (main_v1 : FVec F S16x2048x3 .f32) (main_v28 : FVec F S16x2048x64 .f32) (main_v72 : IVec S_ 1) (main_v75 : IVec S64x128 1) : IVec S_ 1 :=
  let main_c_18 : IVec S_ 1 := constantI S_ 1 1#1
  let main_v76 : IVec S_ 1 := (fun x v => Host.reduce IntOp.andi x v reducesTo_S64x128_S_d0_1 h_S_) main_v75 main_c_18
  let main_v77 : IVec S_ 1 := andi main_v72 main_v76
  let main_v78 : FVec F S4x64 .f32 := Host.absf main_arg10
  let main_cst_19 : FVec F S_ .f32 := constant S_ .f32 0x7F800000#32
  let main_v79 : FVec F S4x64 .f32 := broadcastInDim S4x64 ![] bcast_S_S4x64 main_cst_19
  let main_v80 : IVec S4x64 1 := cmpf .olt main_v78 main_v79
  let main_c_20 : IVec S_ 1 := constantI S_ 1 1#1
  let main_v81 : IVec S_ 1 := (fun x v => Host.reduce IntOp.andi x v reducesTo_S4x64_S_d0_1 h_S_) main_v80 main_c_20
  let main_v82 : IVec S_ 1 := andi main_v77 main_v81
  let main_v83 : FVec F S128x128 .f32 := Host.absf main_arg11
  let main_cst_21 : FVec F S_ .f32 := constant S_ .f32 0x7F800000#32
  let main_v84 : FVec F S128x128 .f32 := broadcastInDim S128x128 ![] bcast_S_S128x128 main_cst_21
  let main_v85 : IVec S128x128 1 := cmpf .olt main_v83 main_v84
  let main_c_22 : IVec S_ 1 := constantI S_ 1 1#1
  let main_v86 : IVec S_ 1 := (fun x v => Host.reduce IntOp.andi x v reducesTo_S128x128_S_d0_1 h_S_) main_v85 main_c_22
  let main_v87 : IVec S_ 1 := andi main_v82 main_v86
  let main_v88 : FVec F S4x128 .f32 := Host.absf main_arg12
  let main_cst_23 : FVec F S_ .f32 := constant S_ .f32 0x7F800000#32
  let main_v89 : FVec F S4x128 .f32 := broadcastInDim S4x128 ![] bcast_S_S4x128 main_cst_23
  let main_v90 : IVec S4x128 1 := cmpf .olt main_v88 main_v89
  let main_c_24 : IVec S_ 1 := constantI S_ 1 1#1
  let main_v91 : IVec S_ 1 := (fun x v => Host.reduce IntOp.andi x v reducesTo_S4x128_S_d0_1 h_S_) main_v90 main_c_24
  let main_v92 : IVec S_ 1 := andi main_v87 main_v91
  fn_part5 (F := F) main_arg2 main_arg4 main_arg6 main_arg8 main_arg10 main_arg12 main_arg13 main_arg14 main_arg15 main_arg16 main_arg17 main_arg19 main_v1 main_v28 main_v92

def fn_part3 {F : FTy → Type} [FloatOps F] (main_arg2 : FVec F S4x64 .f32) (main_arg4 : FVec F S4x1024 .f32) (main_arg6 : FVec F S4x64 .f32) (main_arg7 : FVec F S64x128 .f32) (main_arg8 : FVec F S4x64 .f32) (main_arg9 : FVec F S64x128 .f32) (main_arg10 : FVec F S4x64 .f32) (main_arg11 : FVec F S128x128 .f32) (main_arg12 : FVec F S4x128 .f32) (main_arg13 : FVec F S256x256 .f32) (main_arg14 : FVec F S4x256 .f32) (main_arg15 : FVec F S512x1280 .f32) (main_arg16 : FVec F S4x512 .f32) (main_arg17 : FVec F S16x512x3 .f32) (main_arg19 : FVec F S16x256x3 .f32) (main_v1 : FVec F S16x2048x3 .f32) (main_v28 : FVec F S16x2048x64 .f32) (main_v57 : IVec S_ 1) (main_v58 : FVec F S4x64 .f32) : IVec S_ 1 :=
  let main_cst_11 : FVec F S_ .f32 := constant S_ .f32 0x7F800000#32
  let main_v59 : FVec F S4x64 .f32 := broadcastInDim S4x64 ![] bcast_S_S4x64 main_cst_11
  let main_v60 : IVec S4x64 1 := cmpf .olt main_v58 main_v59
  let main_c_12 : IVec S_ 1 := constantI S_ 1 1#1
  let main_v61 : IVec S_ 1 := (fun x v => Host.reduce IntOp.andi x v reducesTo_S4x64_S_d0_1 h_S_) main_v60 main_c_12
  let main_v62 : IVec S_ 1 := andi main_v57 main_v61
  let main_v63 : FVec F S64x128 .f32 := Host.absf main_arg7
  let main_cst_13 : FVec F S_ .f32 := constant S_ .f32 0x7F800000#32
  let main_v64 : FVec F S64x128 .f32 := broadcastInDim S64x128 ![] bcast_S_S64x128 main_cst_13
  let main_v65 : IVec S64x128 1 := cmpf .olt main_v63 main_v64
  let main_c_14 : IVec S_ 1 := constantI S_ 1 1#1
  let main_v66 : IVec S_ 1 := (fun x v => Host.reduce IntOp.andi x v reducesTo_S64x128_S_d0_1 h_S_) main_v65 main_c_14
  let main_v67 : IVec S_ 1 := andi main_v62 main_v66
  let main_v68 : FVec F S4x64 .f32 := Host.absf main_arg8
  let main_cst_15 : FVec F S_ .f32 := constant S_ .f32 0x7F800000#32
  let main_v69 : FVec F S4x64 .f32 := broadcastInDim S4x64 ![] bcast_S_S4x64 main_cst_15
  let main_v70 : IVec S4x64 1 := cmpf .olt main_v68 main_v69
  let main_c_16 : IVec S_ 1 := constantI S_ 1 1#1
  let main_v71 : IVec S_ 1 := (fun x v => Host.reduce IntOp.andi x v reducesTo_S4x64_S_d0_1 h_S_) main_v70 main_c_16
  let main_v72 : IVec S_ 1 := andi main_v67 main_v71
  let main_v73 : FVec F S64x128 .f32 := Host.absf main_arg9
  let main_cst_17 : FVec F S_ .f32 := constant S_ .f32 0x7F800000#32
  let main_v74 : FVec F S64x128 .f32 := broadcastInDim S64x128 ![] bcast_S_S64x128 main_cst_17
  let main_v75 : IVec S64x128 1 := cmpf .olt main_v73 main_v74
  fn_part4 (F := F) main_arg2 main_arg4 main_arg6 main_arg8 main_arg10 main_arg11 main_arg12 main_arg13 main_arg14 main_arg15 main_arg16 main_arg17 main_arg19 main_v1 main_v28 main_v72 main_v75

def fn_part2 {F : FTy → Type} [FloatOps F] (main_arg2 : FVec F S4x64 .f32) (main_arg3 : FVec F S1024x64 .f32) (main_arg4 : FVec F S4x1024 .f32) (main_arg5 : FVec F S64x128 .f32) (main_arg6 : FVec F S4x64 .f32) (main_arg7 : FVec F S64x128 .f32) (main_arg8 : FVec F S4x64 .f32) (main_arg9 : FVec F S64x128 .f32) (main_arg10 : FVec F S4x64 .f32) (main_arg11 : FVec F S128x128 .f32) (main_arg12 : FVec F S4x128 .f32) (main_arg13 : FVec F S256x256 .f32) (main_arg14 : FVec F S4x256 .f32) (main_arg15 : FVec F S512x1280 .f32) (main_arg16 : FVec F S4x512 .f32) (main_arg17 : FVec F S16x512x3 .f32) (main_arg19 : FVec F S16x256x3 .f32) (main_v1 : FVec F S16x2048x3 .f32) (main_v28 : FVec F S16x2048x64 .f32) (main_v37 : IVec S_ 1) (main_v40 : IVec S4x64 1) (main_c_4 : IVec S_ 1) : IVec S_ 1 :=
  let main_v41 : IVec S_ 1 := (fun x v => Host.reduce IntOp.andi x v reducesTo_S4x64_S_d0_1 h_S_) main_v40 main_c_4
  let main_v42 : IVec S_ 1 := andi main_v37 main_v41
  let main_v43 : FVec F S1024x64 .f32 := Host.absf main_arg3
  let main_cst_5 : FVec F S_ .f32 := constant S_ .f32 0x7F800000#32
  let main_v44 : FVec F S1024x64 .f32 := broadcastInDim S1024x64 ![] bcast_S_S1024x64 main_cst_5
  let main_v45 : IVec S1024x64 1 := cmpf .olt main_v43 main_v44
  let main_c_6 : IVec S_ 1 := constantI S_ 1 1#1
  let main_v46 : IVec S_ 1 := (fun x v => Host.reduce IntOp.andi x v reducesTo_S1024x64_S_d0_1 h_S_) main_v45 main_c_6
  let main_v47 : IVec S_ 1 := andi main_v42 main_v46
  let main_v48 : FVec F S4x1024 .f32 := Host.absf main_arg4
  let main_cst_7 : FVec F S_ .f32 := constant S_ .f32 0x7F800000#32
  let main_v49 : FVec F S4x1024 .f32 := broadcastInDim S4x1024 ![] bcast_S_S4x1024 main_cst_7
  let main_v50 : IVec S4x1024 1 := cmpf .olt main_v48 main_v49
  let main_c_8 : IVec S_ 1 := constantI S_ 1 1#1
  let main_v51 : IVec S_ 1 := (fun x v => Host.reduce IntOp.andi x v reducesTo_S4x1024_S_d0_1 h_S_) main_v50 main_c_8
  let main_v52 : IVec S_ 1 := andi main_v47 main_v51
  let main_v53 : FVec F S64x128 .f32 := Host.absf main_arg5
  let main_cst_9 : FVec F S_ .f32 := constant S_ .f32 0x7F800000#32
  let main_v54 : FVec F S64x128 .f32 := broadcastInDim S64x128 ![] bcast_S_S64x128 main_cst_9
  let main_v55 : IVec S64x128 1 := cmpf .olt main_v53 main_v54
  let main_c_10 : IVec S_ 1 := constantI S_ 1 1#1
  let main_v56 : IVec S_ 1 := (fun x v => Host.reduce IntOp.andi x v reducesTo_S64x128_S_d0_1 h_S_) main_v55 main_c_10
  let main_v57 : IVec S_ 1 := andi main_v52 main_v56
  let main_v58 : FVec F S4x64 .f32 := Host.absf main_arg6
  fn_part3 (F := F) main_arg2 main_arg4 main_arg6 main_arg7 main_arg8 main_arg9 main_arg10 main_arg11 main_arg12 main_arg13 main_arg14 main_arg15 main_arg16 main_arg17 main_arg19 main_v1 main_v28 main_v57 main_v58

def fn_part1 {F : FTy → Type} [FloatOps F] (main_arg0 : FVec F S16x6x2048 .f32) (main_arg1 : FVec F S64x6 .f32) (main_arg2 : FVec F S4x64 .f32) (main_arg3 : FVec F S1024x64 .f32) (main_arg4 : FVec F S4x1024 .f32) (main_arg5 : FVec F S64x128 .f32) (main_arg6 : FVec F S4x64 .f32) (main_arg7 : FVec F S64x128 .f32) (main_arg8 : FVec F S4x64 .f32) (main_arg9 : FVec F S64x128 .f32) (main_arg10 : FVec F S4x64 .f32) (main_arg11 : FVec F S128x128 .f32) (main_arg12 : FVec F S4x128 .f32) (main_arg13 : FVec F S256x256 .f32) (main_arg14 : FVec F S4x256 .f32) (main_arg15 : FVec F S512x1280 .f32) (main_arg16 : FVec F S4x512 .f32) (main_arg17 : FVec F S16x512x3 .f32) (main_arg19 : FVec F S16x256x3 .f32) (main_v1 : FVec F S16x2048x3 .f32) (main_v13 : FVec F S1x64x1 .f32) (main_v19 : FVec F S16x64x2048 .f32) (main_v22 : FVec F S1x64x1 .f32) : IVec S_ 1 :=
  let main_v23 : FVec F S16x64x2048 .f32 := broadcastInDim S16x64x2048 ![0, 1, 2] bcast_S1x64x1_S16x64x2048_0_1_2 main_v22
  let main_v24 : FVec F S16x64x2048 .f32 := mulf main_v19 main_v23
  let main_v25 : FVec F S16x64x2048 .f32 := broadcastInDim S16x64x2048 ![0, 1, 2] bcast_S1x64x1_S16x64x2048_0_1_2 main_v13
  let main_v26 : FVec F S16x64x2048 .f32 := addf main_v24 main_v25
  let main_v27 : FVec F S16x64x2048 .f32 := fn_relu (F := F) main_v26
  let main_v28 : FVec F S16x2048x64 .f32 := (transpose S16x2048x64 [0, 2, 1] · transposes_S16x64x2048_S16x2048x64_0_2_1) main_v27
  let main_v29 : FVec F S16x6x2048 .f32 := Host.absf main_arg0
  let main_cst_0 : FVec F S_ .f32 := constant S_ .f32 0x7F800000#32
  let main_v30 : FVec F S16x6x2048 .f32 := broadcastInDim S16x6x2048 ![] bcast_S_S16x6x2048 main_cst_0
  let main_v31 : IVec S16x6x2048 1 := cmpf .olt main_v29 main_v30
  let main_c : IVec S_ 1 := constantI S_ 1 1#1
  let main_v32 : IVec S_ 1 := (fun x v => Host.reduce IntOp.andi x v reducesTo_S16x6x2048_S_d0_1_2 h_S_) main_v31 main_c
  let main_v33 : FVec F S64x6 .f32 := Host.absf main_arg1
  let main_cst_1 : FVec F S_ .f32 := constant S_ .f32 0x7F800000#32
  let main_v34 : FVec F S64x6 .f32 := broadcastInDim S64x6 ![] bcast_S_S64x6 main_cst_1
  let main_v35 : IVec S64x6 1 := cmpf .olt main_v33 main_v34
  let main_c_2 : IVec S_ 1 := constantI S_ 1 1#1
  let main_v36 : IVec S_ 1 := (fun x v => Host.reduce IntOp.andi x v reducesTo_S64x6_S_d0_1 h_S_) main_v35 main_c_2
  let main_v37 : IVec S_ 1 := andi main_v32 main_v36
  let main_v38 : FVec F S4x64 .f32 := Host.absf main_arg2
  let main_cst_3 : FVec F S_ .f32 := constant S_ .f32 0x7F800000#32
  let main_v39 : FVec F S4x64 .f32 := broadcastInDim S4x64 ![] bcast_S_S4x64 main_cst_3
  let main_v40 : IVec S4x64 1 := cmpf .olt main_v38 main_v39
  let main_c_4 : IVec S_ 1 := constantI S_ 1 1#1
  fn_part2 (F := F) main_arg2 main_arg3 main_arg4 main_arg5 main_arg6 main_arg7 main_arg8 main_arg9 main_arg10 main_arg11 main_arg12 main_arg13 main_arg14 main_arg15 main_arg16 main_arg17 main_arg19 main_v1 main_v28 main_v37 main_v40 main_c_4

def fn {F : FTy → Type} [FloatOps F] (main_arg0 : FVec F S16x6x2048 .f32) (main_arg1 : FVec F S64x6 .f32) (main_arg2 : FVec F S4x64 .f32) (main_arg3 : FVec F S1024x64 .f32) (main_arg4 : FVec F S4x1024 .f32) (main_arg5 : FVec F S64x128 .f32) (main_arg6 : FVec F S4x64 .f32) (main_arg7 : FVec F S64x128 .f32) (main_arg8 : FVec F S4x64 .f32) (main_arg9 : FVec F S64x128 .f32) (main_arg10 : FVec F S4x64 .f32) (main_arg11 : FVec F S128x128 .f32) (main_arg12 : FVec F S4x128 .f32) (main_arg13 : FVec F S256x256 .f32) (main_arg14 : FVec F S4x256 .f32) (main_arg15 : FVec F S512x1280 .f32) (main_arg16 : FVec F S4x512 .f32) (main_arg17 : FVec F S16x512x3 .f32) (main_arg18 : IVec S16x512 32) (main_arg19 : FVec F S16x256x3 .f32) (main_arg20 : IVec S16x256 32) : IVec S_ 1 :=
  let main_v0 : FVec F S16x3x2048 .f32 := (extractStridedSlice S16x3x2048 ![0, 0, 0] · slices_S16x6x2048_S16x3x2048_0_0_0) main_arg0
  let main_v1 : FVec F S16x2048x3 .f32 := (transpose S16x2048x3 [0, 2, 1] · transposes_S16x3x2048_S16x2048x3_0_2_1) main_v0
  let main_v2 : FVec F S64x16x2048 .f32 := (fun l r => Host.dotGeneral dot_S64x6_S16x6x2048_S64x16x2048_1_1_0_02_n_n none l r) main_arg1 main_arg0
  let main_v3 : FVec F S16x64x2048 .f32 := (transpose S16x64x2048 [1, 0, 2] · transposes_S64x16x2048_S16x64x2048_1_0_2) main_v2
  let main_v4 : FVec F S1x64 .f32 := (extractStridedSlice S1x64 ![0, 0] · slices_S4x64_S1x64_0_0) main_arg2
  let main_v5 : FVec F S64 .f32 := shapeCast S64 main_v4 shapeCasts_S1x64_S64
  let main_v6 : FVec F S1x64 .f32 := (extractStridedSlice S1x64 ![1, 0] · slices_S4x64_S1x64_1_0) main_arg2
  let main_v7 : FVec F S64 .f32 := shapeCast S64 main_v6 shapeCasts_S1x64_S64
  let main_v8 : FVec F S1x64 .f32 := (extractStridedSlice S1x64 ![2, 0] · slices_S4x64_S1x64_2_0) main_arg2
  let main_v9 : FVec F S64 .f32 := shapeCast S64 main_v8 shapeCasts_S1x64_S64
  let main_v10 : FVec F S1x64 .f32 := (extractStridedSlice S1x64 ![3, 0] · slices_S4x64_S1x64_3_0) main_arg2
  let main_v11 : FVec F S64 .f32 := shapeCast S64 main_v10 shapeCasts_S1x64_S64
  let main_v12 : FVec F S1x64x1 .f32 := shapeCast S1x64x1 main_v5 shapeCasts_S64_S1x64x1
  let main_v13 : FVec F S1x64x1 .f32 := shapeCast S1x64x1 main_v7 shapeCasts_S64_S1x64x1
  let main_v14 : FVec F S1x64x1 .f32 := shapeCast S1x64x1 main_v9 shapeCasts_S64_S1x64x1
  let main_v15 : FVec F S1x64x1 .f32 := shapeCast S1x64x1 main_v11 shapeCasts_S64_S1x64x1
  let main_v16 : FVec F S16x64x2048 .f32 := broadcastInDim S16x64x2048 ![0, 1, 2] bcast_S1x64x1_S16x64x2048_0_1_2 main_v14
  let main_v17 : FVec F S16x64x2048 .f32 := subf main_v3 main_v16
  let main_v18 : FVec F S16x64x2048 .f32 := broadcastInDim S16x64x2048 ![0, 1, 2] bcast_S1x64x1_S16x64x2048_0_1_2 main_v12
  let main_v19 : FVec F S16x64x2048 .f32 := mulf main_v17 main_v18
  let main_cst : FVec F S_ .f32 := constant S_ .f32 0x3727C5AC#32
  let main_v20 : FVec F S1x64x1 .f32 := broadcastInDim S1x64x1 ![] bcast_S_S1x64x1 main_cst
  let main_v21 : FVec F S1x64x1 .f32 := addf main_v15 main_v20
  let main_v22 : FVec F S1x64x1 .f32 := Host.rsqrt main_v21
  fn_part1 (F := F) main_arg0 main_arg1 main_arg2 main_arg3 main_arg4 main_arg5 main_arg6 main_arg7 main_arg8 main_arg9 main_arg10 main_arg11 main_arg12 main_arg13 main_arg14 main_arg15 main_arg16 main_arg17 main_arg19 main_v1 main_v13 main_v19 main_v22
-- ==== Core.lean ====
abbrev S16x6x2048 : Shape := ⟨3, ![16, 6, 2048]⟩
abbrev S64x6 : Shape := ⟨2, ![64, 6]⟩
abbrev S4x64 : Shape := ⟨2, ![4, 64]⟩
abbrev S1024x64 : Shape := ⟨2, ![1024, 64]⟩
abbrev S4x1024 : Shape := ⟨2, ![4, 1024]⟩
abbrev S64x128 : Shape := ⟨2, ![64, 128]⟩
abbrev S128x128 : Shape := ⟨2, ![128, 128]⟩
abbrev S4x128 : Shape := ⟨2, ![4, 128]⟩
abbrev S256x256 : Shape := ⟨2, ![256, 256]⟩
abbrev S4x256 : Shape := ⟨2, ![4, 256]⟩
abbrev S512x1280 : Shape := ⟨2, ![512, 1280]⟩
abbrev S4x512 : Shape := ⟨2, ![4, 512]⟩
abbrev S16x512x3 : Shape := ⟨3, ![16, 512, 3]⟩
abbrev S16x512 : Shape := ⟨2, ![16, 512]⟩
abbrev S16x256x3 : Shape := ⟨3, ![16, 256, 3]⟩
abbrev S16x256 : Shape := ⟨2, ![16, 256]⟩
abbrev S16x3x2048 : Shape := ⟨3, ![16, 3, 2048]⟩
abbrev S16x2048x3 : Shape := ⟨3, ![16, 2048, 3]⟩
abbrev S1x64 : Shape := ⟨2, ![1, 64]⟩
abbrev S64 : Shape := ⟨1, ![64]⟩
abbrev S64x16x2048 : Shape := ⟨3, ![64, 16, 2048]⟩
abbrev S16x64x2048 : Shape := ⟨3, ![16, 64, 2048]⟩
abbrev S64x1 : Shape := ⟨2, ![64, 1]⟩
abbrev S1x64x1 : Shape := ⟨3, ![1, 64, 1]⟩
abbrev S_ : Shape := ⟨0, ![]⟩
abbrev S16x2048x64 : Shape := ⟨3, ![16, 2048, 64]⟩
abbrev S16 : Shape := ⟨1, ![16]⟩
abbrev S16x1 : Shape := ⟨2, ![16, 1]⟩
abbrev S64x64 : Shape := ⟨2, ![64, 64]⟩
abbrev S16x2048 : Shape := ⟨2, ![16, 2048]⟩
abbrev S16x2048x1 : Shape := ⟨3, ![16, 2048, 1]⟩
abbrev S16x1x2048 : Shape := ⟨3, ![16, 1, 2048]⟩
abbrev S1x1024x3 : Shape := ⟨3, ![1, 1024, 3]⟩
abbrev S1x2048x3 : Shape := ⟨3, ![1, 2048, 3]⟩
abbrev S1x1024x1 : Shape := ⟨3, ![1, 1024, 1]⟩
abbrev S1x1x2048 : Shape := ⟨3, ![1, 1, 2048]⟩
abbrev S1x2048x64 : Shape := ⟨3, ![1, 2048, 64]⟩
abbrev S1x1024x64 : Shape := ⟨3, ![1, 1024, 64]⟩
abbrev S1024x3 : Shape := ⟨2, ![1024, 3]⟩
abbrev S2048x3 : Shape := ⟨2, ![2048, 3]⟩
abbrev S2048x64 : Shape := ⟨2, ![2048, 64]⟩
abbrev S1024x1 : Shape := ⟨2, ![1024, 1]⟩
abbrev S1x2048 : Shape := ⟨2, ![1, 2048]⟩
abbrev S1024x2048 : Shape := ⟨2, ![1024, 2048]⟩
abbrev S1024 : Shape := ⟨1, ![1024]⟩
abbrev S1x128 : Shape := ⟨2, ![1, 128]⟩
abbrev S128 : Shape := ⟨1, ![128]⟩
abbrev S128x1 : Shape := ⟨2, ![128, 1]⟩
abbrev S128x64 : Shape := ⟨2, ![128, 64]⟩
abbrev S16x512x1 : Shape := ⟨3, ![16, 512, 1]⟩
abbrev S16x512x2 : Shape := ⟨3, ![16, 512, 2]⟩
abbrev S16x512x64 : Shape := ⟨3, ![16, 512, 64]⟩
abbrev S16x512x128 : Shape := ⟨3, ![16, 512, 128]⟩
abbrev S1x512x3 : Shape := ⟨3, ![1, 512, 3]⟩
abbrev S1x512x1 : Shape := ⟨3, ![1, 512, 1]⟩
abbrev S1x512x64 : Shape := ⟨3, ![1, 512, 64]⟩
abbrev S1x512x128 : Shape := ⟨3, ![1, 512, 128]⟩
abbrev S512x3 : Shape := ⟨2, ![512, 3]⟩
abbrev S2048x128 : Shape := ⟨2, ![2048, 128]⟩
abbrev S512x64 : Shape := ⟨2, ![512, 64]⟩
abbrev S512x128 : Shape := ⟨2, ![512, 128]⟩
abbrev S512x1 : Shape := ⟨2, ![512, 1]⟩
abbrev S512x2048 : Shape := ⟨2, ![512, 2048]⟩
abbrev S512 : Shape := ⟨1, ![512]⟩
abbrev S1x256 : Shape := ⟨2, ![1, 256]⟩
abbrev S256 : Shape := ⟨1, ![256]⟩
abbrev S256x1 : Shape := ⟨2, ![256, 1]⟩
abbrev S256x128 : Shape := ⟨2, ![256, 128]⟩
abbrev S16x256x1 : Shape := ⟨3, ![16, 256, 1]⟩
abbrev S16x256x2 : Shape := ⟨3, ![16, 256, 2]⟩
abbrev S16x256x128 : Shape := ⟨3, ![16, 256, 128]⟩
abbrev S16x1x512 : Shape := ⟨3, ![16, 1, 512]⟩
abbrev S16x256x256 : Shape := ⟨3, ![16, 256, 256]⟩
abbrev S1x256x3 : Shape := ⟨3, ![1, 256, 3]⟩
abbrev S1x256x1 : Shape := ⟨3, ![1, 256, 1]⟩
abbrev S1x1x512 : Shape := ⟨3, ![1, 1, 512]⟩
abbrev S1x256x128 : Shape := ⟨3, ![1, 256, 128]⟩
abbrev S1x256x256 : Shape := ⟨3, ![1, 256, 256]⟩
abbrev S256x3 : Shape := ⟨2, ![256, 3]⟩
abbrev S512x256 : Shape := ⟨2, ![512, 256]⟩
abbrev S1x512 : Shape := ⟨2, ![1, 512]⟩
abbrev S256x512 : Shape := ⟨2, ![256, 512]⟩
abbrev S16x64x256 : Shape := ⟨3, ![16, 64, 256]⟩
abbrev S1x1024 : Shape := ⟨2, ![1, 1024]⟩
abbrev S512x1024 : Shape := ⟨2, ![512, 1024]⟩
abbrev S16x512x256 : Shape := ⟨3, ![16, 512, 256]⟩
abbrev S1x64x256 : Shape := ⟨3, ![1, 64, 256]⟩
abbrev S1x512x256 : Shape := ⟨3, ![1, 512, 256]⟩
abbrev S64x256 : Shape := ⟨2, ![64, 256]⟩
abbrev S1024x256 : Shape := ⟨2, ![1024, 256]⟩

abbrev nBuf : Space → Nat
  | .hbm => 284
  | .vmem => 88
  | .smem => 0
  | _ => 0

abbrev hbmTy0_0 (i : Nat) : BufTy := match i % 128 with
  | 0 => ⟨S16x6x2048, .f32⟩
  | 1 => ⟨S64x6, .f32⟩
  | 2 => ⟨S4x64, .f32⟩
  | 3 => ⟨S1024x64, .f32⟩
  | 4 => ⟨S4x1024, .f32⟩
  | 5 => ⟨S64x128, .f32⟩
  | 6 => ⟨S4x64, .f32⟩
  | 7 => ⟨S64x128, .f32⟩
  | 8 => ⟨S4x64, .f32⟩
  | 9 => ⟨S64x128, .f32⟩
  | 10 => ⟨S4x64, .f32⟩
  | 11 => ⟨S128x128, .f32⟩
  | 12 => ⟨S4x128, .f32⟩
  | 13 => ⟨S256x256, .f32⟩
  | 14 => ⟨S4x256, .f32⟩
  | 15 => ⟨S512x1280, .f32⟩
  | 16 => ⟨S4x512, .f32⟩
  | 17 => ⟨S16x512x3, .f32⟩
  | 18 => ⟨S16x512, .i32⟩
  | 19 => ⟨S16x256x3, .f32⟩
  | 20 => ⟨S16x256, .i32⟩
  | 21 => ⟨S16x3x2048, .f32⟩
  | 22 => ⟨S16x2048x3, .f32⟩
  | 23 => ⟨S1x64, .f32⟩
  | 24 => ⟨S64, .f32⟩
  | 25 => ⟨S1x64, .f32⟩
  | 26 => ⟨S64, .f32⟩
  | 27 => ⟨S1x64, .f32⟩
  | 28 => ⟨S64, .f32⟩
  | 29 => ⟨S1x64, .f32⟩
  | 30 => ⟨S64, .f32⟩
  | 31 => ⟨S64x16x2048, .f32⟩
  | 32 => ⟨S16x64x2048, .f32⟩
  | 33 => ⟨S64x1, .f32⟩
  | 34 => ⟨S1x64x1, .f32⟩
  | 35 => ⟨S16x64x2048, .f32⟩
  | 36 => ⟨S16x64x2048, .f32⟩
  | 37 => ⟨S64x1, .f32⟩
  | 38 => ⟨S1x64x1, .f32⟩
  | 39 => ⟨S16x64x2048, .f32⟩
  | 40 => ⟨S16x64x2048, .f32⟩
  | 41 => ⟨S64x1, .f32⟩
  | 42 => ⟨S_, .f32⟩
  | 43 => ⟨S64x1, .f32⟩
  | 44 => ⟨S64x1, .f32⟩
  | 45 => ⟨S64x1, .f32⟩
  | 46 => ⟨S1x64x1, .f32⟩
  | 47 => ⟨S16x64x2048, .f32⟩
  | 48 => ⟨S16x64x2048, .f32⟩
  | 49 => ⟨S64x1, .f32⟩
  | 50 => ⟨S1x64x1, .f32⟩
  | 51 => ⟨S16x64x2048, .f32⟩
  | 52 => ⟨S16x64x2048, .f32⟩
  | 53 => ⟨S_, .f32⟩
  | 54 => ⟨S16x64x2048, .f32⟩
  | 55 => ⟨S16x64x2048, .f32⟩
  | 56 => ⟨S16x2048x64, .f32⟩
  | 57 => ⟨S16, .i32⟩
  | 58 => ⟨S16x1, .i32⟩
  | 59 => ⟨S1x64, .f32⟩
  | 60 => ⟨S64, .f32⟩
  | 61 => ⟨S1x64, .f32⟩
  | 62 => ⟨S64, .f32⟩
  | 63 => ⟨S1x64, .f32⟩
  | 64 => ⟨S64, .f32⟩
  | 65 => ⟨S1x64, .f32⟩
  | 66 => ⟨S64, .f32⟩
  | 67 => ⟨S_, .f32⟩
  | 68 => ⟨S64, .f32⟩
  | 69 => ⟨S64, .f32⟩
  | 70 => ⟨S64, .f32⟩
  | 71 => ⟨S64, .f32⟩
  | 72 => ⟨S64x1, .f32⟩
  | 73 => ⟨S64x128, .f32⟩
  | 74 => ⟨S64x128, .f32⟩
  | 75 => ⟨S64, .f32⟩
  | 76 => ⟨S64, .f32⟩
  | 77 => ⟨S64x64, .f32⟩
  | 78 => ⟨S64x64, .f32⟩
  | 79 => ⟨S64x64, .f32⟩
  | 80 => ⟨S1x64, .f32⟩
  | 81 => ⟨S64, .f32⟩
  | 82 => ⟨S1x64, .f32⟩
  | 83 => ⟨S64, .f32⟩
  | 84 => ⟨S1x64, .f32⟩
  | 85 => ⟨S64, .f32⟩
  | 86 => ⟨S1x64, .f32⟩
  | 87 => ⟨S64, .f32⟩
  | 88 => ⟨S_, .f32⟩
  | 89 => ⟨S64, .f32⟩
  | 90 => ⟨S64, .f32⟩
  | 91 => ⟨S64, .f32⟩
  | 92 => ⟨S64, .f32⟩
  | 93 => ⟨S64x1, .f32⟩
  | 94 => ⟨S64x128, .f32⟩
  | 95 => ⟨S64x128, .f32⟩
  | 96 => ⟨S64, .f32⟩
  | 97 => ⟨S64, .f32⟩
  | 98 => ⟨S64x64, .f32⟩
  | 99 => ⟨S64x64, .f32⟩
  | 100 => ⟨S64x64, .f32⟩
  | 101 => ⟨S16x2048x3, .f32⟩
  | 102 => ⟨S_, .f32⟩
  | 103 => ⟨S16x2048, .f32⟩
  | 104 => ⟨S16x2048x1, .f32⟩
  | 105 => ⟨S16x2048x3, .f32⟩
  | 106 => ⟨S_, .f32⟩
  | 107 => ⟨S16x2048, .f32⟩
  | 108 => ⟨S16x1x2048, .f32⟩
  | 109 => ⟨S1x64, .f32⟩
  | 110 => ⟨S16x2048x64, .f32⟩
  | 111 => ⟨S16x2048x64, .f32⟩
  | 112 => ⟨S_, .f32⟩
  | 113 => ⟨S16x2048, .f32⟩
  | 114 => ⟨S16x2048x1, .f32⟩
  | 115 => ⟨S16x2048x64, .f32⟩
  | 116 => ⟨S_, .f32⟩
  | 117 => ⟨S16x2048, .f32⟩
  | 118 => ⟨S16x1x2048, .f32⟩
  | 119 => ⟨S1x64, .f32⟩
  | 120 => ⟨S16x2048x64, .f32⟩
  | 121 => ⟨S1x64, .f32⟩
  | 122 => ⟨S64, .f32⟩
  | 123 => ⟨S1x64, .f32⟩
  | 124 => ⟨S64, .f32⟩
  | 125 => ⟨S1x64, .f32⟩
  | 126 => ⟨S64, .f32⟩
  | 127 => ⟨S1x64, .f32⟩
  | _ => ⟨S16x6x2048, .f32⟩

abbrev hbmTy0_1 (i : Nat) : BufTy := match i % 128 with
  | 0 => ⟨S64, .f32⟩
  | 1 => ⟨S_, .f32⟩
  | 2 => ⟨S64, .f32⟩
  | 3 => ⟨S64, .f32⟩
  | 4 => ⟨S64, .f32⟩
  | 5 => ⟨S64, .f32⟩
  | 6 => ⟨S64x1, .f32⟩
  | 7 => ⟨S64x128, .f32⟩
  | 8 => ⟨S64x128, .f32⟩
  | 9 => ⟨S64, .f32⟩
  | 10 => ⟨S64, .f32⟩
  | 11 => ⟨S64x64, .f32⟩
  | 12 => ⟨S64x64, .f32⟩
  | 13 => ⟨S1x64, .f32⟩
  | 14 => ⟨S16x2048x64, .f32⟩
  | 15 => ⟨S1x128, .f32⟩
  | 16 => ⟨S128, .f32⟩
  | 17 => ⟨S1x128, .f32⟩
  | 18 => ⟨S128, .f32⟩
  | 19 => ⟨S1x128, .f32⟩
  | 20 => ⟨S128, .f32⟩
  | 21 => ⟨S1x128, .f32⟩
  | 22 => ⟨S128, .f32⟩
  | 23 => ⟨S_, .f32⟩
  | 24 => ⟨S128, .f32⟩
  | 25 => ⟨S128, .f32⟩
  | 26 => ⟨S128, .f32⟩
  | 27 => ⟨S128, .f32⟩
  | 28 => ⟨S128x1, .f32⟩
  | 29 => ⟨S128x128, .f32⟩
  | 30 => ⟨S128x128, .f32⟩
  | 31 => ⟨S128, .f32⟩
  | 32 => ⟨S128, .f32⟩
  | 33 => ⟨S128x64, .f32⟩
  | 34 => ⟨S128x64, .f32⟩
  | 35 => ⟨S128x64, .f32⟩
  | 36 => ⟨S_, .i32⟩
  | 37 => ⟨S16x1, .i32⟩
  | 38 => ⟨S16x1, .i1⟩
  | 39 => ⟨S_, .i32⟩
  | 40 => ⟨S16x1, .i32⟩
  | 41 => ⟨S16x1, .i32⟩
  | 42 => ⟨S16x1, .i32⟩
  | 43 => ⟨S_, .i32⟩
  | 44 => ⟨S16x512, .i32⟩
  | 45 => ⟨S16x512, .i1⟩
  | 46 => ⟨S_, .i32⟩
  | 47 => ⟨S16x512, .i32⟩
  | 48 => ⟨S16x512, .i32⟩
  | 49 => ⟨S16x512, .i32⟩
  | 50 => ⟨S16x512, .i32⟩
  | 51 => ⟨S16x512x1, .i32⟩
  | 52 => ⟨S16x512x1, .i32⟩
  | 53 => ⟨S16x512x2, .i32⟩
  | 54 => ⟨S16x512x64, .f32⟩
  | 55 => ⟨S16x512x3, .f32⟩
  | 56 => ⟨S_, .f32⟩
  | 57 => ⟨S16x512, .f32⟩
  | 58 => ⟨S16x512x1, .f32⟩
  | 59 => ⟨S16x2048x3, .f32⟩
  | 60 => ⟨S_, .f32⟩
  | 61 => ⟨S16x2048, .f32⟩
  | 62 => ⟨S16x1x2048, .f32⟩
  | 63 => ⟨S1x128, .f32⟩
  | 64 => ⟨S16x512x128, .f32⟩
  | 65 => ⟨S1x256, .f32⟩
  | 66 => ⟨S256, .f32⟩
  | 67 => ⟨S1x256, .f32⟩
  | 68 => ⟨S256, .f32⟩
  | 69 => ⟨S1x256, .f32⟩
  | 70 => ⟨S256, .f32⟩
  | 71 => ⟨S1x256, .f32⟩
  | 72 => ⟨S256, .f32⟩
  | 73 => ⟨S_, .f32⟩
  | 74 => ⟨S256, .f32⟩
  | 75 => ⟨S256, .f32⟩
  | 76 => ⟨S256, .f32⟩
  | 77 => ⟨S256, .f32⟩
  | 78 => ⟨S256x1, .f32⟩
  | 79 => ⟨S256x256, .f32⟩
  | 80 => ⟨S256x256, .f32⟩
  | 81 => ⟨S256, .f32⟩
  | 82 => ⟨S256, .f32⟩
  | 83 => ⟨S256x128, .f32⟩
  | 84 => ⟨S256x128, .f32⟩
  | 85 => ⟨S256x128, .f32⟩
  | 86 => ⟨S_, .i32⟩
  | 87 => ⟨S16x1, .i32⟩
  | 88 => ⟨S16x1, .i1⟩
  | 89 => ⟨S_, .i32⟩
  | 90 => ⟨S16x1, .i32⟩
  | 91 => ⟨S16x1, .i32⟩
  | 92 => ⟨S16x1, .i32⟩
  | 93 => ⟨S_, .i32⟩
  | 94 => ⟨S16x256, .i32⟩
  | 95 => ⟨S16x256, .i1⟩
  | 96 => ⟨S_, .i32⟩
  | 97 => ⟨S16x256, .i32⟩
  | 98 => ⟨S16x256, .i32⟩
  | 99 => ⟨S16x256, .i32⟩
  | 100 => ⟨S16x256, .i32⟩
  | 101 => ⟨S16x256x1, .i32⟩
  | 102 => ⟨S16x256x1, .i32⟩
  | 103 => ⟨S16x256x2, .i32⟩
  | 104 => ⟨S16x256x128, .f32⟩
  | 105 => ⟨S16x256x3, .f32⟩
  | 106 => ⟨S_, .f32⟩
  | 107 => ⟨S16x256, .f32⟩
  | 108 => ⟨S16x256x1, .f32⟩
  | 109 => ⟨S16x512x3, .f32⟩
  | 110 => ⟨S_, .f32⟩
  | 111 => ⟨S16x512, .f32⟩
  | 112 => ⟨S16x1x512, .f32⟩
  | 113 => ⟨S1x256, .f32⟩
  | 114 => ⟨S16x256x256, .f32⟩
  | 115 => ⟨S16x256x256, .f32⟩
  | 116 => ⟨S16x64x256, .f32⟩
  | 117 => ⟨S1x1024, .f32⟩
  | 118 => ⟨S1024, .f32⟩
  | 119 => ⟨S1x1024, .f32⟩
  | 120 => ⟨S1024, .f32⟩
  | 121 => ⟨S1x1024, .f32⟩
  | 122 => ⟨S1024, .f32⟩
  | 123 => ⟨S1x1024, .f32⟩
  | 124 => ⟨S1024, .f32⟩
  | 125 => ⟨S_, .f32⟩
  | 126 => ⟨S1024, .f32⟩
  | 127 => ⟨S1024, .f32⟩
  | _ => ⟨S16x6x2048, .f32⟩

abbrev hbmTy0_2 (i : Nat) : BufTy := match i % 128 with
  | 0 => ⟨S1024, .f32⟩
  | 1 => ⟨S1024, .f32⟩
  | 2 => ⟨S1024x1, .f32⟩
  | 3 => ⟨S1024x64, .f32⟩
  | 4 => ⟨S1024x64, .f32⟩
  | 5 => ⟨S1024, .f32⟩
  | 6 => ⟨S1024, .f32⟩
  | 7 => ⟨S1x512, .f32⟩
  | 8 => ⟨S512, .f32⟩
  | 9 => ⟨S1x512, .f32⟩
  | 10 => ⟨S512, .f32⟩
  | 11 => ⟨S1x512, .f32⟩
  | 12 => ⟨S512, .f32⟩
  | 13 => ⟨S1x512, .f32⟩
  | 14 => ⟨S512, .f32⟩
  | 15 => ⟨S_, .f32⟩
  | 16 => ⟨S512, .f32⟩
  | 17 => ⟨S512, .f32⟩
  | 18 => ⟨S512, .f32⟩
  | 19 => ⟨S512, .f32⟩
  | 20 => ⟨S512x1, .f32⟩
  | 21 => ⟨S512x1280, .f32⟩
  | 22 => ⟨S512x1280, .f32⟩
  | 23 => ⟨S512, .f32⟩
  | 24 => ⟨S512, .f32⟩
  | 25 => ⟨S512x256, .f32⟩
  | 26 => ⟨S512x1024, .f32⟩
  | 27 => ⟨S16x512x256, .f32⟩
  | _ => ⟨S16x6x2048, .f32⟩

abbrev hbmTy (i : Nat) : BufTy := match i / 128 with
  | 0 => hbmTy0_0 i
  | 1 => hbmTy0_1 i
  | 2 => hbmTy0_2 i
  | _ => ⟨S16x6x2048, .f32⟩

abbrev bufTy : (tb : Table) → Fin (tcTables nBuf tb) → BufTy
  | .hbm, ⟨i, _⟩ => hbmTy i
  | .local _ .vmem, ⟨0, _⟩ => ⟨S1x1024x3, .f32⟩
  | .local _ .vmem, ⟨1, _⟩ => ⟨S1x1024x3, .f32⟩
  | .local _ .vmem, ⟨2, _⟩ => ⟨S1x2048x3, .f32⟩
  | .local _ .vmem, ⟨3, _⟩ => ⟨S1x2048x3, .f32⟩
  | .local _ .vmem, ⟨4, _⟩ => ⟨S1x1024x1, .f32⟩
  | .local _ .vmem, ⟨5, _⟩ => ⟨S1x1024x1, .f32⟩
  | .local _ .vmem, ⟨6, _⟩ => ⟨S1x1x2048, .f32⟩
  | .local _ .vmem, ⟨7, _⟩ => ⟨S1x1x2048, .f32⟩
  | .local _ .vmem, ⟨8, _⟩ => ⟨S1x2048x64, .f32⟩
  | .local _ .vmem, ⟨9, _⟩ => ⟨S1x2048x64, .f32⟩
  | .local _ .vmem, ⟨10, _⟩ => ⟨S64x64, .f32⟩
  | .local _ .vmem, ⟨11, _⟩ => ⟨S1x1024x64, .f32⟩
  | .local _ .vmem, ⟨12, _⟩ => ⟨S1x1024x64, .f32⟩
  | .local _ .vmem, ⟨13, _⟩ => ⟨S64x64, .f32⟩
  | .local _ .vmem, ⟨14, _⟩ => ⟨S1x64, .f32⟩
  | .local _ .vmem, ⟨15, _⟩ => ⟨S1x1024x64, .f32⟩
  | .local _ .vmem, ⟨16, _⟩ => ⟨S1x1024x64, .f32⟩
  | .local _ .vmem, ⟨17, _⟩ => ⟨S1x1024x64, .f32⟩
  | .local _ .vmem, ⟨18, _⟩ => ⟨S1x1024x64, .f32⟩
  | .local _ .vmem, ⟨19, _⟩ => ⟨S1x2048x64, .f32⟩
  | .local _ .vmem, ⟨20, _⟩ => ⟨S1x2048x64, .f32⟩
  | .local _ .vmem, ⟨21, _⟩ => ⟨S1x1024x1, .f32⟩
  | .local _ .vmem, ⟨22, _⟩ => ⟨S1x1024x1, .f32⟩
  | .local _ .vmem, ⟨23, _⟩ => ⟨S1x1x2048, .f32⟩
  | .local _ .vmem, ⟨24, _⟩ => ⟨S1x1x2048, .f32⟩
  | .local _ .vmem, ⟨25, _⟩ => ⟨S1x2048x64, .f32⟩
  | .local _ .vmem, ⟨26, _⟩ => ⟨S1x2048x64, .f32⟩
  | .local _ .vmem, ⟨27, _⟩ => ⟨S64x64, .f32⟩
  | .local _ .vmem, ⟨28, _⟩ => ⟨S1x1024x64, .f32⟩
  | .local _ .vmem, ⟨29, _⟩ => ⟨S1x1024x64, .f32⟩
  | .local _ .vmem, ⟨30, _⟩ => ⟨S64x64, .f32⟩
  | .local _ .vmem, ⟨31, _⟩ => ⟨S1x64, .f32⟩
  | .local _ .vmem, ⟨32, _⟩ => ⟨S1x1024x64, .f32⟩
  | .local _ .vmem, ⟨33, _⟩ => ⟨S1x1024x64, .f32⟩
  | .local _ .vmem, ⟨34, _⟩ => ⟨S1x2048x64, .f32⟩
  | .local _ .vmem, ⟨35, _⟩ => ⟨S1x2048x64, .f32⟩
  | .local _ .vmem, ⟨36, _⟩ => ⟨S1x2048x64, .f32⟩
  | .local _ .vmem, ⟨37, _⟩ => ⟨S1x2048x64, .f32⟩
  | .local _ .vmem, ⟨38, _⟩ => ⟨S64x64, .f32⟩
  | .local _ .vmem, ⟨39, _⟩ => ⟨S64x64, .f32⟩
  | .local _ .vmem, ⟨40, _⟩ => ⟨S1x64, .f32⟩
  | .local _ .vmem, ⟨41, _⟩ => ⟨S1x2048x64, .f32⟩
  | .local _ .vmem, ⟨42, _⟩ => ⟨S1x2048x64, .f32⟩
  | .local _ .vmem, ⟨43, _⟩ => ⟨S1x512x3, .f32⟩
  | .local _ .vmem, ⟨44, _⟩ => ⟨S1x512x3, .f32⟩
  | .local _ .vmem, ⟨45, _⟩ => ⟨S1x2048x3, .f32⟩
  | .local _ .vmem, ⟨46, _⟩ => ⟨S1x2048x3, .f32⟩
  | .local _ .vmem, ⟨47, _⟩ => ⟨S1x512x1, .f32⟩
  | .local _ .vmem, ⟨48, _⟩ => ⟨S1x512x1, .f32⟩
  | .local _ .vmem, ⟨49, _⟩ => ⟨S1x1x2048, .f32⟩
  | .local _ .vmem, ⟨50, _⟩ => ⟨S1x1x2048, .f32⟩
  | .local _ .vmem, ⟨51, _⟩ => ⟨S1x2048x64, .f32⟩
  | .local _ .vmem, ⟨52, _⟩ => ⟨S1x2048x64, .f32⟩
  | .local _ .vmem, ⟨53, _⟩ => ⟨S128x64, .f32⟩
  | .local _ .vmem, ⟨54, _⟩ => ⟨S1x512x64, .f32⟩
  | .local _ .vmem, ⟨55, _⟩ => ⟨S1x512x64, .f32⟩
  | .local _ .vmem, ⟨56, _⟩ => ⟨S128x64, .f32⟩
  | .local _ .vmem, ⟨57, _⟩ => ⟨S1x128, .f32⟩
  | .local _ .vmem, ⟨58, _⟩ => ⟨S1x512x128, .f32⟩
  | .local _ .vmem, ⟨59, _⟩ => ⟨S1x512x128, .f32⟩
  | .local _ .vmem, ⟨60, _⟩ => ⟨S1x256x3, .f32⟩
  | .local _ .vmem, ⟨61, _⟩ => ⟨S1x256x3, .f32⟩
  | .local _ .vmem, ⟨62, _⟩ => ⟨S1x512x3, .f32⟩
  | .local _ .vmem, ⟨63, _⟩ => ⟨S1x512x3, .f32⟩
  | .local _ .vmem, ⟨64, _⟩ => ⟨S1x256x1, .f32⟩
  | .local _ .vmem, ⟨65, _⟩ => ⟨S1x256x1, .f32⟩
  | .local _ .vmem, ⟨66, _⟩ => ⟨S1x1x512, .f32⟩
  | .local _ .vmem, ⟨67, _⟩ => ⟨S1x1x512, .f32⟩
  | .local _ .vmem, ⟨68, _⟩ => ⟨S1x512x128, .f32⟩
  | .local _ .vmem, ⟨69, _⟩ => ⟨S1x512x128, .f32⟩
  | .local _ .vmem, ⟨70, _⟩ => ⟨S256x128, .f32⟩
  | .local _ .vmem, ⟨71, _⟩ => ⟨S1x256x128, .f32⟩
  | .local _ .vmem, ⟨72, _⟩ => ⟨S1x256x128, .f32⟩
  | .local _ .vmem, ⟨73, _⟩ => ⟨S256x128, .f32⟩
  | .local _ .vmem, ⟨74, _⟩ => ⟨S1x256, .f32⟩
  | .local _ .vmem, ⟨75, _⟩ => ⟨S1x256x256, .f32⟩
  | .local _ .vmem, ⟨76, _⟩ => ⟨S1x256x256, .f32⟩
  | .local _ .vmem, ⟨77, _⟩ => ⟨S1x256x256, .f32⟩
  | .local _ .vmem, ⟨78, _⟩ => ⟨S1x256x256, .f32⟩
  | .local _ .vmem, ⟨79, _⟩ => ⟨S1x64x256, .f32⟩
  | .local _ .vmem, ⟨80, _⟩ => ⟨S1x64x256, .f32⟩
  | .local _ .vmem, ⟨81, _⟩ => ⟨S1024x64, .f32⟩
  | .local _ .vmem, ⟨82, _⟩ => ⟨S1024, .f32⟩
  | .local _ .vmem, ⟨83, _⟩ => ⟨S512x256, .f32⟩
  | .local _ .vmem, ⟨84, _⟩ => ⟨S512x1024, .f32⟩
  | .local _ .vmem, ⟨85, _⟩ => ⟨S512, .f32⟩
  | .local _ .vmem, ⟨86, _⟩ => ⟨S1x512x256, .f32⟩
  | .local _ .vmem, ⟨87, _⟩ => ⟨S1x512x256, .f32⟩
  | _, _ => ⟨S16x6x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call0_cst : Ref sig .tc := ⟨.hbm, 53, rfl⟩
abbrev main_call0_v0 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_0 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_1 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_2 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_3 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_4 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_5 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_6 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_cst_7 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_c : Ref sig .tc := ⟨.hbm, 164, rfl⟩
abbrev main_v132 : Ref sig .tc := ⟨.hbm, 165, rfl⟩
abbrev main_v133 : Ref sig .tc := ⟨.hbm, 166, rfl⟩
abbrev main_c_8 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_c_9 : Ref sig .tc := ⟨.hbm, 171, rfl⟩
abbrev main_v137 : Ref sig .tc := ⟨.hbm, 172, rfl⟩
abbrev main_v138 : Ref sig .tc := ⟨.hbm, 173, rfl⟩
abbrev main_c_10 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_cst_11 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_cst_12 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_cst_13 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_c_14 : Ref sig .tc := ⟨.hbm, 214, rfl⟩
abbrev main_v175 : Ref sig .tc := ⟨.hbm, 215, rfl⟩
abbrev main_v176 : Ref sig .tc := ⟨.hbm, 216, rfl⟩
abbrev main_c_15 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_c_16 : Ref sig .tc := ⟨.hbm, 221, rfl⟩
abbrev main_v180 : Ref sig .tc := ⟨.hbm, 222, rfl⟩
abbrev main_v181 : Ref sig .tc := ⟨.hbm, 223, rfl⟩
abbrev main_c_17 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_cst_18 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_cst_19 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_cst_20 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_v223 : Ref sig .tc := ⟨.hbm, 269, rfl⟩
abbrev main_v224 : Ref sig .tc := ⟨.hbm, 270, rfl⟩
abbrev main_cst_21 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg9_1 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg3_0 : Ref sig .tc := ⟨.vmem, 39, rfl⟩
abbrev cc2_stg4_0 : Ref sig .tc := ⟨.vmem, 40, rfl⟩
abbrev cc2_stg5_0 : Ref sig .tc := ⟨.vmem, 41, rfl⟩
abbrev cc2_stg5_1 : Ref sig .tc := ⟨.vmem, 42, rfl⟩
abbrev cc3_stg0_0 : Ref sig .tc := ⟨.vmem, 43, rfl⟩
abbrev cc3_stg0_1 : Ref sig .tc := ⟨.vmem, 44, rfl⟩
abbrev cc3_stg1_0 : Ref sig .tc := ⟨.vmem, 45, rfl⟩
abbrev cc3_stg1_1 : Ref sig .tc := ⟨.vmem, 46, rfl⟩
abbrev cc3_stg2_0 : Ref sig .tc := ⟨.vmem, 47, rfl⟩
abbrev cc3_stg2_1 : Ref sig .tc := ⟨.vmem, 48, rfl⟩
abbrev cc3_stg3_0 : Ref sig .tc := ⟨.vmem, 49, rfl⟩
abbrev cc3_stg3_1 : Ref sig .tc := ⟨.vmem, 50, rfl⟩
abbrev cc3_stg4_0 : Ref sig .tc := ⟨.vmem, 51, rfl⟩
abbrev cc3_stg4_1 : Ref sig .tc := ⟨.vmem, 52, rfl⟩
abbrev cc3_stg5_0 : Ref sig .tc := ⟨.vmem, 53, rfl⟩
abbrev cc3_stg6_0 : Ref sig .tc := ⟨.vmem, 54, rfl⟩
abbrev cc3_stg6_1 : Ref sig .tc := ⟨.vmem, 55, rfl⟩
abbrev cc3_stg7_0 : Ref sig .tc := ⟨.vmem, 56, rfl⟩
abbrev cc3_stg8_0 : Ref sig .tc := ⟨.vmem, 57, rfl⟩
abbrev cc3_stg9_0 : Ref sig .tc := ⟨.vmem, 58, rfl⟩
abbrev cc3_stg9_1 : Ref sig .tc := ⟨.vmem, 59, rfl⟩
abbrev cc4_stg0_0 : Ref sig .tc := ⟨.vmem, 60, rfl⟩
abbrev cc4_stg0_1 : Ref sig .tc := ⟨.vmem, 61, rfl⟩
abbrev cc4_stg1_0 : Ref sig .tc := ⟨.vmem, 62, rfl⟩
abbrev cc4_stg1_1 : Ref sig .tc := ⟨.vmem, 63, rfl⟩
abbrev cc4_stg2_0 : Ref sig .tc := ⟨.vmem, 64, rfl⟩
abbrev cc4_stg2_1 : Ref sig .tc := ⟨.vmem, 65, rfl⟩
abbrev cc4_stg3_0 : Ref sig .tc := ⟨.vmem, 66, rfl⟩
abbrev cc4_stg3_1 : Ref sig .tc := ⟨.vmem, 67, rfl⟩
abbrev cc4_stg4_0 : Ref sig .tc := ⟨.vmem, 68, rfl⟩
abbrev cc4_stg4_1 : Ref sig .tc := ⟨.vmem, 69, rfl⟩
abbrev cc4_stg5_0 : Ref sig .tc := ⟨.vmem, 70, rfl⟩
abbrev cc4_stg6_0 : Ref sig .tc := ⟨.vmem, 71, rfl⟩
abbrev cc4_stg6_1 : Ref sig .tc := ⟨.vmem, 72, rfl⟩
abbrev cc4_stg7_0 : Ref sig .tc := ⟨.vmem, 73, rfl⟩
abbrev cc4_stg8_0 : Ref sig .tc := ⟨.vmem, 74, rfl⟩
abbrev cc4_stg9_0 : Ref sig .tc := ⟨.vmem, 75, rfl⟩
abbrev cc4_stg9_1 : Ref sig .tc := ⟨.vmem, 76, rfl⟩
abbrev cc5_stg0_0 : Ref sig .tc := ⟨.vmem, 77, rfl⟩
abbrev cc5_stg0_1 : Ref sig .tc := ⟨.vmem, 78, rfl⟩
abbrev cc5_stg1_0 : Ref sig .tc := ⟨.vmem, 79, rfl⟩
abbrev cc5_stg1_1 : Ref sig .tc := ⟨.vmem, 80, rfl⟩
abbrev cc5_stg2_0 : Ref sig .tc := ⟨.vmem, 81, rfl⟩
abbrev cc5_stg3_0 : Ref sig .tc := ⟨.vmem, 82, rfl⟩
abbrev cc5_stg4_0 : Ref sig .tc := ⟨.vmem, 83, rfl⟩
abbrev cc5_stg5_0 : Ref sig .tc := ⟨.vmem, 84, rfl⟩
abbrev cc5_stg6_0 : Ref sig .tc := ⟨.vmem, 85, rfl⟩
abbrev cc5_stg7_0 : Ref sig .tc := ⟨.vmem, 86, rfl⟩
abbrev cc5_stg7_1 : Ref sig .tc := ⟨.vmem, 87, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc1_sem4_0 : DmaSem sig := 25
abbrev cc1_sem4_1 : DmaSem sig := 26
abbrev cc1_sem5_0 : DmaSem sig := 27
abbrev cc1_sem6_0 : DmaSem sig := 28
abbrev cc1_sem6_1 : DmaSem sig := 29
abbrev cc1_sem7_0 : DmaSem sig := 30
abbrev cc1_sem8_0 : DmaSem sig := 31
abbrev cc1_sem9_0 : DmaSem sig := 32
abbrev cc1_sem9_1 : DmaSem sig := 33
abbrev cc2_sem0_0 : DmaSem sig := 34
abbrev cc2_sem0_1 : DmaSem sig := 35
abbrev cc2_sem1_0 : DmaSem sig := 36
abbrev cc2_sem1_1 : DmaSem sig := 37
abbrev cc2_sem2_0 : DmaSem sig := 38
abbrev cc2_sem3_0 : DmaSem sig := 39
abbrev cc2_sem4_0 : DmaSem sig := 40
abbrev cc2_sem5_0 : DmaSem sig := 41
abbrev cc2_sem5_1 : DmaSem sig := 42
abbrev cc3_sem0_0 : DmaSem sig := 43
abbrev cc3_sem0_1 : DmaSem sig := 44
abbrev cc3_sem1_0 : DmaSem sig := 45
abbrev cc3_sem1_1 : DmaSem sig := 46
abbrev cc3_sem2_0 : DmaSem sig := 47
abbrev cc3_sem2_1 : DmaSem sig := 48
abbrev cc3_sem3_0 : DmaSem sig := 49
abbrev cc3_sem3_1 : DmaSem sig := 50
abbrev cc3_sem4_0 : DmaSem sig := 51
abbrev cc3_sem4_1 : DmaSem sig := 52
abbrev cc3_sem5_0 : DmaSem sig := 53
abbrev cc3_sem6_0 : DmaSem sig := 54
abbrev cc3_sem6_1 : DmaSem sig := 55
abbrev cc3_sem7_0 : DmaSem sig := 56
abbrev cc3_sem8_0 : DmaSem sig := 57
abbrev cc3_sem9_0 : DmaSem sig := 58
abbrev cc3_sem9_1 : DmaSem sig := 59
abbrev cc4_sem0_0 : DmaSem sig := 60
abbrev cc4_sem0_1 : DmaSem sig := 61
abbrev cc4_sem1_0 : DmaSem sig := 62
abbrev cc4_sem1_1 : DmaSem sig := 63
abbrev cc4_sem2_0 : DmaSem sig := 64
abbrev cc4_sem2_1 : DmaSem sig := 65
abbrev cc4_sem3_0 : DmaSem sig := 66
abbrev cc4_sem3_1 : DmaSem sig := 67
abbrev cc4_sem4_0 : DmaSem sig := 68
abbrev cc4_sem4_1 : DmaSem sig := 69
abbrev cc4_sem5_0 : DmaSem sig := 70
abbrev cc4_sem6_0 : DmaSem sig := 71
abbrev cc4_sem6_1 : DmaSem sig := 72
abbrev cc4_sem7_0 : DmaSem sig := 73
abbrev cc4_sem8_0 : DmaSem sig := 74
abbrev cc4_sem9_0 : DmaSem sig := 75
abbrev cc4_sem9_1 : DmaSem sig := 76
abbrev cc5_sem0_0 : DmaSem sig := 77
abbrev cc5_sem0_1 : DmaSem sig := 78
abbrev cc5_sem1_0 : DmaSem sig := 79
abbrev cc5_sem1_1 : DmaSem sig := 80
abbrev cc5_sem2_0 : DmaSem sig := 81
abbrev cc5_sem3_0 : DmaSem sig := 82
abbrev cc5_sem4_0 : DmaSem sig := 83
abbrev cc5_sem5_0 : DmaSem sig := 84
abbrev cc5_sem6_0 : DmaSem sig := 85
abbrev cc5_sem7_0 : DmaSem sig := 86
abbrev cc5_sem7_1 : DmaSem sig := 87

abbrev nD : Nat := 1
abbrev τ : Topo := Topo.v7x

variable {F : FTy → Type} [FloatOps F]

abbrev grid0 : Pipeline.Grid := ⟨2, ![16, 2], ![false, false]⟩

@[reducible] def k0_t1_loop : Scf.Loop 32 :=
  let c0_i32 : BitVec 32 := 0#32
  let c20_i32 : BitVec 32 := 20#32
  let v38 : BitVec 32 := Scalar.addi c0_i32 c20_i32
  let c1_i32 : BitVec 32 := 1#32
  ⟨c0_i32, v38, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![16, 2], ![false, false]⟩

@[reducible] def k1_t1_loop : Scf.Loop 32 :=
  let c0_i32 : BitVec 32 := 0#32
  let c20_i32 : BitVec 32 := 20#32
  let v38 : BitVec 32 := Scalar.addi c0_i32 c20_i32
  let c1_i32 : BitVec 32 := 1#32
  ⟨c0_i32, v38, c1_i32⟩
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2048x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x1024x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S1x1024x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x2048x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x2048x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![16, 1], ![false, false]⟩

@[reducible] def k3_t1_loop : Scf.Loop 32 :=
  let c0_i32 : BitVec 32 := 0#32
  let c32_i32 : BitVec 32 := 32#32
  let v38 : BitVec 32 := Scalar.addi c0_i32 c32_i32
  let c1_i32 : BitVec 32 := 1#32
  ⟨c0_i32, v38, c1_i32⟩
def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x512x3 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x3 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x512x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x1x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1x2048x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 1 → Memref sig .tc .vmem S128x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 2 → Memref sig .tc .vmem S1x512x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 1 → Memref sig .tc .vmem S128x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 2 → Memref sig .tc .vmem S1x512x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev grid4 : Pipeline.Grid := ⟨2, ![16, 1], ![false, false]⟩

@[reducible] def k4_t1_loop : Scf.Loop 32 :=
  let c0_i32 : BitVec 32 := 0#32
  let c32_i32 : BitVec 32 := 32#32
  let v38 : BitVec 32 := Scalar.addi c0_i32 c32_i32
  let c1_i32 : BitVec 32 := 1#32
  ⟨c0_i32, v38, c1_i32⟩
def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x256x3 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x512x3 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x256x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1x1x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S1x512x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev stage4_5 : Fin 1 → Memref sig .tc .vmem S256x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 2 → Memref sig .tc .vmem S1x256x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev stage4_7 : Fin 1 → Memref sig .tc .vmem S256x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false, false]

abbrev stage4_8 : Fin 1 → Memref sig .tc .vmem S1x256 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false, false]

abbrev stage4_9 : Fin 2 → Memref sig .tc .vmem S1x256x256 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true, true]

abbrev grid5 : Pipeline.Grid := ⟨1, ![16], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x256x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x64x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1024x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1024 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S512x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S512x1024 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S512 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S1x512x256 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]
-- ==== CoreIdeal.lean ====
variable {F : FTy → Type} [FloatOps F] [Named F]
def κ : String → Option EReal := fun
  | "far" => some ⊤
  | "low" => some ⊤
  | _ => none
-- ==== CoreRefIdeal.lean ====
abbrev S16x6x2048 : Shape := ⟨3, ![16, 6, 2048]⟩
abbrev S64x6 : Shape := ⟨2, ![64, 6]⟩
abbrev S4x64 : Shape := ⟨2, ![4, 64]⟩
abbrev S1024x64 : Shape := ⟨2, ![1024, 64]⟩
abbrev S4x1024 : Shape := ⟨2, ![4, 1024]⟩
abbrev S64x128 : Shape := ⟨2, ![64, 128]⟩
abbrev S128x128 : Shape := ⟨2, ![128, 128]⟩
abbrev S4x128 : Shape := ⟨2, ![4, 128]⟩
abbrev S256x256 : Shape := ⟨2, ![256, 256]⟩
abbrev S4x256 : Shape := ⟨2, ![4, 256]⟩
abbrev S512x1280 : Shape := ⟨2, ![512, 1280]⟩
abbrev S4x512 : Shape := ⟨2, ![4, 512]⟩
abbrev S16x512x3 : Shape := ⟨3, ![16, 512, 3]⟩
abbrev S16x512 : Shape := ⟨2, ![16, 512]⟩
abbrev S16x256x3 : Shape := ⟨3, ![16, 256, 3]⟩
abbrev S16x256 : Shape := ⟨2, ![16, 256]⟩
abbrev S16x3x2048 : Shape := ⟨3, ![16, 3, 2048]⟩
abbrev S16x2048x3 : Shape := ⟨3, ![16, 2048, 3]⟩
abbrev S64x16x2048 : Shape := ⟨3, ![64, 16, 2048]⟩
abbrev S16x64x2048 : Shape := ⟨3, ![16, 64, 2048]⟩
abbrev S1x64 : Shape := ⟨2, ![1, 64]⟩
abbrev S64 : Shape := ⟨1, ![64]⟩
abbrev S1x64x1 : Shape := ⟨3, ![1, 64, 1]⟩
abbrev S_ : Shape := ⟨0, ![]⟩
abbrev S16x2048x64 : Shape := ⟨3, ![16, 2048, 64]⟩
abbrev S16x2048 : Shape := ⟨2, ![16, 2048]⟩
abbrev S16x2048x1 : Shape := ⟨3, ![16, 2048, 1]⟩
abbrev S16x2048x2048 : Shape := ⟨3, ![16, 2048, 2048]⟩
abbrev S16x1x2048 : Shape := ⟨3, ![16, 1, 2048]⟩
abbrev S16x2048x20 : Shape := ⟨3, ![16, 2048, 20]⟩
abbrev S16 : Shape := ⟨1, ![16]⟩
abbrev S16x1x1 : Shape := ⟨3, ![16, 1, 1]⟩
abbrev S16x2048x20x1 : Shape := ⟨4, ![16, 2048, 20, 1]⟩
abbrev S16x2048x20x2 : Shape := ⟨4, ![16, 2048, 20, 2]⟩
abbrev S16x2048x20x64 : Shape := ⟨4, ![16, 2048, 20, 64]⟩
abbrev S16x2048x1x64 : Shape := ⟨4, ![16, 2048, 1, 64]⟩
abbrev S16x2048x20x128 : Shape := ⟨4, ![16, 2048, 20, 128]⟩
abbrev S1x1x1x64 : Shape := ⟨4, ![1, 1, 1, 64]⟩
abbrev S16x2048x128 : Shape := ⟨3, ![16, 2048, 128]⟩
abbrev S1x1x64 : Shape := ⟨3, ![1, 1, 64]⟩
abbrev S16x64x256 : Shape := ⟨3, ![16, 64, 256]⟩
abbrev S1024x16x256 : Shape := ⟨3, ![1024, 16, 256]⟩
abbrev S16x1024x256 : Shape := ⟨3, ![16, 1024, 256]⟩
abbrev S1x1024 : Shape := ⟨2, ![1, 1024]⟩
abbrev S1024 : Shape := ⟨1, ![1024]⟩
abbrev S1x1024x1 : Shape := ⟨3, ![1, 1024, 1]⟩
abbrev S16x1 : Shape := ⟨2, ![16, 1]⟩
abbrev S16x512x1 : Shape := ⟨3, ![16, 512, 1]⟩
abbrev S16x512x2 : Shape := ⟨3, ![16, 512, 2]⟩
abbrev S16x512x64 : Shape := ⟨3, ![16, 512, 64]⟩
abbrev S16x512x2048 : Shape := ⟨3, ![16, 512, 2048]⟩
abbrev S16x512x32 : Shape := ⟨3, ![16, 512, 32]⟩
abbrev S16x512x32x1 : Shape := ⟨4, ![16, 512, 32, 1]⟩
abbrev S16x512x32x2 : Shape := ⟨4, ![16, 512, 32, 2]⟩
abbrev S16x512x32x64 : Shape := ⟨4, ![16, 512, 32, 64]⟩
abbrev S16x512x1x64 : Shape := ⟨4, ![16, 512, 1, 64]⟩
abbrev S16x512x32x128 : Shape := ⟨4, ![16, 512, 32, 128]⟩
abbrev S1x128 : Shape := ⟨2, ![1, 128]⟩
abbrev S128 : Shape := ⟨1, ![128]⟩
abbrev S1x1x1x128 : Shape := ⟨4, ![1, 1, 1, 128]⟩
abbrev S16x512x128 : Shape := ⟨3, ![16, 512, 128]⟩
abbrev S16x256x1 : Shape := ⟨3, ![16, 256, 1]⟩
abbrev S16x256x2 : Shape := ⟨3, ![16, 256, 2]⟩
abbrev S16x256x128 : Shape := ⟨3, ![16, 256, 128]⟩
abbrev S16x256x512 : Shape := ⟨3, ![16, 256, 512]⟩
abbrev S16x1x512 : Shape := ⟨3, ![16, 1, 512]⟩
abbrev S16x256x32 : Shape := ⟨3, ![16, 256, 32]⟩
abbrev S16x256x32x1 : Shape := ⟨4, ![16, 256, 32, 1]⟩
abbrev S16x256x32x2 : Shape := ⟨4, ![16, 256, 32, 2]⟩
abbrev S16x256x32x128 : Shape := ⟨4, ![16, 256, 32, 128]⟩
abbrev S16x256x1x128 : Shape := ⟨4, ![16, 256, 1, 128]⟩
abbrev S16x256x32x256 : Shape := ⟨4, ![16, 256, 32, 256]⟩
abbrev S1x256 : Shape := ⟨2, ![1, 256]⟩
abbrev S256 : Shape := ⟨1, ![256]⟩
abbrev S1x1x1x256 : Shape := ⟨4, ![1, 1, 1, 256]⟩
abbrev S16x256x256 : Shape := ⟨3, ![16, 256, 256]⟩
abbrev S16x1280x256 : Shape := ⟨3, ![16, 1280, 256]⟩
abbrev S512x16x256 : Shape := ⟨3, ![512, 16, 256]⟩
abbrev S16x512x256 : Shape := ⟨3, ![16, 512, 256]⟩
abbrev S1x512 : Shape := ⟨2, ![1, 512]⟩
abbrev S512 : Shape := ⟨1, ![512]⟩
abbrev S1x512x1 : Shape := ⟨3, ![1, 512, 1]⟩

abbrev nBuf : Space → Nat
  | .hbm => 501
  | .vmem => 0
  | .smem => 0
  | _ => 0

abbrev hbmTy0_0 (i : Nat) : BufTy := match i % 128 with
  | 0 => ⟨S16x6x2048, .f32⟩
  | 1 => ⟨S64x6, .f32⟩
  | 2 => ⟨S4x64, .f32⟩
  | 3 => ⟨S1024x64, .f32⟩
  | 4 => ⟨S4x1024, .f32⟩
  | 5 => ⟨S64x128, .f32⟩
  | 6 => ⟨S4x64, .f32⟩
  | 7 => ⟨S64x128, .f32⟩
  | 8 => ⟨S4x64, .f32⟩
  | 9 => ⟨S64x128, .f32⟩
  | 10 => ⟨S4x64, .f32⟩
  | 11 => ⟨S128x128, .f32⟩
  | 12 => ⟨S4x128, .f32⟩
  | 13 => ⟨S256x256, .f32⟩
  | 14 => ⟨S4x256, .f32⟩
  | 15 => ⟨S512x1280, .f32⟩
  | 16 => ⟨S4x512, .f32⟩
  | 17 => ⟨S16x512x3, .f32⟩
  | 18 => ⟨S16x512, .i32⟩
  | 19 => ⟨S16x256x3, .f32⟩
  | 20 => ⟨S16x256, .i32⟩
  | 21 => ⟨S16x3x2048, .f32⟩
  | 22 => ⟨S16x2048x3, .f32⟩
  | 23 => ⟨S64x16x2048, .f32⟩
  | 24 => ⟨S16x64x2048, .f32⟩
  | 25 => ⟨S1x64, .f32⟩
  | 26 => ⟨S64, .f32⟩
  | 27 => ⟨S1x64, .f32⟩
  | 28 => ⟨S64, .f32⟩
  | 29 => ⟨S1x64, .f32⟩
  | 30 => ⟨S64, .f32⟩
  | 31 => ⟨S1x64, .f32⟩
  | 32 => ⟨S64, .f32⟩
  | 33 => ⟨S1x64x1, .f32⟩
  | 34 => ⟨S1x64x1, .f32⟩
  | 35 => ⟨S1x64x1, .f32⟩
  | 36 => ⟨S1x64x1, .f32⟩
  | 37 => ⟨S16x64x2048, .f32⟩
  | 38 => ⟨S16x64x2048, .f32⟩
  | 39 => ⟨S16x64x2048, .f32⟩
  | 40 => ⟨S16x64x2048, .f32⟩
  | 41 => ⟨S_, .f32⟩
  | 42 => ⟨S1x64x1, .f32⟩
  | 43 => ⟨S1x64x1, .f32⟩
  | 44 => ⟨S1x64x1, .f32⟩
  | 45 => ⟨S16x64x2048, .f32⟩
  | 46 => ⟨S16x64x2048, .f32⟩
  | 47 => ⟨S16x64x2048, .f32⟩
  | 48 => ⟨S16x64x2048, .f32⟩
  | 49 => ⟨S_, .f32⟩
  | 50 => ⟨S16x64x2048, .f32⟩
  | 51 => ⟨S16x64x2048, .f32⟩
  | 52 => ⟨S16x2048x64, .f32⟩
  | 53 => ⟨S16x2048x3, .f32⟩
  | 54 => ⟨S_, .f32⟩
  | 55 => ⟨S16x2048, .f32⟩
  | 56 => ⟨S16x2048x1, .f32⟩
  | 57 => ⟨S16x2048x2048, .f32⟩
  | 58 => ⟨S_, .f32⟩
  | 59 => ⟨S16x2048x2048, .f32⟩
  | 60 => ⟨S16x2048x2048, .f32⟩
  | 61 => ⟨S16x2048x2048, .f32⟩
  | 62 => ⟨S16x2048x2048, .f32⟩
  | 63 => ⟨S16x2048x3, .f32⟩
  | 64 => ⟨S_, .f32⟩
  | 65 => ⟨S16x2048, .f32⟩
  | 66 => ⟨S16x1x2048, .f32⟩
  | 67 => ⟨S16x2048x2048, .f32⟩
  | 68 => ⟨S16x2048x2048, .f32⟩
  | 69 => ⟨S16x2048x2048, .f32⟩
  | 70 => ⟨S16x2048x20, .f32⟩
  | 71 => ⟨S16x2048x20, .i32⟩
  | 72 => ⟨S16, .i32⟩
  | 73 => ⟨S16x1x1, .i32⟩
  | 74 => ⟨S_, .i32⟩
  | 75 => ⟨S16x1x1, .i32⟩
  | 76 => ⟨S16x1x1, .i1⟩
  | 77 => ⟨S_, .i32⟩
  | 78 => ⟨S16x1x1, .i32⟩
  | 79 => ⟨S16x1x1, .i32⟩
  | 80 => ⟨S16x1x1, .i32⟩
  | 81 => ⟨S_, .i32⟩
  | 82 => ⟨S16x2048x20, .i32⟩
  | 83 => ⟨S16x2048x20, .i1⟩
  | 84 => ⟨S_, .i32⟩
  | 85 => ⟨S16x2048x20, .i32⟩
  | 86 => ⟨S16x2048x20, .i32⟩
  | 87 => ⟨S16x2048x20, .i32⟩
  | 88 => ⟨S16x2048x20, .i32⟩
  | 89 => ⟨S16x2048x20x1, .i32⟩
  | 90 => ⟨S16x2048x20x1, .i32⟩
  | 91 => ⟨S16x2048x20x2, .i32⟩
  | 92 => ⟨S16x2048x20x64, .f32⟩
  | 93 => ⟨S16x2048x1x64, .f32⟩
  | 94 => ⟨S16x2048x20x64, .f32⟩
  | 95 => ⟨S16x2048x20x64, .f32⟩
  | 96 => ⟨S16x2048x20x128, .f32⟩
  | 97 => ⟨S16x2048x20x64, .f32⟩
  | 98 => ⟨S1x64, .f32⟩
  | 99 => ⟨S64, .f32⟩
  | 100 => ⟨S1x64, .f32⟩
  | 101 => ⟨S64, .f32⟩
  | 102 => ⟨S1x64, .f32⟩
  | 103 => ⟨S64, .f32⟩
  | 104 => ⟨S1x64, .f32⟩
  | 105 => ⟨S64, .f32⟩
  | 106 => ⟨S1x1x1x64, .f32⟩
  | 107 => ⟨S1x1x1x64, .f32⟩
  | 108 => ⟨S1x1x1x64, .f32⟩
  | 109 => ⟨S1x1x1x64, .f32⟩
  | 110 => ⟨S16x2048x20x64, .f32⟩
  | 111 => ⟨S16x2048x20x64, .f32⟩
  | 112 => ⟨S16x2048x20x64, .f32⟩
  | 113 => ⟨S16x2048x20x64, .f32⟩
  | 114 => ⟨S_, .f32⟩
  | 115 => ⟨S1x1x1x64, .f32⟩
  | 116 => ⟨S1x1x1x64, .f32⟩
  | 117 => ⟨S1x1x1x64, .f32⟩
  | 118 => ⟨S16x2048x20x64, .f32⟩
  | 119 => ⟨S16x2048x20x64, .f32⟩
  | 120 => ⟨S16x2048x20x64, .f32⟩
  | 121 => ⟨S16x2048x20x64, .f32⟩
  | 122 => ⟨S_, .f32⟩
  | 123 => ⟨S_, .f32⟩
  | 124 => ⟨S16x2048x20x64, .f32⟩
  | 125 => ⟨S16x2048x20x64, .i1⟩
  | 126 => ⟨S_, .f32⟩
  | 127 => ⟨S16x2048x20x64, .f32⟩
  | _ => ⟨S16x6x2048, .f32⟩

abbrev hbmTy0_1 (i : Nat) : BufTy := match i % 128 with
  | 0 => ⟨S16x2048x20x64, .f32⟩
  | 1 => ⟨S16x2048x20x64, .f32⟩
  | 2 => ⟨S_, .f32⟩
  | 3 => ⟨S16x2048x64, .f32⟩
  | 4 => ⟨S16x2048x64, .f32⟩
  | 5 => ⟨S_, .f32⟩
  | 6 => ⟨S16x2048, .f32⟩
  | 7 => ⟨S16x2048x1, .f32⟩
  | 8 => ⟨S16x2048x2048, .f32⟩
  | 9 => ⟨S_, .f32⟩
  | 10 => ⟨S16x2048x2048, .f32⟩
  | 11 => ⟨S16x2048x2048, .f32⟩
  | 12 => ⟨S16x2048x2048, .f32⟩
  | 13 => ⟨S16x2048x2048, .f32⟩
  | 14 => ⟨S16x2048x64, .f32⟩
  | 15 => ⟨S_, .f32⟩
  | 16 => ⟨S16x2048, .f32⟩
  | 17 => ⟨S16x1x2048, .f32⟩
  | 18 => ⟨S16x2048x2048, .f32⟩
  | 19 => ⟨S16x2048x2048, .f32⟩
  | 20 => ⟨S16x2048x2048, .f32⟩
  | 21 => ⟨S16x2048x20, .f32⟩
  | 22 => ⟨S16x2048x20, .i32⟩
  | 23 => ⟨S16, .i32⟩
  | 24 => ⟨S16x1x1, .i32⟩
  | 25 => ⟨S_, .i32⟩
  | 26 => ⟨S16x1x1, .i32⟩
  | 27 => ⟨S16x1x1, .i1⟩
  | 28 => ⟨S_, .i32⟩
  | 29 => ⟨S16x1x1, .i32⟩
  | 30 => ⟨S16x1x1, .i32⟩
  | 31 => ⟨S16x1x1, .i32⟩
  | 32 => ⟨S_, .i32⟩
  | 33 => ⟨S16x2048x20, .i32⟩
  | 34 => ⟨S16x2048x20, .i1⟩
  | 35 => ⟨S_, .i32⟩
  | 36 => ⟨S16x2048x20, .i32⟩
  | 37 => ⟨S16x2048x20, .i32⟩
  | 38 => ⟨S16x2048x20, .i32⟩
  | 39 => ⟨S16x2048x20, .i32⟩
  | 40 => ⟨S16x2048x20x1, .i32⟩
  | 41 => ⟨S16x2048x20x1, .i32⟩
  | 42 => ⟨S16x2048x20x2, .i32⟩
  | 43 => ⟨S16x2048x20x64, .f32⟩
  | 44 => ⟨S16x2048x1x64, .f32⟩
  | 45 => ⟨S16x2048x20x64, .f32⟩
  | 46 => ⟨S16x2048x20x64, .f32⟩
  | 47 => ⟨S16x2048x20x128, .f32⟩
  | 48 => ⟨S16x2048x20x64, .f32⟩
  | 49 => ⟨S1x64, .f32⟩
  | 50 => ⟨S64, .f32⟩
  | 51 => ⟨S1x64, .f32⟩
  | 52 => ⟨S64, .f32⟩
  | 53 => ⟨S1x64, .f32⟩
  | 54 => ⟨S64, .f32⟩
  | 55 => ⟨S1x64, .f32⟩
  | 56 => ⟨S64, .f32⟩
  | 57 => ⟨S1x1x1x64, .f32⟩
  | 58 => ⟨S1x1x1x64, .f32⟩
  | 59 => ⟨S1x1x1x64, .f32⟩
  | 60 => ⟨S1x1x1x64, .f32⟩
  | 61 => ⟨S16x2048x20x64, .f32⟩
  | 62 => ⟨S16x2048x20x64, .f32⟩
  | 63 => ⟨S16x2048x20x64, .f32⟩
  | 64 => ⟨S16x2048x20x64, .f32⟩
  | 65 => ⟨S_, .f32⟩
  | 66 => ⟨S1x1x1x64, .f32⟩
  | 67 => ⟨S1x1x1x64, .f32⟩
  | 68 => ⟨S1x1x1x64, .f32⟩
  | 69 => ⟨S16x2048x20x64, .f32⟩
  | 70 => ⟨S16x2048x20x64, .f32⟩
  | 71 => ⟨S16x2048x20x64, .f32⟩
  | 72 => ⟨S16x2048x20x64, .f32⟩
  | 73 => ⟨S_, .f32⟩
  | 74 => ⟨S_, .f32⟩
  | 75 => ⟨S16x2048x20x64, .f32⟩
  | 76 => ⟨S16x2048x20x64, .i1⟩
  | 77 => ⟨S_, .f32⟩
  | 78 => ⟨S16x2048x20x64, .f32⟩
  | 79 => ⟨S16x2048x20x64, .f32⟩
  | 80 => ⟨S16x2048x20x64, .f32⟩
  | 81 => ⟨S_, .f32⟩
  | 82 => ⟨S16x2048x64, .f32⟩
  | 83 => ⟨S16x2048x128, .f32⟩
  | 84 => ⟨S16x2048x64, .f32⟩
  | 85 => ⟨S1x64, .f32⟩
  | 86 => ⟨S64, .f32⟩
  | 87 => ⟨S1x64, .f32⟩
  | 88 => ⟨S64, .f32⟩
  | 89 => ⟨S1x64, .f32⟩
  | 90 => ⟨S64, .f32⟩
  | 91 => ⟨S1x64, .f32⟩
  | 92 => ⟨S64, .f32⟩
  | 93 => ⟨S1x1x64, .f32⟩
  | 94 => ⟨S1x1x64, .f32⟩
  | 95 => ⟨S1x1x64, .f32⟩
  | 96 => ⟨S1x1x64, .f32⟩
  | 97 => ⟨S16x2048x64, .f32⟩
  | 98 => ⟨S16x2048x64, .f32⟩
  | 99 => ⟨S16x2048x64, .f32⟩
  | 100 => ⟨S16x2048x64, .f32⟩
  | 101 => ⟨S_, .f32⟩
  | 102 => ⟨S1x1x64, .f32⟩
  | 103 => ⟨S1x1x64, .f32⟩
  | 104 => ⟨S1x1x64, .f32⟩
  | 105 => ⟨S16x2048x64, .f32⟩
  | 106 => ⟨S16x2048x64, .f32⟩
  | 107 => ⟨S16x2048x64, .f32⟩
  | 108 => ⟨S16x2048x64, .f32⟩
  | 109 => ⟨S_, .f32⟩
  | 110 => ⟨S_, .f32⟩
  | 111 => ⟨S16x2048x64, .f32⟩
  | 112 => ⟨S16x2048x64, .i1⟩
  | 113 => ⟨S_, .f32⟩
  | 114 => ⟨S16x2048x64, .f32⟩
  | 115 => ⟨S16x2048x64, .f32⟩
  | 116 => ⟨S16x2048x64, .f32⟩
  | 117 => ⟨S16x64x256, .f32⟩
  | 118 => ⟨S1024x16x256, .f32⟩
  | 119 => ⟨S16x1024x256, .f32⟩
  | 120 => ⟨S1x1024, .f32⟩
  | 121 => ⟨S1024, .f32⟩
  | 122 => ⟨S1x1024, .f32⟩
  | 123 => ⟨S1024, .f32⟩
  | 124 => ⟨S1x1024, .f32⟩
  | 125 => ⟨S1024, .f32⟩
  | 126 => ⟨S1x1024, .f32⟩
  | 127 => ⟨S1024, .f32⟩
  | _ => ⟨S16x6x2048, .f32⟩

abbrev hbmTy0_2 (i : Nat) : BufTy := match i % 128 with
  | 0 => ⟨S1x1024x1, .f32⟩
  | 1 => ⟨S1x1024x1, .f32⟩
  | 2 => ⟨S1x1024x1, .f32⟩
  | 3 => ⟨S1x1024x1, .f32⟩
  | 4 => ⟨S16x1024x256, .f32⟩
  | 5 => ⟨S16x1024x256, .f32⟩
  | 6 => ⟨S16x1024x256, .f32⟩
  | 7 => ⟨S16x1024x256, .f32⟩
  | 8 => ⟨S_, .f32⟩
  | 9 => ⟨S1x1024x1, .f32⟩
  | 10 => ⟨S1x1024x1, .f32⟩
  | 11 => ⟨S1x1024x1, .f32⟩
  | 12 => ⟨S16x1024x256, .f32⟩
  | 13 => ⟨S16x1024x256, .f32⟩
  | 14 => ⟨S16x1024x256, .f32⟩
  | 15 => ⟨S16x1024x256, .f32⟩
  | 16 => ⟨S_, .f32⟩
  | 17 => ⟨S16x1024x256, .f32⟩
  | 18 => ⟨S16x1024x256, .f32⟩
  | 19 => ⟨S16, .i32⟩
  | 20 => ⟨S16x1, .i32⟩
  | 21 => ⟨S_, .i32⟩
  | 22 => ⟨S16x1, .i32⟩
  | 23 => ⟨S16x1, .i1⟩
  | 24 => ⟨S_, .i32⟩
  | 25 => ⟨S16x1, .i32⟩
  | 26 => ⟨S16x1, .i32⟩
  | 27 => ⟨S16x1, .i32⟩
  | 28 => ⟨S_, .i32⟩
  | 29 => ⟨S16x512, .i32⟩
  | 30 => ⟨S16x512, .i1⟩
  | 31 => ⟨S_, .i32⟩
  | 32 => ⟨S16x512, .i32⟩
  | 33 => ⟨S16x512, .i32⟩
  | 34 => ⟨S16x512, .i32⟩
  | 35 => ⟨S16x512, .i32⟩
  | 36 => ⟨S16x512x1, .i32⟩
  | 37 => ⟨S16x512x1, .i32⟩
  | 38 => ⟨S16x512x2, .i32⟩
  | 39 => ⟨S16x512x64, .f32⟩
  | 40 => ⟨S16x512x3, .f32⟩
  | 41 => ⟨S_, .f32⟩
  | 42 => ⟨S16x512, .f32⟩
  | 43 => ⟨S16x512x1, .f32⟩
  | 44 => ⟨S16x512x2048, .f32⟩
  | 45 => ⟨S_, .f32⟩
  | 46 => ⟨S16x512x2048, .f32⟩
  | 47 => ⟨S16x512x2048, .f32⟩
  | 48 => ⟨S16x512x2048, .f32⟩
  | 49 => ⟨S16x512x2048, .f32⟩
  | 50 => ⟨S16x2048x3, .f32⟩
  | 51 => ⟨S_, .f32⟩
  | 52 => ⟨S16x2048, .f32⟩
  | 53 => ⟨S16x1x2048, .f32⟩
  | 54 => ⟨S16x512x2048, .f32⟩
  | 55 => ⟨S16x512x2048, .f32⟩
  | 56 => ⟨S16x512x2048, .f32⟩
  | 57 => ⟨S16x512x32, .f32⟩
  | 58 => ⟨S16x512x32, .i32⟩
  | 59 => ⟨S16, .i32⟩
  | 60 => ⟨S16x1x1, .i32⟩
  | 61 => ⟨S_, .i32⟩
  | 62 => ⟨S16x1x1, .i32⟩
  | 63 => ⟨S16x1x1, .i1⟩
  | 64 => ⟨S_, .i32⟩
  | 65 => ⟨S16x1x1, .i32⟩
  | 66 => ⟨S16x1x1, .i32⟩
  | 67 => ⟨S16x1x1, .i32⟩
  | 68 => ⟨S_, .i32⟩
  | 69 => ⟨S16x512x32, .i32⟩
  | 70 => ⟨S16x512x32, .i1⟩
  | 71 => ⟨S_, .i32⟩
  | 72 => ⟨S16x512x32, .i32⟩
  | 73 => ⟨S16x512x32, .i32⟩
  | 74 => ⟨S16x512x32, .i32⟩
  | 75 => ⟨S16x512x32, .i32⟩
  | 76 => ⟨S16x512x32x1, .i32⟩
  | 77 => ⟨S16x512x32x1, .i32⟩
  | 78 => ⟨S16x512x32x2, .i32⟩
  | 79 => ⟨S16x512x32x64, .f32⟩
  | 80 => ⟨S16x512x1x64, .f32⟩
  | 81 => ⟨S16x512x32x64, .f32⟩
  | 82 => ⟨S16x512x32x64, .f32⟩
  | 83 => ⟨S16x512x32x128, .f32⟩
  | 84 => ⟨S16x512x32x128, .f32⟩
  | 85 => ⟨S1x128, .f32⟩
  | 86 => ⟨S128, .f32⟩
  | 87 => ⟨S1x128, .f32⟩
  | 88 => ⟨S128, .f32⟩
  | 89 => ⟨S1x128, .f32⟩
  | 90 => ⟨S128, .f32⟩
  | 91 => ⟨S1x128, .f32⟩
  | 92 => ⟨S128, .f32⟩
  | 93 => ⟨S1x1x1x128, .f32⟩
  | 94 => ⟨S1x1x1x128, .f32⟩
  | 95 => ⟨S1x1x1x128, .f32⟩
  | 96 => ⟨S1x1x1x128, .f32⟩
  | 97 => ⟨S16x512x32x128, .f32⟩
  | 98 => ⟨S16x512x32x128, .f32⟩
  | 99 => ⟨S16x512x32x128, .f32⟩
  | 100 => ⟨S16x512x32x128, .f32⟩
  | 101 => ⟨S_, .f32⟩
  | 102 => ⟨S1x1x1x128, .f32⟩
  | 103 => ⟨S1x1x1x128, .f32⟩
  | 104 => ⟨S1x1x1x128, .f32⟩
  | 105 => ⟨S16x512x32x128, .f32⟩
  | 106 => ⟨S16x512x32x128, .f32⟩
  | 107 => ⟨S16x512x32x128, .f32⟩
  | 108 => ⟨S16x512x32x128, .f32⟩
  | 109 => ⟨S_, .f32⟩
  | 110 => ⟨S16x512x32x128, .f32⟩
  | 111 => ⟨S16x512x32x128, .f32⟩
  | 112 => ⟨S_, .f32⟩
  | 113 => ⟨S16x512x128, .f32⟩
  | 114 => ⟨S16, .i32⟩
  | 115 => ⟨S16x1, .i32⟩
  | 116 => ⟨S_, .i32⟩
  | 117 => ⟨S16x1, .i32⟩
  | 118 => ⟨S16x1, .i1⟩
  | 119 => ⟨S_, .i32⟩
  | 120 => ⟨S16x1, .i32⟩
  | 121 => ⟨S16x1, .i32⟩
  | 122 => ⟨S16x1, .i32⟩
  | 123 => ⟨S_, .i32⟩
  | 124 => ⟨S16x256, .i32⟩
  | 125 => ⟨S16x256, .i1⟩
  | 126 => ⟨S_, .i32⟩
  | 127 => ⟨S16x256, .i32⟩
  | _ => ⟨S16x6x2048, .f32⟩

abbrev hbmTy0_3 (i : Nat) : BufTy := match i % 128 with
  | 0 => ⟨S16x256, .i32⟩
  | 1 => ⟨S16x256, .i32⟩
  | 2 => ⟨S16x256, .i32⟩
  | 3 => ⟨S16x256x1, .i32⟩
  | 4 => ⟨S16x256x1, .i32⟩
  | 5 => ⟨S16x256x2, .i32⟩
  | 6 => ⟨S16x256x128, .f32⟩
  | 7 => ⟨S16x256x3, .f32⟩
  | 8 => ⟨S_, .f32⟩
  | 9 => ⟨S16x256, .f32⟩
  | 10 => ⟨S16x256x1, .f32⟩
  | 11 => ⟨S16x256x512, .f32⟩
  | 12 => ⟨S_, .f32⟩
  | 13 => ⟨S16x256x512, .f32⟩
  | 14 => ⟨S16x256x512, .f32⟩
  | 15 => ⟨S16x256x512, .f32⟩
  | 16 => ⟨S16x256x512, .f32⟩
  | 17 => ⟨S16x512x3, .f32⟩
  | 18 => ⟨S_, .f32⟩
  | 19 => ⟨S16x512, .f32⟩
  | 20 => ⟨S16x1x512, .f32⟩
  | 21 => ⟨S16x256x512, .f32⟩
  | 22 => ⟨S16x256x512, .f32⟩
  | 23 => ⟨S16x256x512, .f32⟩
  | 24 => ⟨S16x256x32, .f32⟩
  | 25 => ⟨S16x256x32, .i32⟩
  | 26 => ⟨S16, .i32⟩
  | 27 => ⟨S16x1x1, .i32⟩
  | 28 => ⟨S_, .i32⟩
  | 29 => ⟨S16x1x1, .i32⟩
  | 30 => ⟨S16x1x1, .i1⟩
  | 31 => ⟨S_, .i32⟩
  | 32 => ⟨S16x1x1, .i32⟩
  | 33 => ⟨S16x1x1, .i32⟩
  | 34 => ⟨S16x1x1, .i32⟩
  | 35 => ⟨S_, .i32⟩
  | 36 => ⟨S16x256x32, .i32⟩
  | 37 => ⟨S16x256x32, .i1⟩
  | 38 => ⟨S_, .i32⟩
  | 39 => ⟨S16x256x32, .i32⟩
  | 40 => ⟨S16x256x32, .i32⟩
  | 41 => ⟨S16x256x32, .i32⟩
  | 42 => ⟨S16x256x32, .i32⟩
  | 43 => ⟨S16x256x32x1, .i32⟩
  | 44 => ⟨S16x256x32x1, .i32⟩
  | 45 => ⟨S16x256x32x2, .i32⟩
  | 46 => ⟨S16x256x32x128, .f32⟩
  | 47 => ⟨S16x256x1x128, .f32⟩
  | 48 => ⟨S16x256x32x128, .f32⟩
  | 49 => ⟨S16x256x32x128, .f32⟩
  | 50 => ⟨S16x256x32x256, .f32⟩
  | 51 => ⟨S16x256x32x256, .f32⟩
  | 52 => ⟨S1x256, .f32⟩
  | 53 => ⟨S256, .f32⟩
  | 54 => ⟨S1x256, .f32⟩
  | 55 => ⟨S256, .f32⟩
  | 56 => ⟨S1x256, .f32⟩
  | 57 => ⟨S256, .f32⟩
  | 58 => ⟨S1x256, .f32⟩
  | 59 => ⟨S256, .f32⟩
  | 60 => ⟨S1x1x1x256, .f32⟩
  | 61 => ⟨S1x1x1x256, .f32⟩
  | 62 => ⟨S1x1x1x256, .f32⟩
  | 63 => ⟨S1x1x1x256, .f32⟩
  | 64 => ⟨S16x256x32x256, .f32⟩
  | 65 => ⟨S16x256x32x256, .f32⟩
  | 66 => ⟨S16x256x32x256, .f32⟩
  | 67 => ⟨S16x256x32x256, .f32⟩
  | 68 => ⟨S_, .f32⟩
  | 69 => ⟨S1x1x1x256, .f32⟩
  | 70 => ⟨S1x1x1x256, .f32⟩
  | 71 => ⟨S1x1x1x256, .f32⟩
  | 72 => ⟨S16x256x32x256, .f32⟩
  | 73 => ⟨S16x256x32x256, .f32⟩
  | 74 => ⟨S16x256x32x256, .f32⟩
  | 75 => ⟨S16x256x32x256, .f32⟩
  | 76 => ⟨S_, .f32⟩
  | 77 => ⟨S16x256x32x256, .f32⟩
  | 78 => ⟨S16x256x32x256, .f32⟩
  | 79 => ⟨S_, .f32⟩
  | 80 => ⟨S16x256x256, .f32⟩
  | 81 => ⟨S16x256x256, .f32⟩
  | 82 => ⟨S16x1280x256, .f32⟩
  | 83 => ⟨S512x16x256, .f32⟩
  | 84 => ⟨S16x512x256, .f32⟩
  | 85 => ⟨S1x512, .f32⟩
  | 86 => ⟨S512, .f32⟩
  | 87 => ⟨S1x512, .f32⟩
  | 88 => ⟨S512, .f32⟩
  | 89 => ⟨S1x512, .f32⟩
  | 90 => ⟨S512, .f32⟩
  | 91 => ⟨S1x512, .f32⟩
  | 92 => ⟨S512, .f32⟩
  | 93 => ⟨S1x512x1, .f32⟩
  | 94 => ⟨S1x512x1, .f32⟩
  | 95 => ⟨S1x512x1, .f32⟩
  | 96 => ⟨S1x512x1, .f32⟩
  | 97 => ⟨S16x512x256, .f32⟩
  | 98 => ⟨S16x512x256, .f32⟩
  | 99 => ⟨S16x512x256, .f32⟩
  | 100 => ⟨S16x512x256, .f32⟩
  | 101 => ⟨S_, .f32⟩
  | 102 => ⟨S1x512x1, .f32⟩
  | 103 => ⟨S1x512x1, .f32⟩
  | 104 => ⟨S1x512x1, .f32⟩
  | 105 => ⟨S16x512x256, .f32⟩
  | 106 => ⟨S16x512x256, .f32⟩
  | 107 => ⟨S16x512x256, .f32⟩
  | 108 => ⟨S16x512x256, .f32⟩
  | 109 => ⟨S_, .f32⟩
  | 110 => ⟨S_, .f32⟩
  | 111 => ⟨S16x512x256, .f32⟩
  | 112 => ⟨S16x512x256, .i1⟩
  | 113 => ⟨S_, .f32⟩
  | 114 => ⟨S16x512x256, .f32⟩
  | 115 => ⟨S16x512x256, .f32⟩
  | 116 => ⟨S16x512x256, .f32⟩
  | _ => ⟨S16x6x2048, .f32⟩

abbrev hbmTy (i : Nat) : BufTy := match i / 128 with
  | 0 => hbmTy0_0 i
  | 1 => hbmTy0_1 i
  | 2 => hbmTy0_2 i
  | 3 => hbmTy0_3 i
  | _ => ⟨S16x6x2048, .f32⟩

abbrev bufTy : (tb : Table) → Fin (tcTables nBuf tb) → BufTy
  | .hbm, ⟨i, _⟩ => hbmTy i
  | _, _ => ⟨S16x6x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call0_cst : Ref sig .tc := ⟨.hbm, 49, rfl⟩
abbrev main_call0_v0 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_0 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_1 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_2 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_values : Ref sig .tc := ⟨.hbm, 70, rfl⟩
abbrev main_indices : Ref sig .tc := ⟨.hbm, 71, rfl⟩
abbrev main_v43 : Ref sig .tc := ⟨.hbm, 72, rfl⟩
abbrev main_v44 : Ref sig .tc := ⟨.hbm, 73, rfl⟩
abbrev main_c : Ref sig .tc := ⟨.hbm, 74, rfl⟩
abbrev main_v45 : Ref sig .tc := ⟨.hbm, 75, rfl⟩
abbrev main_v46 : Ref sig .tc := ⟨.hbm, 76, rfl⟩
abbrev main_c_3 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_c_4 : Ref sig .tc := ⟨.hbm, 81, rfl⟩
abbrev main_v50 : Ref sig .tc := ⟨.hbm, 82, rfl⟩
abbrev main_v51 : Ref sig .tc := ⟨.hbm, 83, rfl⟩
abbrev main_c_5 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_6 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_7 : Ref sig .tc := ⟨.hbm, 122, rfl⟩
abbrev main_call1_cst : Ref sig .tc := ⟨.hbm, 123, rfl⟩
abbrev main_call1_v0 : Ref sig .tc := ⟨.hbm, 124, rfl⟩
abbrev main_call1_v1 : Ref sig .tc := ⟨.hbm, 125, rfl⟩
abbrev main_call1_v2 : Ref sig .tc := ⟨.hbm, 126, rfl⟩
abbrev main_call1_v3 : Ref sig .tc := ⟨.hbm, 127, rfl⟩
abbrev main_call1_v4 : Ref sig .tc := ⟨.hbm, 128, rfl⟩
abbrev main_v88 : Ref sig .tc := ⟨.hbm, 129, rfl⟩
abbrev main_cst_8 : Ref sig .tc := ⟨.hbm, 130, rfl⟩
abbrev main_v89 : Ref sig .tc := ⟨.hbm, 131, rfl⟩
abbrev main_v90 : Ref sig .tc := ⟨.hbm, 132, rfl⟩
abbrev main_cst_9 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_10 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_11 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_values_12 : Ref sig .tc := ⟨.hbm, 149, rfl⟩
abbrev main_indices_13 : Ref sig .tc := ⟨.hbm, 150, rfl⟩
abbrev main_v104 : Ref sig .tc := ⟨.hbm, 151, rfl⟩
abbrev main_v105 : Ref sig .tc := ⟨.hbm, 152, rfl⟩
abbrev main_c_14 : Ref sig .tc := ⟨.hbm, 153, rfl⟩
abbrev main_v106 : Ref sig .tc := ⟨.hbm, 154, rfl⟩
abbrev main_v107 : Ref sig .tc := ⟨.hbm, 155, rfl⟩
abbrev main_c_15 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_c_16 : Ref sig .tc := ⟨.hbm, 160, rfl⟩
abbrev main_v111 : Ref sig .tc := ⟨.hbm, 161, rfl⟩
abbrev main_v112 : Ref sig .tc := ⟨.hbm, 162, rfl⟩
abbrev main_c_17 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_cst_18 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_cst_19 : Ref sig .tc := ⟨.hbm, 201, rfl⟩
abbrev main_call2_cst : Ref sig .tc := ⟨.hbm, 202, rfl⟩
abbrev main_call2_v0 : Ref sig .tc := ⟨.hbm, 203, rfl⟩
abbrev main_call2_v1 : Ref sig .tc := ⟨.hbm, 204, rfl⟩
abbrev main_call2_v2 : Ref sig .tc := ⟨.hbm, 205, rfl⟩
abbrev main_call2_v3 : Ref sig .tc := ⟨.hbm, 206, rfl⟩
abbrev main_call2_v4 : Ref sig .tc := ⟨.hbm, 207, rfl⟩
abbrev main_v149 : Ref sig .tc := ⟨.hbm, 208, rfl⟩
abbrev main_cst_20 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_cst_21 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_cst_22 : Ref sig .tc := ⟨.hbm, 237, rfl⟩
abbrev main_call3_cst : Ref sig .tc := ⟨.hbm, 238, rfl⟩
abbrev main_call3_v0 : Ref sig .tc := ⟨.hbm, 239, rfl⟩
abbrev main_call3_v1 : Ref sig .tc := ⟨.hbm, 240, rfl⟩
abbrev main_call3_v2 : Ref sig .tc := ⟨.hbm, 241, rfl⟩
abbrev main_call3_v3 : Ref sig .tc := ⟨.hbm, 242, rfl⟩
abbrev main_call3_v4 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_cst_23 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_call4_cst : Ref sig .tc := ⟨.hbm, 272, rfl⟩
abbrev main_call4_v0 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_c_24 : Ref sig .tc := ⟨.hbm, 277, rfl⟩
abbrev main_v206 : Ref sig .tc := ⟨.hbm, 278, rfl⟩
abbrev main_v207 : Ref sig .tc := ⟨.hbm, 279, rfl⟩
abbrev main_c_25 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_c_26 : Ref sig .tc := ⟨.hbm, 284, rfl⟩
abbrev main_v211 : Ref sig .tc := ⟨.hbm, 285, rfl⟩
abbrev main_v212 : Ref sig .tc := ⟨.hbm, 286, rfl⟩
abbrev main_c_27 : Ref sig .tc := ⟨.hbm, 287, rfl⟩
abbrev main_v213 : Ref sig .tc := ⟨.hbm, 288, rfl⟩
abbrev main_v214 : Ref sig .tc := ⟨.hbm, 289, rfl⟩
abbrev main_v215 : Ref sig .tc := ⟨.hbm, 290, rfl⟩
abbrev main_v216 : Ref sig .tc := ⟨.hbm, 291, rfl⟩
abbrev main_v217 : Ref sig .tc := ⟨.hbm, 292, rfl⟩
abbrev main_v218 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_cst_28 : Ref sig .tc := ⟨.hbm, 297, rfl⟩
abbrev main_v222 : Ref sig .tc := ⟨.hbm, 298, rfl⟩
abbrev main_v223 : Ref sig .tc := ⟨.hbm, 299, rfl⟩
abbrev main_v224 : Ref sig .tc := ⟨.hbm, 300, rfl⟩
abbrev main_cst_29 : Ref sig .tc := ⟨.hbm, 301, rfl⟩
abbrev main_v225 : Ref sig .tc := ⟨.hbm, 302, rfl⟩
abbrev main_v226 : Ref sig .tc := ⟨.hbm, 303, rfl⟩
abbrev main_v227 : Ref sig .tc := ⟨.hbm, 304, rfl⟩
abbrev main_v228 : Ref sig .tc := ⟨.hbm, 305, rfl⟩
abbrev main_v229 : Ref sig .tc := ⟨.hbm, 306, rfl⟩
abbrev main_cst_30 : Ref sig .tc := ⟨.hbm, 307, rfl⟩
abbrev main_v230 : Ref sig .tc := ⟨.hbm, 308, rfl⟩
abbrev main_v231 : Ref sig .tc := ⟨.hbm, 309, rfl⟩
abbrev main_v232 : Ref sig .tc := ⟨.hbm, 310, rfl⟩
abbrev main_v233 : Ref sig .tc := ⟨.hbm, 311, rfl⟩
abbrev main_v234 : Ref sig .tc := ⟨.hbm, 312, rfl⟩
abbrev main_values_31 : Ref sig .tc := ⟨.hbm, 313, rfl⟩
abbrev main_indices_32 : Ref sig .tc := ⟨.hbm, 314, rfl⟩
abbrev main_v235 : Ref sig .tc := ⟨.hbm, 315, rfl⟩
abbrev main_v236 : Ref sig .tc := ⟨.hbm, 316, rfl⟩
abbrev main_c_33 : Ref sig .tc := ⟨.hbm, 317, rfl⟩
abbrev main_v237 : Ref sig .tc := ⟨.hbm, 318, rfl⟩
abbrev main_v238 : Ref sig .tc := ⟨.hbm, 319, rfl⟩
abbrev main_c_34 : Ref sig .tc := ⟨.hbm, 320, rfl⟩
abbrev main_v239 : Ref sig .tc := ⟨.hbm, 321, rfl⟩
abbrev main_v240 : Ref sig .tc := ⟨.hbm, 322, rfl⟩
abbrev main_v241 : Ref sig .tc := ⟨.hbm, 323, rfl⟩
abbrev main_c_35 : Ref sig .tc := ⟨.hbm, 324, rfl⟩
abbrev main_v242 : Ref sig .tc := ⟨.hbm, 325, rfl⟩
abbrev main_v243 : Ref sig .tc := ⟨.hbm, 326, rfl⟩
abbrev main_c_36 : Ref sig .tc := ⟨.hbm, 327, rfl⟩
abbrev main_v244 : Ref sig .tc := ⟨.hbm, 328, rfl⟩
abbrev main_v245 : Ref sig .tc := ⟨.hbm, 329, rfl⟩
abbrev main_v246 : Ref sig .tc := ⟨.hbm, 330, rfl⟩
abbrev main_v247 : Ref sig .tc := ⟨.hbm, 331, rfl⟩
abbrev main_v248 : Ref sig .tc := ⟨.hbm, 332, rfl⟩
abbrev main_v249 : Ref sig .tc := ⟨.hbm, 333, rfl⟩
abbrev main_v250 : Ref sig .tc := ⟨.hbm, 334, rfl⟩
abbrev main_v251 : Ref sig .tc := ⟨.hbm, 335, rfl⟩
abbrev main_v252 : Ref sig .tc := ⟨.hbm, 336, rfl⟩
abbrev main_v253 : Ref sig .tc := ⟨.hbm, 337, rfl⟩
abbrev main_v254 : Ref sig .tc := ⟨.hbm, 338, rfl⟩
abbrev main_v255 : Ref sig .tc := ⟨.hbm, 339, rfl⟩
abbrev main_v256 : Ref sig .tc := ⟨.hbm, 340, rfl⟩
abbrev main_v257 : Ref sig .tc := ⟨.hbm, 341, rfl⟩
abbrev main_v258 : Ref sig .tc := ⟨.hbm, 342, rfl⟩
abbrev main_v259 : Ref sig .tc := ⟨.hbm, 343, rfl⟩
abbrev main_v260 : Ref sig .tc := ⟨.hbm, 344, rfl⟩
abbrev main_v261 : Ref sig .tc := ⟨.hbm, 345, rfl⟩
abbrev main_v262 : Ref sig .tc := ⟨.hbm, 346, rfl⟩
abbrev main_v263 : Ref sig .tc := ⟨.hbm, 347, rfl⟩
abbrev main_v264 : Ref sig .tc := ⟨.hbm, 348, rfl⟩
abbrev main_v265 : Ref sig .tc := ⟨.hbm, 349, rfl⟩
abbrev main_v266 : Ref sig .tc := ⟨.hbm, 350, rfl⟩
abbrev main_v267 : Ref sig .tc := ⟨.hbm, 351, rfl⟩
abbrev main_v268 : Ref sig .tc := ⟨.hbm, 352, rfl⟩
abbrev main_v269 : Ref sig .tc := ⟨.hbm, 353, rfl⟩
abbrev main_v270 : Ref sig .tc := ⟨.hbm, 354, rfl⟩
abbrev main_v271 : Ref sig .tc := ⟨.hbm, 355, rfl⟩
abbrev main_v272 : Ref sig .tc := ⟨.hbm, 356, rfl⟩
abbrev main_cst_37 : Ref sig .tc := ⟨.hbm, 357, rfl⟩
abbrev main_v273 : Ref sig .tc := ⟨.hbm, 358, rfl⟩
abbrev main_v274 : Ref sig .tc := ⟨.hbm, 359, rfl⟩
abbrev main_v275 : Ref sig .tc := ⟨.hbm, 360, rfl⟩
abbrev main_v276 : Ref sig .tc := ⟨.hbm, 361, rfl⟩
abbrev main_v277 : Ref sig .tc := ⟨.hbm, 362, rfl⟩
abbrev main_v278 : Ref sig .tc := ⟨.hbm, 363, rfl⟩
abbrev main_v279 : Ref sig .tc := ⟨.hbm, 364, rfl⟩
abbrev main_call5_cst : Ref sig .tc := ⟨.hbm, 365, rfl⟩
abbrev main_call5_v0 : Ref sig .tc := ⟨.hbm, 366, rfl⟩
abbrev main_v280 : Ref sig .tc := ⟨.hbm, 367, rfl⟩
abbrev main_cst_38 : Ref sig .tc := ⟨.hbm, 368, rfl⟩
abbrev main_v281 : Ref sig .tc := ⟨.hbm, 369, rfl⟩
abbrev main_v282 : Ref sig .tc := ⟨.hbm, 370, rfl⟩
abbrev main_v283 : Ref sig .tc := ⟨.hbm, 371, rfl⟩
abbrev main_c_39 : Ref sig .tc := ⟨.hbm, 372, rfl⟩
abbrev main_v284 : Ref sig .tc := ⟨.hbm, 373, rfl⟩
abbrev main_v285 : Ref sig .tc := ⟨.hbm, 374, rfl⟩
abbrev main_c_40 : Ref sig .tc := ⟨.hbm, 375, rfl⟩
abbrev main_v286 : Ref sig .tc := ⟨.hbm, 376, rfl⟩
abbrev main_v287 : Ref sig .tc := ⟨.hbm, 377, rfl⟩
abbrev main_v288 : Ref sig .tc := ⟨.hbm, 378, rfl⟩
abbrev main_c_41 : Ref sig .tc := ⟨.hbm, 379, rfl⟩
abbrev main_v289 : Ref sig .tc := ⟨.hbm, 380, rfl⟩
abbrev main_v290 : Ref sig .tc := ⟨.hbm, 381, rfl⟩
abbrev main_c_42 : Ref sig .tc := ⟨.hbm, 382, rfl⟩
abbrev main_v291 : Ref sig .tc := ⟨.hbm, 383, rfl⟩
abbrev main_v292 : Ref sig .tc := ⟨.hbm, 384, rfl⟩
abbrev main_v293 : Ref sig .tc := ⟨.hbm, 385, rfl⟩
abbrev main_v294 : Ref sig .tc := ⟨.hbm, 386, rfl⟩
abbrev main_v295 : Ref sig .tc := ⟨.hbm, 387, rfl⟩
abbrev main_v296 : Ref sig .tc := ⟨.hbm, 388, rfl⟩
abbrev main_v297 : Ref sig .tc := ⟨.hbm, 389, rfl⟩
abbrev main_v298 : Ref sig .tc := ⟨.hbm, 390, rfl⟩
abbrev main_v299 : Ref sig .tc := ⟨.hbm, 391, rfl⟩
abbrev main_cst_43 : Ref sig .tc := ⟨.hbm, 392, rfl⟩
abbrev main_v300 : Ref sig .tc := ⟨.hbm, 393, rfl⟩
abbrev main_v301 : Ref sig .tc := ⟨.hbm, 394, rfl⟩
abbrev main_v302 : Ref sig .tc := ⟨.hbm, 395, rfl⟩
abbrev main_cst_44 : Ref sig .tc := ⟨.hbm, 396, rfl⟩
abbrev main_v303 : Ref sig .tc := ⟨.hbm, 397, rfl⟩
abbrev main_v304 : Ref sig .tc := ⟨.hbm, 398, rfl⟩
abbrev main_v305 : Ref sig .tc := ⟨.hbm, 399, rfl⟩
abbrev main_v306 : Ref sig .tc := ⟨.hbm, 400, rfl⟩
abbrev main_v307 : Ref sig .tc := ⟨.hbm, 401, rfl⟩
abbrev main_cst_45 : Ref sig .tc := ⟨.hbm, 402, rfl⟩
abbrev main_v308 : Ref sig .tc := ⟨.hbm, 403, rfl⟩
abbrev main_v309 : Ref sig .tc := ⟨.hbm, 404, rfl⟩
abbrev main_v310 : Ref sig .tc := ⟨.hbm, 405, rfl⟩
abbrev main_v311 : Ref sig .tc := ⟨.hbm, 406, rfl⟩
abbrev main_v312 : Ref sig .tc := ⟨.hbm, 407, rfl⟩
abbrev main_values_46 : Ref sig .tc := ⟨.hbm, 408, rfl⟩
abbrev main_indices_47 : Ref sig .tc := ⟨.hbm, 409, rfl⟩
abbrev main_v313 : Ref sig .tc := ⟨.hbm, 410, rfl⟩
abbrev main_v314 : Ref sig .tc := ⟨.hbm, 411, rfl⟩
abbrev main_c_48 : Ref sig .tc := ⟨.hbm, 412, rfl⟩
abbrev main_v315 : Ref sig .tc := ⟨.hbm, 413, rfl⟩
abbrev main_v316 : Ref sig .tc := ⟨.hbm, 414, rfl⟩
abbrev main_c_49 : Ref sig .tc := ⟨.hbm, 415, rfl⟩
abbrev main_v317 : Ref sig .tc := ⟨.hbm, 416, rfl⟩
abbrev main_v318 : Ref sig .tc := ⟨.hbm, 417, rfl⟩
abbrev main_v319 : Ref sig .tc := ⟨.hbm, 418, rfl⟩
abbrev main_c_50 : Ref sig .tc := ⟨.hbm, 419, rfl⟩
abbrev main_v320 : Ref sig .tc := ⟨.hbm, 420, rfl⟩
abbrev main_v321 : Ref sig .tc := ⟨.hbm, 421, rfl⟩
abbrev main_c_51 : Ref sig .tc := ⟨.hbm, 422, rfl⟩
abbrev main_v322 : Ref sig .tc := ⟨.hbm, 423, rfl⟩
abbrev main_v323 : Ref sig .tc := ⟨.hbm, 424, rfl⟩
abbrev main_v324 : Ref sig .tc := ⟨.hbm, 425, rfl⟩
abbrev main_v325 : Ref sig .tc := ⟨.hbm, 426, rfl⟩
abbrev main_v326 : Ref sig .tc := ⟨.hbm, 427, rfl⟩
abbrev main_v327 : Ref sig .tc := ⟨.hbm, 428, rfl⟩
abbrev main_v328 : Ref sig .tc := ⟨.hbm, 429, rfl⟩
abbrev main_v329 : Ref sig .tc := ⟨.hbm, 430, rfl⟩
abbrev main_v330 : Ref sig .tc := ⟨.hbm, 431, rfl⟩
abbrev main_v331 : Ref sig .tc := ⟨.hbm, 432, rfl⟩
abbrev main_v332 : Ref sig .tc := ⟨.hbm, 433, rfl⟩
abbrev main_v333 : Ref sig .tc := ⟨.hbm, 434, rfl⟩
abbrev main_v334 : Ref sig .tc := ⟨.hbm, 435, rfl⟩
abbrev main_v335 : Ref sig .tc := ⟨.hbm, 436, rfl⟩
abbrev main_v336 : Ref sig .tc := ⟨.hbm, 437, rfl⟩
abbrev main_v337 : Ref sig .tc := ⟨.hbm, 438, rfl⟩
abbrev main_v338 : Ref sig .tc := ⟨.hbm, 439, rfl⟩
abbrev main_v339 : Ref sig .tc := ⟨.hbm, 440, rfl⟩
abbrev main_v340 : Ref sig .tc := ⟨.hbm, 441, rfl⟩
abbrev main_v341 : Ref sig .tc := ⟨.hbm, 442, rfl⟩
abbrev main_v342 : Ref sig .tc := ⟨.hbm, 443, rfl⟩
abbrev main_v343 : Ref sig .tc := ⟨.hbm, 444, rfl⟩
abbrev main_v344 : Ref sig .tc := ⟨.hbm, 445, rfl⟩
abbrev main_v345 : Ref sig .tc := ⟨.hbm, 446, rfl⟩
abbrev main_v346 : Ref sig .tc := ⟨.hbm, 447, rfl⟩
abbrev main_v347 : Ref sig .tc := ⟨.hbm, 448, rfl⟩
abbrev main_v348 : Ref sig .tc := ⟨.hbm, 449, rfl⟩
abbrev main_v349 : Ref sig .tc := ⟨.hbm, 450, rfl⟩
abbrev main_v350 : Ref sig .tc := ⟨.hbm, 451, rfl⟩
abbrev main_cst_52 : Ref sig .tc := ⟨.hbm, 452, rfl⟩
abbrev main_v351 : Ref sig .tc := ⟨.hbm, 453, rfl⟩
abbrev main_v352 : Ref sig .tc := ⟨.hbm, 454, rfl⟩
abbrev main_v353 : Ref sig .tc := ⟨.hbm, 455, rfl⟩
abbrev main_v354 : Ref sig .tc := ⟨.hbm, 456, rfl⟩
abbrev main_v355 : Ref sig .tc := ⟨.hbm, 457, rfl⟩
abbrev main_v356 : Ref sig .tc := ⟨.hbm, 458, rfl⟩
abbrev main_v357 : Ref sig .tc := ⟨.hbm, 459, rfl⟩
abbrev main_call6_cst : Ref sig .tc := ⟨.hbm, 460, rfl⟩
abbrev main_call6_v0 : Ref sig .tc := ⟨.hbm, 461, rfl⟩
abbrev main_v358 : Ref sig .tc := ⟨.hbm, 462, rfl⟩
abbrev main_cst_53 : Ref sig .tc := ⟨.hbm, 463, rfl⟩
abbrev main_v359 : Ref sig .tc := ⟨.hbm, 464, rfl⟩
abbrev main_v360 : Ref sig .tc := ⟨.hbm, 465, rfl⟩
abbrev main_v361 : Ref sig .tc := ⟨.hbm, 466, rfl⟩
abbrev main_v362 : Ref sig .tc := ⟨.hbm, 467, rfl⟩
abbrev main_v363 : Ref sig .tc := ⟨.hbm, 468, rfl⟩
abbrev main_v364 : Ref sig .tc := ⟨.hbm, 469, rfl⟩
abbrev main_v365 : Ref sig .tc := ⟨.hbm, 470, rfl⟩
abbrev main_v366 : Ref sig .tc := ⟨.hbm, 471, rfl⟩
abbrev main_v367 : Ref sig .tc := ⟨.hbm, 472, rfl⟩
abbrev main_v368 : Ref sig .tc := ⟨.hbm, 473, rfl⟩
abbrev main_v369 : Ref sig .tc := ⟨.hbm, 474, rfl⟩
abbrev main_v370 : Ref sig .tc := ⟨.hbm, 475, rfl⟩
abbrev main_v371 : Ref sig .tc := ⟨.hbm, 476, rfl⟩
abbrev main_v372 : Ref sig .tc := ⟨.hbm, 477, rfl⟩
abbrev main_v373 : Ref sig .tc := ⟨.hbm, 478, rfl⟩
abbrev main_v374 : Ref sig .tc := ⟨.hbm, 479, rfl⟩
abbrev main_v375 : Ref sig .tc := ⟨.hbm, 480, rfl⟩
abbrev main_v376 : Ref sig .tc := ⟨.hbm, 481, rfl⟩
abbrev main_v377 : Ref sig .tc := ⟨.hbm, 482, rfl⟩
abbrev main_v378 : Ref sig .tc := ⟨.hbm, 483, rfl⟩
abbrev main_v379 : Ref sig .tc := ⟨.hbm, 484, rfl⟩
abbrev main_cst_54 : Ref sig .tc := ⟨.hbm, 485, rfl⟩
abbrev main_v380 : Ref sig .tc := ⟨.hbm, 486, rfl⟩
abbrev main_v381 : Ref sig .tc := ⟨.hbm, 487, rfl⟩
abbrev main_v382 : Ref sig .tc := ⟨.hbm, 488, rfl⟩
abbrev main_v383 : Ref sig .tc := ⟨.hbm, 489, rfl⟩
abbrev main_v384 : Ref sig .tc := ⟨.hbm, 490, rfl⟩
abbrev main_v385 : Ref sig .tc := ⟨.hbm, 491, rfl⟩
abbrev main_v386 : Ref sig .tc := ⟨.hbm, 492, rfl⟩
abbrev main_cst_55 : Ref sig .tc := ⟨.hbm, 493, rfl⟩
abbrev main_call7_cst : Ref sig .tc := ⟨.hbm, 494, rfl⟩
abbrev main_call7_v0 : Ref sig .tc := ⟨.hbm, 495, rfl⟩
abbrev main_call7_v1 : Ref sig .tc := ⟨.hbm, 496, rfl⟩
abbrev main_call7_v2 : Ref sig .tc := ⟨.hbm, 497, rfl⟩
abbrev main_call7_v3 : Ref sig .tc := ⟨.hbm, 498, rfl⟩
abbrev main_call7_v4 : Ref sig .tc := ⟨.hbm, 499, rfl⟩
abbrev main_v387 : Ref sig .tc := ⟨.hbm, 500, rfl⟩

abbrev nD : Nat := 1
abbrev τ : Topo := Topo.v7x

variable {F : FTy → Type} [FloatOps F]
-- ==== Proof.Rank.lean ====
/- Choosing the nearest `k` of `n` entries one at a time is choosing the first `k` of the entries sorted by distance, ties by
   index. Nothing here mentions a program: a row of distances is a function `Fin n → EReal`. -/
module

public import Idealize.ShloMosaic.PureOps.Ideal
public import Idealize.ShloMosaic.Lib.SortFacts

@[expose] public section

noncomputable section

namespace Cert.Knn

open Idealize.ShloMosaic

variable {n : ℕ}

/-- `a` comes before `b` in a row of distances: strictly nearer, or as near and at the lower index. -/
def Nearer (d : Fin n → EReal) (a b : Fin n) : Prop := d a < d b ∨ (d a = d b ∧ a < b)

/-- `p` is the first nearest entry of the row `d`. -/
def IsFirst (d : Fin n → EReal) (p : Fin n) : Prop := ∀ i, i ≠ p → Nearer d p i

/-- A row has at most one first nearest entry. -/
theorem IsFirst.unique {d : Fin n → EReal} {p q : Fin n} (hp : IsFirst d p) (hq : IsFirst d q) : p = q := by
  by_contra h
  rcases hp q (Ne.symm h) with h1 | ⟨h1, h1'⟩ <;> rcases hq p h with h2 | ⟨h2, h2'⟩
  · exact absurd h1 (not_lt.mpr h2.le)
  · rw [h2] at h1; exact lt_irrefl _ h1
  · rw [h1] at h2; exact lt_irrefl _ h2
  · exact absurd h1' (not_lt.mpr h2'.le)

/-- The entries of a row sorted by distance, ties by index: `rank d t` is the `t`-th nearest. -/
def rank (d : Fin n → EReal) : Fin n → Fin n := sortedFrom fun a b => decide (d a < d b)

/-- Inserting an entry that precedes every entry of a sorted list keeps the list sorted. -/
theorem pairwise_insert (d : Fin n → EReal) (a : Fin n) (l : List (Fin n)) (ha : ∀ b ∈ l, a < b)
    (hl : l.Pairwise (Nearer d)) : (insertBefore (fun x y => decide (d x < d y)) a l).Pairwise (Nearer d) := by
  induction l with
  | nil => simp [insertBefore]
  | cons b l ih =>
    obtain ⟨hb, hl'⟩ := List.pairwise_cons.mp hl
    have iht := ih (fun x hx => ha x (List.mem_cons_of_mem _ hx)) hl'
    rw [insertBefore]
    by_cases h : d b < d a
    · rw [if_pos (by simpa using h)]
      refine List.pairwise_cons.mpr ⟨fun x hx => ?_, iht⟩
      have hx' := (perm_insertBefore _ a l).mem_iff.mp hx
      rcases List.mem_cons.mp hx' with rfl | hx'
      · exact Or.inl h
      · exact hb x hx'
    · rw [if_neg (by simpa using h)]
      refine List.pairwise_cons.mpr ⟨fun x hx => ?_, hl⟩
      have hax := ha x hx
      have hle : d a ≤ d x := by
        rcases List.mem_cons.mp hx with rfl | hx'
        · exact not_lt.mp h
        · rcases hb x hx' with h1 | ⟨h1, -⟩
          · exact (not_lt.mp h).trans h1.le
          · exact h1 ▸ not_lt.mp h
      rcases hle.lt_or_eq with h1 | h1
      · exact Or.inl h1
      · exact Or.inr ⟨h1, hax⟩

/-- The stable sort of an increasing list of entries is sorted by distance, ties by index. -/
theorem pairwise_sort (d : Fin n → EReal) (l : List (Fin n)) (hl : l.Pairwise (· < ·)) :
    (stableSort (fun x y => decide (d x < d y)) l).Pairwise (Nearer d) := by
  induction l with
  | nil => simp [stableSort]
  | cons a l ih =>
    obtain ⟨ha, hl'⟩ := List.pairwise_cons.mp hl
    rw [stableSort]
    exact pairwise_insert d a _ (fun b hb => ha b ((perm_stableSort _ l).mem_iff.mp hb)) (ih hl')

/-- A lower rank is nearer. -/
theorem nearer_rank (d : Fin n → EReal) {s t : Fin n} (h : s < t) : Nearer d (rank d s) (rank d t) := by
  have hp : (sortPositions n fun a b => decide (d a < d b)).Pairwise (Nearer d) :=
    pairwise_sort d _ (List.pairwise_lt_finRange n)
  exact List.pairwise_iff_getElem.mp hp s t _ _ h

theorem rank_injective (d : Fin n → EReal) : Function.Injective (rank d) := sortedFrom_injective _

theorem rank_surjective (d : Fin n → EReal) : Function.Surjective (rank d) := sortedFrom_surjective _

/-- The row after the `t` nearest entries have been taken out: their distances read `+∞`. -/
def taken (d : Fin n → EReal) (t : ℕ) : Fin n → EReal :=
  fun i => if ∃ s : Fin n, s.val < t ∧ rank d s = i then ⊤ else d i

theorem taken_zero (d : Fin n → EReal) : taken d 0 = d := by
  funext i; unfold taken; rw [if_neg]; rintro ⟨s, hs, -⟩; omega

/-- The first nearest entry left after `t` have been taken out is the `t`-th nearest, when every distance is below `+∞`. -/
theorem isFirst_taken (d : Fin n → EReal) (hd : ∀ i, d i < ⊤) (t : Fin n) : IsFirst (taken d t.val) (rank d t) := by
  intro i hi
  have h0 : taken d t.val (rank d t) = d (rank d t) := by
    unfold taken; rw [if_neg]
    rintro ⟨s, hs, he⟩
    exact absurd (rank_injective d he) (fun h => by subst h; omega)
  obtain ⟨s, rfl⟩ := rank_surjective d i
  unfold Nearer
  rw [h0]
  by_cases hs : s.val < t.val
  · left
    have : taken d t.val (rank d s) = ⊤ := by unfold taken; rw [if_pos ⟨s, hs, rfl⟩]
    rw [this]; exact hd _
  · have hts : t < s := by
      rcases lt_trichotomy t s with h | h | h
      · exact h
      · exact absurd (h ▸ rfl) hi
      · exact absurd h hs
    have : taken d t.val (rank d s) = d (rank d s) := by
      unfold taken; rw [if_neg]
      rintro ⟨u, hu, he⟩
      exact hs (rank_injective d he ▸ hu)
    rw [this]
    exact nearer_rank d hts

/-- Taking out one more. -/
theorem taken_succ (d : Fin n → EReal) (t : Fin n) (i : Fin n) :
    taken d (t.val + 1) i = if i = rank d t then ⊤ else taken d t.val i := by
  unfold taken
  by_cases h : i = rank d t
  · rw [if_pos h, if_pos ⟨t, by omega, h.symm⟩]
  · rw [if_neg h]
    congr 1
    refine propext ⟨?_, ?_⟩
    · rintro ⟨s, hs, he⟩
      refine ⟨s, ?_, he⟩
      rcases Nat.lt_succ_iff_lt_or_eq.mp hs with h1 | h1
      · exact h1
      · exact absurd (by rw [← he, Fin.ext h1]) h
    · rintro ⟨s, hs, he⟩; exact ⟨s, by omega, he⟩

/-- The largest value among the `t` nearest entries, `-∞` for none. -/
def best (d : Fin n → EReal) (v : Fin n → EReal) (t : ℕ) : EReal :=
  (Finset.univ.filter fun s : Fin n => s.val < t).sup fun s => v (rank d s)

theorem best_zero (d v : Fin n → EReal) : best d v 0 = ⊥ := by
  unfold best; rw [show (Finset.univ.filter fun s : Fin n => s.val < 0) = ∅ by ext; simp]; exact Finset.sup_empty

/-- One more entry. -/
theorem best_succ (d v : Fin n → EReal) (t : Fin n) : best d v (t.val + 1) = max (best d v t.val) (v (rank d t)) := by
  unfold best
  rw [show (Finset.univ.filter fun s : Fin n => s.val < t.val + 1) = insert t (Finset.univ.filter fun s : Fin n => s.val < t.val) by
    ext s; simp only [Finset.mem_filter, Finset.mem_univ, true_and, Finset.mem_insert, Fin.ext_iff]; omega,
    Finset.sup_insert, sup_comm]

/-- The best of `k` is the maximum over the `k` ranks. -/
theorem best_eq_sup (d v : Fin n → EReal) (k : ℕ) (hk : k ≤ n) :
    best d v k = Finset.univ.sup fun t : Fin k => v (rank d (t.castLE hk)) := by
  unfold best
  apply le_antisymm
  · refine Finset.sup_le fun s hs => ?_
    have h : s.val < k := (Finset.mem_filter.mp hs).2
    exact Finset.le_sup (f := fun t : Fin k => v (rank d (t.castLE hk))) (Finset.mem_univ ⟨s.val, h⟩)
  · refine Finset.sup_le fun t _ => ?_
    exact Finset.le_sup (f := fun s : Fin n => v (rank d s)) (Finset.mem_filter.mpr ⟨Finset.mem_univ _, t.isLt⟩)

end Cert.Knn

end
-- ==== Proof.Gather.lean ====
/- The reference's neighbour lists read at an index: the first `K` of a sort of the negated distances are the `K` nearest, and
   the gather at a pair (batch, neighbour) reads that neighbour's row. -/
module

public import proofs.«01_k».proof.Proof.Rank
public import Idealize.ShloMosaic.Lib.Pointwise
public import Idealize.ShloMosaic.Lib.ValueIdxCore

@[expose] public section

noncomputable section

namespace Cert.Knn

open Idealize.ShloMosaic

variable {B N M K D : ℕ}

/-- Replacing the last of three coordinates. -/
theorem along_ix3 (b : Fin B) (m : Fin M) (t k : Fin N) :
    (ix3 b m t : (⟨3, ![B, M, N]⟩ : Shape).Idx).along 2 k = ix3 b m k := by
  funext a
  match a with
  | ⟨0, _⟩ => rfl
  | ⟨1, _⟩ => rfl
  | ⟨2, _⟩ => rfl

/-- The `t`-th of the greatest negated distances of a row is at the position of the `t`-th nearest. -/
theorem topK_neg (hK : K ≤ N) (x : FVec Ideal ⟨3, ![B, M, N]⟩ .f32)
    (h : (⟨3, ![B, M, N]⟩ : Shape).Slices (fun _ => 0) ⟨3, ![B, M, K]⟩) (b : Fin B) (m : Fin M) (t : Fin K)
    (d : Fin N → EReal) (hd : ∀ i, x (ix3 b m i) = -d i) :
    (Host.topK ⟨3, ![B, M, K]⟩ 2 (FloatOps.cmpfTotal (F := Ideal) (φ := .f32) .gt) x h).2 (ix3 b m t)
      = BitVec.ofNat 32 (rank d (t.castLE hK)).val := by
  unfold Host.topK
  dsimp only
  have hslice : ∀ y : IVec ⟨3, ![B, M, N]⟩ 32, extractStridedSlice ⟨3, ![B, M, K]⟩ (fun _ => 0) y h (ix3 b m t) = y (ix3 b m (t.castLE hK)) := by
    intro y
    unfold extractStridedSlice
    congr 1
    funext a
    match a with
    | ⟨0, _⟩ => exact Fin.ext (Nat.zero_add _)
    | ⟨1, _⟩ => exact Fin.ext (Nat.zero_add _)
    | ⟨2, _⟩ => exact Fin.ext (Nat.zero_add _)
  rw [hslice]
  unfold Host.sort2
  rw [dif_pos (show 2 < 3 by decide)]
  dsimp only
  rw [dif_pos (show 2 < 3 by decide)]
  show BitVec.ofNat 32 _ = _
  congr 1
  show (sortedFrom (n := N) (fun k k' => FloatOps.cmpfTotal (F := Ideal) (φ := .f32) .gt
    (x ((ix3 b m (t.castLE hK) : (⟨3, ![B, M, N]⟩ : Shape).Idx).along 2 k)) (x ((ix3 b m (t.castLE hK) : (⟨3, ![B, M, N]⟩ : Shape).Idx).along 2 k')) == 1#1)
    (t.castLE hK)).val = _
  simp only [along_ix3, hd]
  unfold rank
  congr 2
  funext k k'
  rw [Ideal.cmpfTotal_def]
  show (BitVec.ofBool (decide (-d k' < -d k)) == 1#1) = _
  by_cases hlt : d k < d k' <;> simp [hlt, EReal.neg_lt_neg_iff]

/-- An index word below `2³¹` is not negative, so wrapping negative ones round leaves it. -/
theorem wrap_word (p : ℕ) (hp : p < 2 ^ 31) (w z : BitVec 32) (hw : w = BitVec.ofNat 32 p) :
    (Scalar.select (IntOp.cmpi .slt w 0#32) z w).toInt.toNat = p := by
  have h : w.toInt = p := by
    rw [hw, BitVec.toInt_eq_toNat_of_lt (by rw [BitVec.toNat_ofNat]; omega), BitVec.toNat_ofNat, Nat.mod_eq_of_lt (by omega)]
  have hc : IntOp.cmpi .slt w 0#32 = 0#1 := by
    show BitVec.ofBool (w.slt 0#32) = 0#1
    rw [BitVec.slt_eq_decide, h, decide_eq_false (by simp)]
    rfl
  rw [hc]
  show (w.toInt).toNat = p
  rw [h]; rfl

/-- The dimension numbers of a gather of rows by pairs (batch, position). -/
abbrev pickDims (B N M K D : ℕ) (wf : GatherDims.WF ⟨3, ![B, N, D]⟩ ⟨4, ![B, M, K, 2]⟩ ⟨4, ![B, M, K, D]⟩ [3] [0, 1] [] [0, 1] [] 3 ![1, 1, D]) :
    GatherDims ⟨3, ![B, N, D]⟩ ⟨4, ![B, M, K, 2]⟩ ⟨4, ![B, M, K, D]⟩ where
  offsetDims := [3]
  collapsedSliceDims := [0, 1]
  operandBatchingDims := []
  startIndicesBatchingDims := []
  startIndexMap := [0, 1]
  indexVectorDim := 3
  sliceSizes := ![1, 1, D]
  wf := wf

/-- Such a gather reads, at `(b, m, k, c)`, the row whose batch and position are the words there. -/
theorem gather_pick {α : Type} (wf) (x : (⟨3, ![B, N, D]⟩ : Shape).Idx → α) (idx : IVec ⟨4, ![B, M, K, 2]⟩ 32) (b : Fin B) (m : Fin M) (k : Fin K)
    (c : Fin D) (b' : Fin B) (p : Fin N) (hb : (idx (ix4 b m k 0)).toInt.toNat = b'.val) (hp : (idx (ix4 b m k 1)).toInt.toNat = p.val) :
    Host.gather (pickDims B N M K D wf) x idx (ix4 b m k c) = x (ix3 b' p c) := by
  unfold Host.gather
  congr 1
  funext a
  refine Fin.ext ?_
  show (pickDims B N M K D wf).start (ix4 b m k c) idx a + (pickDims B N M K D wf).batchCoord (ix4 b m k c) a
      + (pickDims B N M K D wf).offCoord (ix4 b m k c) a = _
  rw [GatherDims.batchCoord_eq_zero _ _ _ (fun h => by simp at h), Nat.add_zero]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (show (0 : Fin 3) ∈ ([0, 1] : List (Fin 3)) by decide)), Nat.add_zero]
    unfold GatherDims.start
    rw [dif_pos (show (0 : Fin 3) ∈ (pickDims B N M K D wf).startIndexMap from (by decide : (0 : Fin 3) ∈ ([0, 1] : List (Fin 3))))]
    have hsi : (pickDims B N M K D wf).siIdx (ix4 b m k c) ⟨List.idxOf (0 : Fin 3) (pickDims B N M K D wf).startIndexMap,
        List.idxOf_lt_length_iff.2 (by decide : (0 : Fin 3) ∈ ([0, 1] : List (Fin 3)))⟩ = ix4 b m k 0 := by
      funext z; refine Fin.ext ?_
      match z with
      | ⟨0, _⟩ => rfl
      | ⟨1, _⟩ => rfl
      | ⟨2, _⟩ => rfl
      | ⟨3, _⟩ => rfl
    rw [hsi, hb]
    show min b'.val (B - 1) = b'.val
    have := b'.isLt; omega
  · rw [GatherDims.offCoord_eq_zero _ _ _ (fun h => ((GatherDims.mem_sKept _ _).mp h).1 (show (1 : Fin 3) ∈ ([0, 1] : List (Fin 3)) by decide)), Nat.add_zero]
    unfold GatherDims.start
    rw [dif_pos (show (1 : Fin 3) ∈ (pickDims B N M K D wf).startIndexMap from (by decide : (1 : Fin 3) ∈ ([0, 1] : List (Fin 3))))]
    have hsi : (pickDims B N M K D wf).siIdx (ix4 b m k c) ⟨List.idxOf (1 : Fin 3) (pickDims B N M K D wf).startIndexMap,
        List.idxOf_lt_length_iff.2 (by decide : (1 : Fin 3) ∈ ([0, 1] : List (Fin 3)))⟩ = ix4 b m k 1 := by
      funext z; refine Fin.ext ?_
      match z with
      | ⟨0, _⟩ => rfl
      | ⟨1, _⟩ => rfl
      | ⟨2, _⟩ => rfl
      | ⟨3, _⟩ => rfl
    rw [hsi, hp]
    show min p.val (N - 1) = p.val
    have := p.isLt; omega
  · have h0 : (pickDims B N M K D wf).start (ix4 b m k c) idx (2 : Fin 3) = 0 := by
      unfold GatherDims.start
      rw [dif_neg (show ¬ (2 : Fin 3) ∈ (pickDims B N M K D wf).startIndexMap from (by decide : ¬ (2 : Fin 3) ∈ ([0, 1] : List (Fin 3))))]
    refine (congrArg (· + _) h0).trans ?_
    show 0 + c.val = c.val
    exact Nat.zero_add _

/-- The dimension numbers of a gather of one row per query by a pair (batch, position). -/
abbrev rowDims (B N M D : ℕ) (wf : GatherDims.WF ⟨3, ![B, N, D]⟩ ⟨3, ![B, M, 2]⟩ ⟨3, ![B, M, D]⟩ [2] [0, 1] [] [0, 1] [] 2 ![1, 1, D]) :
    GatherDims ⟨3, ![B, N, D]⟩ ⟨3, ![B, M, 2]⟩ ⟨3, ![B, M, D]⟩ where
  offsetDims := [2]
  collapsedSliceDims := [0, 1]
  operandBatchingDims := []
  startIndicesBatchingDims := []
  startIndexMap := [0, 1]
  indexVectorDim := 2
  sliceSizes := ![1, 1, D]
  wf := wf

/-- Such a gather reads, at `(b, m, c)`, the row whose batch and position are the words there, a position past the end being the last. -/
theorem gather_row {α : Type} (wf) (x : (⟨3, ![B, N, D]⟩ : Shape).Idx → α) (idx : IVec ⟨3, ![B, M, 2]⟩ 32) (b : Fin B) (m : Fin M)
    (c : Fin D) (b' : Fin B) (p : Fin N) (hb : (idx (ix3 b m 0)).toInt.toNat = b'.val)
    (hp : min (idx (ix3 b m 1)).toInt.toNat (N - 1) = p.val) :
    Host.gather (rowDims B N M D wf) x idx (ix3 b m c) = x (ix3 b' p c) := by
  unfold Host.gather
  congr 1
  funext a
  refine Fin.ext ?_
  show (rowDims B N M D wf).start (ix3 b m c) idx a + (rowDims B N M D wf).batchCoord (ix3 b m c) a
      + (rowDims B N M D wf).offCoord (ix3 b m c) a = _
  rw [GatherDims.batchCoord_eq_zero _ _ _ (fun h => by simp at h), Nat.add_zero]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (show (0 : Fin 3) ∈ ([0, 1] : List (Fin 3)) by decide)), Nat.add_zero]
    unfold GatherDims.start
    rw [dif_pos (show (0 : Fin 3) ∈ (rowDims B N M D wf).startIndexMap from (by decide : (0 : Fin 3) ∈ ([0, 1] : List (Fin 3))))]
    have hsi : (rowDims B N M D wf).siIdx (ix3 b m c) ⟨List.idxOf (0 : Fin 3) (rowDims B N M D wf).startIndexMap,
        List.idxOf_lt_length_iff.2 (by decide : (0 : Fin 3) ∈ ([0, 1] : List (Fin 3)))⟩ = ix3 b m 0 := by
      funext z; refine Fin.ext ?_
      match z with
      | ⟨0, _⟩ => rfl
      | ⟨1, _⟩ => rfl
      | ⟨2, _⟩ => rfl
    rw [hsi, hb]
    show min b'.val (B - 1) = b'.val
    have := b'.isLt; omega
  · rw [GatherDims.offCoord_eq_zero _ _ _ (fun h => ((GatherDims.mem_sKept _ _).mp h).1 (show (1 : Fin 3) ∈ ([0, 1] : List (Fin 3)) by decide)), Nat.add_zero]
    unfold GatherDims.start
    rw [dif_pos (show (1 : Fin 3) ∈ (rowDims B N M D wf).startIndexMap from (by decide : (1 : Fin 3) ∈ ([0, 1] : List (Fin 3))))]
    have hsi : (rowDims B N M D wf).siIdx (ix3 b m c) ⟨List.idxOf (1 : Fin 3) (rowDims B N M D wf).startIndexMap,
        List.idxOf_lt_length_iff.2 (by decide : (1 : Fin 3) ∈ ([0, 1] : List (Fin 3)))⟩ = ix3 b m 1 := by
      funext z; refine Fin.ext ?_
      match z with
      | ⟨0, _⟩ => rfl
      | ⟨1, _⟩ => rfl
      | ⟨2, _⟩ => rfl
    rw [hsi]
    exact hp
  · have h0 : (rowDims B N M D wf).start (ix3 b m c) idx (2 : Fin 3) = 0 := by
      unfold GatherDims.start
      rw [dif_neg (show ¬ (2 : Fin 3) ∈ (rowDims B N M D wf).startIndexMap from (by decide : ¬ (2 : Fin 3) ∈ ([0, 1] : List (Fin 3))))]
    refine (congrArg (· + _) h0).trans ?_
    show 0 + c.val = c.val
    exact Nat.zero_add _

end Cert.Knn

end
-- ==== Proof.Row.lean ====
/- One output of the aggregation as mathematics: the squared distance of two points, the folded normalisation, the value the kernel
   forms from a row's nearest neighbours, the value the reference forms, and that the two are equal over finite reals. -/
module

public import proofs.«01_k».proof.Proof.Rank
public import Idealize.ShloMosaic.Lib.Pointwise

@[expose] public section

noncomputable section

namespace Cert.Knn

open Idealize.ShloMosaic

variable {N K T : ℕ}

/-- The squared length of a point. -/
def sq (x : Fin K → EReal) : EReal := ∑ k, x k * x k

/-- The squared distance of two points, written out. -/
def gap (x y : Fin K → EReal) : EReal := sq x - Ideal.ofBits .f32 0x40000000#32 * (∑ k, x k * y k) + sq y

/-- The reciprocal standard deviation of a channel's statistics (scale, shift, mean, variance). -/
def dev (bn : Fin 4 → EReal) : EReal := Ideal.rsqrt (bn 3 + Ideal.ofBits .f32 0x3727C5AC#32)

/-- The kernel's value before the activation: the best neighbour's product, the centre's product and the offset, the
    normalisation folded into the weights. -/
def kerSum (T : ℕ) (d : Fin N → EReal) (v : Fin N → Fin K → EReal) (x : Fin K → EReal) (w₀ w₁ : Fin K → EReal) (bn : Fin 4 → EReal) : EReal :=
  best d (fun i => ∑ k, v i k * (w₀ k * (bn 0 * dev bn))) T
    + ((∑ k, x k * (w₁ k * (bn 0 * dev bn) - w₀ k * (bn 0 * dev bn))) + (bn 1 - bn 2 * (bn 0 * dev bn)))

/-- The reference's value of one neighbour `p` of a centre `x` before the activation: the weights of the difference and of the
    centre, then the normalisation. -/
def refTerm (p x w₀ w₁ : Fin K → EReal) (bn : Fin 4 → EReal) : EReal :=
  (((∑ k, (p k - x k) * w₀ k) + ∑ k, x k * w₁ k) - bn 2) * bn 0 * dev bn + bn 1

/-- A finite value is a real. -/
theorem real_of_finite {x : EReal} (h : x ≠ ⊤ ∧ x ≠ ⊥) : ∃ r : ℝ, x = r := ⟨x.toReal, (EReal.coe_toReal h.1 h.2).symm⟩

/-- The words of the two constants as reals. -/
theorem two_eq : Ideal.ofBits .f32 0x40000000#32 = ((2 : ℝ) : EReal) := by
  simp [Ideal.ofBits, Ideal.ieee, -EReal.coe_mul]; norm_num

theorem eps_real : ∃ e : ℝ, 0 < e ∧ Ideal.ofBits .f32 0x3727C5AC#32 = e := by
  simp [Ideal.ofBits, Ideal.ieee, -EReal.coe_mul]

/-- The slope one fifth is not negative. -/
theorem fifth_nonneg : 0 ≤ Ideal.ofBits .f32 0x3E4CCCCD#32 := by
  simp [Ideal.ofBits, Ideal.ieee, -EReal.coe_mul]

/-- The reciprocal standard deviation is a real where the variance is one and not negative. -/
theorem dev_real (bn : Fin 4 → EReal) (v : ℝ) (hv : bn 3 = v) (h0 : 0 ≤ v) : ∃ s : ℝ, dev bn = s := by
  obtain ⟨e, he, hee⟩ := eps_real
  unfold dev
  rw [hv, hee, ← EReal.coe_add]
  show ∃ s : ℝ, (if v + e < 0 then (⊥ : EReal) else if v + e = 0 then ⊤ else ((Real.sqrt (v + e))⁻¹ : ℝ)) = s
  rw [if_neg (by linarith), if_neg (by linarith)]
  exact ⟨_, rfl⟩

/-- A finite sum of reals, as an extended real. -/
theorem coe_sum (f : Fin K → ℝ) : ((∑ k, f k : ℝ) : EReal) = ∑ k, (f k : EReal) := by
  induction (Finset.univ : Finset (Fin K)) using Finset.cons_induction with
  | empty => simp
  | cons a s ha ih => rw [Finset.sum_cons, Finset.sum_cons, EReal.coe_add, ih]

/-- A squared distance of finite points is finite. -/
theorem gap_lt_top (x y : Fin K → EReal) (hx : ∀ k, ∃ r : ℝ, x k = r) (hy : ∀ k, ∃ r : ℝ, y k = r) : gap x y < ⊤ := by
  choose x' hx using hx
  choose y' hy using hy
  unfold gap sq
  simp only [hx, hy, two_eq, ← EReal.coe_mul, ← coe_sum, ← EReal.coe_sub, ← EReal.coe_add]
  exact EReal.coe_lt_top _

/-- One neighbour: the kernel's folded form is the reference's. -/
theorem term_eq (p x w₀ w₁ : Fin K → EReal) (bn : Fin 4 → EReal) (hp : ∀ k, ∃ r : ℝ, p k = r) (hx : ∀ k, ∃ r : ℝ, x k = r)
    (hw₀ : ∀ k, ∃ r : ℝ, w₀ k = r) (hw₁ : ∀ k, ∃ r : ℝ, w₁ k = r) (hb : ∀ a, ∃ r : ℝ, bn a = r) (h0 : 0 ≤ bn 3) :
    (∑ k, p k * (w₀ k * (bn 0 * dev bn)))
      + ((∑ k, x k * (w₁ k * (bn 0 * dev bn) - w₀ k * (bn 0 * dev bn))) + (bn 1 - bn 2 * (bn 0 * dev bn)))
      = refTerm p x w₀ w₁ bn := by
  choose p' hp using hp
  choose x' hx using hx
  choose u hw₀ using hw₀
  choose w hw₁ using hw₁
  choose b hb using hb
  obtain ⟨s, hs⟩ := dev_real bn (b 3) (hb 3) (by rw [hb] at h0; exact_mod_cast h0)
  unfold refTerm
  simp only [hs, hp, hx, hw₀, hw₁, hb, ← EReal.coe_mul, ← coe_sum, ← EReal.coe_sub, ← EReal.coe_add]
  congr 1
  simp only [sub_mul, mul_sub, Finset.sum_sub_distrib, ← mul_assoc, ← Finset.sum_mul]
  ring

/-- A row: the activation of the kernel's value is the greatest activation among the reference's values of the `T` nearest. -/
theorem row_eq (act : EReal → EReal) (hact : Monotone act) (hT0 : 0 < T) (hT : T ≤ N) (d : Fin N → EReal) (v : Fin N → Fin K → EReal)
    (x w₀ w₁ : Fin K → EReal) (bn : Fin 4 → EReal) (hv : ∀ i k, ∃ r : ℝ, v i k = r) (hx : ∀ k, ∃ r : ℝ, x k = r)
    (hw₀ : ∀ k, ∃ r : ℝ, w₀ k = r) (hw₁ : ∀ k, ∃ r : ℝ, w₁ k = r) (hb : ∀ a, ∃ r : ℝ, bn a = r) (h0 : 0 ≤ bn 3) :
    act (kerSum T d v x w₀ w₁ bn) = Finset.univ.sup fun t : Fin T => act (refTerm (v (rank d (t.castLE hT))) x w₀ w₁ bn) := by
  haveI : Nonempty (Fin T) := ⟨⟨0, hT0⟩⟩
  unfold kerSum
  rw [best_eq_sup d _ T hT, ← Finset.sup'_eq_sup Finset.univ_nonempty, ← Finset.sup'_eq_sup Finset.univ_nonempty]
  have hg : Monotone fun y : EReal => act (y + ((∑ k, x k * (w₁ k * (bn 0 * dev bn) - w₀ k * (bn 0 * dev bn))) + (bn 1 - bn 2 * (bn 0 * dev bn)))) :=
    fun a b hab => hact (add_le_add_left hab _)
  refine (Finset.comp_sup'_eq_sup'_comp Finset.univ_nonempty
    (fun y : EReal => act (y + ((∑ k, x k * (w₁ k * (bn 0 * dev bn) - w₀ k * (bn 0 * dev bn))) + (bn 1 - bn 2 * (bn 0 * dev bn)))))
    (fun a b => hg.map_max)).trans ?_
  refine Finset.sup'_congr _ rfl fun t _ => ?_
  exact congrArg act (term_eq _ x w₀ w₁ bn (hv _) hx hw₀ hw₁ hb h0)

/-- `y` where it is not negative, else `s · y`. -/
def leaky (s y : EReal) : EReal := if 0 ≤ y then y else s * y

/-- It is monotone for a slope `0 ≤ s`. -/
theorem leaky_monotone (s : EReal) (hs : 0 ≤ s) : Monotone (leaky s) := by
  intro a b hab
  unfold leaky
  by_cases ha : 0 ≤ a
  · rw [if_pos ha, if_pos (ha.trans hab)]; exact hab
  · have ha' : a ≤ 0 := (not_le.mp ha).le
    by_cases hb : 0 ≤ b
    · rw [if_neg ha, if_pos hb]
      exact (mul_nonpos_of_nonneg_of_nonpos hs ha').trans hb
    · rw [if_neg ha, if_neg hb]
      exact mul_le_mul_of_nonneg_left hab hs

end Cert.Knn

end
-- ==== Proof.Agg.lean ====
/- One row of the aggregation, over any sizes: the word of the first nearest entry, a one-hot row times a table, and the loop
   that takes out the nearest entry and keeps the largest value, `T` times. -/
module

public import proofs.«01_k».proof.Proof.Rank
public import Idealize.ShloMosaic.Lib.Pointwise
public import Idealize.ShloMosaic.Lib.Exec

@[expose] public section

noncomputable section

namespace Cert.Knn

open Idealize.ShloMosaic

variable {S N C : ℕ}

/-- The least member of a set of numbers. -/
theorem min_getD (s : Finset ℕ) (p : ℕ) (hp : p ∈ s) (hle : ∀ a ∈ s, p ≤ a) : s.min.getD 0 = p := by
  have : s.min = ((p : ℕ) : WithTop ℕ) := by
    apply le_antisymm (Finset.min_le hp)
    exact Finset.le_min fun a ha => WithTop.coe_le_coe.mpr (hle a ha)
  rw [this]; rfl

/-- The arg-min of a row of an array is the word of the row's first nearest entry. -/
theorem argMin_row (h : (⟨2, ![S, N]⟩ : Shape).Reduces [1] ⟨1, ![S]⟩) (D : FVec Ideal ⟨2, ![S, N]⟩ .f32) (r : Fin S) (p : Fin N)
    (hp : IsFirst (fun i => D (ix2 r i)) p) :
    reduceIndex .argMin 1 ⟨1, ![S]⟩ D h (ix1 r) = BitVec.ofNat 32 p.val := by
  show Ideal.reduceIndex .argMin 1 h D (ix1 r) = _
  unfold Ideal.reduceIndex
  dsimp only
  have hfib : ∀ i : (⟨2, ![S, N]⟩ : Shape).Idx, h.drop i = ix1 r ↔ ∃ k : Fin N, ix2 r k = i := fun i => h.fiber_r2_a1 (ix1 r) i
  have hle : ∀ i, D (ix2 r p) ≤ D (ix2 r i) := fun i => by
    by_cases e : i = p
    · rw [e]
    · rcases hp i e with h1 | h1
      · exact h1.le
      · exact h1.1.le
  congr 1
  refine min_getD _ _ ?_ ?_
  · simp only [Finset.mem_image, Finset.mem_filter, Finset.mem_univ, true_and]
    refine ⟨ix2 r p, ⟨(hfib _).mpr ⟨p, rfl⟩, fun i' hi' => ?_⟩, rfl⟩
    obtain ⟨k, rfl⟩ := (hfib i').mp hi'
    simpa using hle k
  · intro a ha
    simp only [Finset.mem_image, Finset.mem_filter, Finset.mem_univ, true_and] at ha
    obtain ⟨i, ⟨hi1, hi2⟩, rfl⟩ := ha
    obtain ⟨k, rfl⟩ := (hfib i).mp hi1
    have h1 := hi2 (ix2 r p) ((hfib _).mpr ⟨p, rfl⟩)
    have h1' : D (ix2 r k) ≤ D (ix2 r p) := by simpa using h1
    show p.val ≤ k.val
    by_cases e : k = p
    · rw [e]
    · rcases hp k e with h2 | h2
      · exact absurd h2 (not_lt.mpr h1')
      · exact h2.2.le

/-- Two positions below `2 ^ 32` have the same word only when they are the same. -/
theorem word_eq_iff (hN : N ≤ 2 ^ 32) (i p : Fin N) : BitVec.ofNat 32 i.val = BitVec.ofNat 32 p.val ↔ i = p := by
  constructor
  · intro h
    have := congrArg BitVec.toNat h
    rw [BitVec.toNat_ofNat, BitVec.toNat_ofNat, Nat.mod_eq_of_lt (i.isLt.trans_le hN), Nat.mod_eq_of_lt (p.isLt.trans_le hN)] at this
    exact Fin.ext this
  · rintro rfl; rfl

/-- Selecting where a position's word is that of `p`. -/
theorem select_word (hN : N ≤ 2 ^ 32) (i p : Fin N) (x y : EReal) :
    Scalar.select (IntOp.cmpi .eq (BitVec.ofNat 32 i.val) (BitVec.ofNat 32 p.val)) x y = if i = p then x else y := by
  by_cases h : i = p
  · subst h; rw [if_pos rfl]; simp [Scalar.select, IntOp.cmpi]
  · rw [if_neg h]
    have h2 : ¬ BitVec.ofNat 32 i.val = BitVec.ofNat 32 p.val := fun e => h ((word_eq_iff hN i p).mp e)
    have h3 : (BitVec.ofNat 32 i.val == BitVec.ofNat 32 p.val) = false := beq_eq_false_iff_ne.mpr h2
    simp [Scalar.select, IntOp.cmpi, h3]

/-- The indicator of a position as a float. -/
theorem indicator_word (hN : N ≤ 2 ^ 32) (i p : Fin N) :
    (FloatOps.sitofp .f32 (BitVec.setWidth 32 (IntOp.cmpi .eq (BitVec.ofNat 32 i.val) (BitVec.ofNat 32 p.val))) : Ideal .f32)
      = (if i = p then 1 else 0 : EReal) := by
  by_cases h : i = p
  · subst h; rw [if_pos rfl]
    simp [IntOp.cmpi, FloatOps.sitofp]
  · rw [if_neg h]
    have h2 : ¬ BitVec.ofNat 32 i.val = BitVec.ofNat 32 p.val := fun e => h ((word_eq_iff hN i p).mp e)
    have h3 : (BitVec.ofNat 32 i.val == BitVec.ofNat 32 p.val) = false := beq_eq_false_iff_ne.mpr h2
    simp [IntOp.cmpi, h3, FloatOps.sitofp]

/-- A one-hot row times a table is the table's row. -/
theorem sum_onehot (hN : N ≤ 2 ^ 32) (p : Fin N) (v : Fin N → EReal) :
    (∑ x : Fin N, (FloatOps.sitofp .f32 (BitVec.setWidth 32 (IntOp.cmpi .eq (BitVec.ofNat 32 x.val) (BitVec.ofNat 32 p.val))) : Ideal .f32) * v x)
      = v p := by
  have : ∀ x : Fin N, (FloatOps.sitofp .f32 (BitVec.setWidth 32 (IntOp.cmpi .eq (BitVec.ofNat 32 x.val) (BitVec.ofNat 32 p.val))) : Ideal .f32) * v x
      = if x = p then v x else 0 := fun x => by
    rw [indicator_word hN]; split
    · exact one_mul _
    · exact zero_mul _
  rw [Finset.sum_congr rfl fun x _ => this x, Finset.sum_ite_eq' Finset.univ p v, if_pos (Finset.mem_univ p)]

/-- THE LOOP. `p4` takes out of every row its first nearest entry, `p5` keeps the larger of what is held and that entry's value.
    After `T` trips from `-∞` a row holds the largest value among the `T` nearest entries. -/
theorem fold_rows {T : ℕ} (hT : T ≤ N) (p4 : ((⟨2, ![S, N]⟩ : Shape).Idx → EReal) → (⟨2, ![S, N]⟩ : Shape).Idx → EReal)
    (p5 : ((⟨2, ![S, N]⟩ : Shape).Idx → EReal) → ((⟨2, ![S, C]⟩ : Shape).Idx → EReal) → (⟨2, ![S, C]⟩ : Shape).Idx → EReal)
    (v : Fin N → Fin C → EReal)
    (h4 : ∀ D (p : Fin S → Fin N), (∀ r, IsFirst (fun i => D (ix2 r i)) (p r)) →
      ∀ r i, p4 D (ix2 r i) = if i = p r then ⊤ else D (ix2 r i))
    (h5 : ∀ D A (p : Fin S → Fin N), (∀ r, IsFirst (fun i => D (ix2 r i)) (p r)) →
      ∀ r c, p5 D A (ix2 r c) = max (A (ix2 r c)) (v (p r) c))
    (D₀ : (⟨2, ![S, N]⟩ : Shape).Idx → EReal) (A₀ : (⟨2, ![S, C]⟩ : Shape).Idx → EReal)
    (hD : ∀ r i, D₀ (ix2 r i) < ⊤) (hA : ∀ r c, A₀ (ix2 r c) = ⊥) (r : Fin S) (c : Fin C) :
    (Scf.fold (n := T) (fun _ a => (p4 a.1, p5 a.1 a.2)) (D₀, A₀)).2 (ix2 r c)
      = best (fun i => D₀ (ix2 r i)) (fun i => v i c) T := by
  rw [Scf.fold_eq]
  have key : ∀ (l : List (Fin T)) (t : ℕ), t + l.length ≤ N → ∀ st : ((⟨2, ![S, N]⟩ : Shape).Idx → EReal) × ((⟨2, ![S, C]⟩ : Shape).Idx → EReal),
      (∀ r i, st.1 (ix2 r i) = taken (fun i => D₀ (ix2 r i)) t i) →
      (∀ r c, st.2 (ix2 r c) = best (fun i => D₀ (ix2 r i)) (fun i => v i c) t) →
      ∀ r c, (l.foldl (fun a _ => (p4 a.1, p5 a.1 a.2)) st).2 (ix2 r c)
        = best (fun i => D₀ (ix2 r i)) (fun i => v i c) (t + l.length) := by
    intro l
    induction l with
    | nil => intro t _ st _ h2 r c; simpa using h2 r c
    | cons x l ih =>
      intro t ht st h1 h2 r c
      rw [List.length_cons] at ht
      have htN : t < N := by omega
      have hfirst : ∀ r, IsFirst (fun i => st.1 (ix2 r i)) (rank (fun i => D₀ (ix2 r i)) ⟨t, htN⟩) := fun r => by
        have := isFirst_taken (fun i => D₀ (ix2 r i)) (hD r) ⟨t, htN⟩
        rwa [show (fun i => st.1 (ix2 r i)) = taken (fun i => D₀ (ix2 r i)) t from funext fun i => h1 r i]
      rw [List.foldl_cons, List.length_cons, show t + (l.length + 1) = (t + 1) + l.length by omega]
      refine ih (t + 1) (by omega) _ (fun r i => ?_) (fun r c => ?_) r c
      · exact (h4 _ _ hfirst r i).trans (by rw [h1, taken_succ _ ⟨t, htN⟩])
      · exact (h5 _ _ _ hfirst r c).trans (by rw [h2, best_succ _ _ ⟨t, htN⟩])
  have := key (List.finRange T) 0 (by simpa using hT) (D₀, A₀) (fun r i => by rw [taken_zero]) (fun r c => (hA r c).trans (best_zero _ _).symm) r c
  simpa using this

end Cert.Knn

end
-- ==== Proof.Stage.lean ====
/- One aggregation call, over any sizes: the values its body computes from the blocks it reads, the block it leaves, and the array
   this makes, in terms of points, features and weights. -/
module

public import proofs.«01_k».proof.Proof.Row
public import proofs.«01_k».proof.Proof.Agg

@[expose] public section

noncomputable section

namespace Cert.Knn

open Idealize.ShloMosaic

/-- A matrix over the extended reals. -/
abbrev Mat (a b : ℕ) : Type := (⟨2, ![a, b]⟩ : Shape).Idx → EReal

/-- A stack of matrices over the extended reals. -/
abbrev Stk (a b c : ℕ) : Type := (⟨3, ![a, b, c]⟩ : Shape).Idx → EReal

/-- The stack of a function of three indices. -/
def stk {a b c : ℕ} (f : Fin a → Fin b → Fin c → EReal) : Stk a b c := fun j => f (j 0) (j 1) (j 2)

/-- The functions of an aggregation's body — one trip's two updates, the activation, the neighbours' products, the centre's
    products and the offset, the distances, the start of the running maximum — and what each is at an index. `S` rows, `N` points,
    `C` channels out, `K` channels in, `D` coordinates. -/
structure Pays (S N C K D : ℕ) (s : EReal) where
  take : Mat S N → Mat S N
  keep : Mat N C → Mat S N → Mat S C → Mat S C
  act : Mat S C → Mat S C → Stk 1 S C
  near : Stk 1 N K → Mat C K → Mat N C
  centre : Stk 1 S K → Mat C K → Mat 1 C → Mat S C
  dist : Stk 1 S D → Stk 1 N D → Stk 1 S 1 → Stk 1 1 N → Mat S N
  start : Stk 1 S D → Stk 1 N D → Mat S C
  /-- A trip takes every row's first nearest entry out, -/
  take_at : ∀ A (p : Fin S → Fin N), (∀ r, IsFirst (fun i => A (ix2 r i)) (p r)) →
    ∀ r i, take A (ix2 r i) = if i = p r then ⊤ else A (ix2 r i)
  /-- and keeps the larger of what is held and that entry's value. -/
  keep_at : ∀ v A M (p : Fin S → Fin N), (∀ r, IsFirst (fun i => A (ix2 r i)) (p r)) →
    ∀ r o, keep v A M (ix2 r o) = max (M (ix2 r o)) (v (ix2 (p r) o))
  act_at : ∀ t M r o, act t M (ix3 0 r o) = leaky s (M (ix2 r o) + t (ix2 r o))
  near_at : ∀ x w i o, near x w (ix2 i o) = ∑ k, x (ix3 0 i k) * w (ix2 o k)
  centre_at : ∀ x w b r o, centre x w b (ix2 r o) = (∑ k, x (ix3 0 r k) * w (ix2 o k)) + b (ix2 0 o)
  dist_at : ∀ q p qq pp r i, dist q p qq pp (ix2 r i)
    = qq (ix3 0 r 0) - Ideal.ofBits .f32 0x40000000#32 * (∑ k, q (ix3 0 r k) * p (ix3 0 i k)) + pp (ix3 0 0 i)
  start_at : ∀ q p r o, start q p (ix2 r o) = ⊥

variable {S N C K D T : ℕ} {s : EReal}

/-- The block the body leaves after `T` trips. -/
def Pays.out (P : Pays S N C K D s) (T : ℕ) (q : Stk 1 S D) (p : Stk 1 N D) (qq : Stk 1 S 1) (pp : Stk 1 1 N) (f : Stk 1 N K)
    (wv : Mat C K) (x : Stk 1 S K) (wt : Mat C K) (b : Mat 1 C) : Stk 1 S C :=
  P.act (P.centre x wt b)
    (Scf.fold (n := T) (fun _ a => (P.take a.1, P.keep (P.near f wv) a.1 a.2)) (P.dist q p qq pp, P.start q p)).2

/-- The block at an index: the activation of the best among the `T` nearest, every distance being below `+∞`. -/
theorem Pays.out_at (P : Pays S N C K D s) (hT : T ≤ N) (q : Stk 1 S D) (p : Stk 1 N D) (qq : Stk 1 S 1) (pp : Stk 1 1 N)
    (f : Stk 1 N K) (wv : Mat C K) (x : Stk 1 S K) (wt : Mat C K) (b : Mat 1 C) (d : Fin S → Fin N → EReal)
    (hd : ∀ r i, qq (ix3 0 r 0) - Ideal.ofBits .f32 0x40000000#32 * (∑ k, q (ix3 0 r k) * p (ix3 0 i k)) + pp (ix3 0 0 i) = d r i)
    (hfin : ∀ r i, d r i < ⊤) (r : Fin S) (o : Fin C) :
    P.out T q p qq pp f wv x wt b (ix3 0 r o)
      = leaky s (best (d r) (fun i => ∑ k, f (ix3 0 i k) * wv (ix2 o k)) T + ((∑ k, x (ix3 0 r k) * wt (ix2 o k)) + b (ix2 0 o))) := by
  have hD : ∀ r i, P.dist q p qq pp (ix2 r i) = d r i := fun r i => (P.dist_at q p qq pp r i).trans (hd r i)
  have hfold := fold_rows (T := T) hT P.take (P.keep (P.near f wv)) (fun i o => P.near f wv (ix2 i o)) P.take_at
    (fun A M p hp r o => P.keep_at (P.near f wv) A M p hp r o)
    (P.dist q p qq pp) (P.start q p) (fun r i => by rw [hD]; exact hfin r i) (fun r o => P.start_at q p r o) r o
  unfold Pays.out
  rw [P.act_at, hfold, P.centre_at, show (fun i => P.dist q p qq pp (ix2 r i)) = d r from funext (hD r),
    show (fun i => P.near f wv (ix2 i o)) = fun i => ∑ k, f (ix3 0 i k) * wv (ix2 o k) from funext fun i => P.near_at f wv i o]

/-- The arrays a call reads, in terms of the query points `q`, the points `p`, the points' features `f`, the queries' features
    `x`, the weights and the statistics: squared lengths beside the points, the normalisation folded into the weights. -/
structure Ready {B : ℕ} (aq : Stk B S D) (ap : Stk B N D) (aqq : Stk B S 1) (app : Stk B 1 N) (af : Stk B N K) (awv : Mat C K)
    (ax : Stk B S K) (awt : Mat C K) (ab : Mat 1 C) (q : Fin B → Fin S → Fin D → EReal) (p : Fin B → Fin N → Fin D → EReal)
    (f : Fin B → Fin N → Fin K → EReal) (x : Fin B → Fin S → Fin K → EReal) (w₀ w₁ : Fin C → Fin K → EReal)
    (st : Fin C → Fin 4 → EReal) : Prop where
  hq : ∀ b r k, aq (ix3 b r k) = q b r k
  hp : ∀ b i k, ap (ix3 b i k) = p b i k
  hqq : ∀ b r, aqq (ix3 b r 0) = sq (q b r)
  hpp : ∀ b i, app (ix3 b 0 i) = sq (p b i)
  hf : ∀ b i k, af (ix3 b i k) = f b i k
  hwv : ∀ o k, awv (ix2 o k) = w₀ o k * (st o 0 * dev (st o))
  hx : ∀ b r k, ax (ix3 b r k) = x b r k
  hwt : ∀ o k, awt (ix2 o k) = w₁ o k * (st o 0 * dev (st o)) - w₀ o k * (st o 0 * dev (st o))
  hb : ∀ o, ab (ix2 0 o) = st o 1 - st o 2 * (st o 0 * dev (st o))

/-- The array a call makes. -/
def aggOf {B : ℕ} (T : ℕ) (s : EReal) (q : Fin B → Fin S → Fin D → EReal) (p : Fin B → Fin N → Fin D → EReal)
    (f : Fin B → Fin N → Fin K → EReal) (x : Fin B → Fin S → Fin K → EReal) (w₀ w₁ : Fin C → Fin K → EReal)
    (st : Fin C → Fin 4 → EReal) (b : Fin B) (r : Fin S) (o : Fin C) : EReal :=
  leaky s (kerSum T (fun i => gap (q b r) (p b i)) (f b) (x b r) (w₀ o) (w₁ o) (st o))

/-- A block of a call whose blocks are rows of its arrays is the same rows of the array the call makes. -/
theorem Ready.out_at {B S' : ℕ} {aq : Stk B S' D} {ap : Stk B N D} {aqq : Stk B S' 1} {app : Stk B 1 N} {af : Stk B N K}
    {awv : Mat C K} {ax : Stk B S' K} {awt : Mat C K} {ab : Mat 1 C} {q : Fin B → Fin S' → Fin D → EReal}
    {p : Fin B → Fin N → Fin D → EReal} {f : Fin B → Fin N → Fin K → EReal} {x : Fin B → Fin S' → Fin K → EReal}
    {w₀ w₁ : Fin C → Fin K → EReal} {st : Fin C → Fin 4 → EReal} (R : Ready aq ap aqq app af awv ax awt ab q p f x w₀ w₁ st)
    (P : Pays S N C K D s) (hT : T ≤ N) (hfin : ∀ b r i, gap (q b r) (p b i) < ⊤) (b : Fin B) (row : Fin S → Fin S')
    {bq : Stk 1 S D} {bp : Stk 1 N D} {bqq : Stk 1 S 1} {bpp : Stk 1 1 N} {bf : Stk 1 N K} {bwv : Mat C K} {bx : Stk 1 S K}
    {bwt : Mat C K} {bb : Mat 1 C} (hq : ∀ r k, bq (ix3 0 r k) = aq (ix3 b (row r) k)) (hp : ∀ i k, bp (ix3 0 i k) = ap (ix3 b i k))
    (hqq : ∀ r, bqq (ix3 0 r 0) = aqq (ix3 b (row r) 0)) (hpp : ∀ i, bpp (ix3 0 0 i) = app (ix3 b 0 i))
    (hf : ∀ i k, bf (ix3 0 i k) = af (ix3 b i k)) (hwv : ∀ o k, bwv (ix2 o k) = awv (ix2 o k))
    (hx : ∀ r k, bx (ix3 0 r k) = ax (ix3 b (row r) k)) (hwt : ∀ o k, bwt (ix2 o k) = awt (ix2 o k))
    (hb : ∀ o, bb (ix2 0 o) = ab (ix2 0 o)) (r : Fin S) (o : Fin C) :
    P.out T bq bp bqq bpp bf bwv bx bwt bb (ix3 0 r o) = aggOf T s q p f x w₀ w₁ st b (row r) o := by
  rw [P.out_at hT bq bp bqq bpp bf bwv bx bwt bb (fun r i => gap (q b (row r)) (p b i)) (fun r i => ?_) (fun r i => hfin _ _ _) r o]
  · simp only [hf, hwv, hx, hwt, hb, R.hf, R.hwv, R.hx, R.hwt, R.hb]; rfl
  · simp only [hq, hp, hqq, hpp, R.hq, R.hp, R.hqq, R.hpp]; rfl

/-- Without a slope the activation is the larger of the value and zero. -/
theorem leaky_zero (y : EReal) : leaky 0 y = max y 0 := by
  unfold leaky
  split
  · next h => exact (max_eq_left h).symm
  · next h => rw [zero_mul]; exact (max_eq_right (not_le.mp h).le).symm

end Cert.Knn

end
-- ==== Proof.Model.lean ====
/- The network in terms of its arguments: every stage twice, as the kernel computes it (the normalisation folded into the weights)
   and as the reference does, and the two equal where the arguments are real and the variances not negative. -/
module

public import proofs.«01_k».proof.Proof.Stage

@[expose] public section

noncomputable section

namespace Cert.Knn

open Idealize.ShloMosaic

/-- The slope of the activations, one fifth. -/
abbrev fifth : EReal := Ideal.ofBits .f32 0x3E4CCCCD#32

/-- A value that is a real number. -/
def Real? (x : EReal) : Prop := ∃ r : ℝ, x = r

variable {B S N C K L D M T : ℕ}

/-- A channel's statistics: scale, shift, mean, variance. -/
def stat (b : Mat 4 C) (o : Fin C) (a : Fin 4) : EReal := b (ix2 a o)

/-- The first `K` columns of the weights. -/
def lo (w : Mat C M) (K : ℕ) (h : K ≤ M) (o : Fin C) (k : Fin K) : EReal := w (ix2 o ⟨k.val, k.isLt.trans_le h⟩)

/-- The `K` columns of the weights from column `a` on. -/
def hi (w : Mat C M) (a K : ℕ) (h : a + K ≤ M) (o : Fin C) (k : Fin K) : EReal :=
  w (ix2 o ⟨a + k.val, (Nat.add_lt_add_left k.isLt a).trans_le h⟩)

/-- The factor the normalisation multiplies by. -/
def scale (st : Fin 4 → EReal) : EReal := st 0 * dev st

/-- The offset left of the normalisation once the factor is folded into the weights. -/
def offset (st : Fin 4 → EReal) : EReal := st 1 - st 2 * (st 0 * dev st)

/-- The normalisation as the reference writes it. -/
def norm (st : Fin 4 → EReal) (y : EReal) : EReal := (y - st 2) * st 0 * dev st + st 1

/-- The row an index word names among `N`: a negative word counts from the end, a word outside names the nearest row. -/
def pick (N : ℕ) (h : 0 < N) (w : BitVec 32) : Fin N :=
  ⟨min (Scalar.select (IntOp.cmpi .slt w 0#32) (w + BitVec.ofNat 32 N) w).toInt.toNat (N - 1), by omega⟩

/-! ## Real values -/

theorem Real?.add {x y : EReal} (hx : Real? x) (hy : Real? y) : Real? (x + y) := by
  obtain ⟨a, rfl⟩ := hx; obtain ⟨b, rfl⟩ := hy; exact ⟨a + b, (EReal.coe_add a b).symm⟩
theorem Real?.sub {x y : EReal} (hx : Real? x) (hy : Real? y) : Real? (x - y) := by
  obtain ⟨a, rfl⟩ := hx; obtain ⟨b, rfl⟩ := hy; exact ⟨a - b, (EReal.coe_sub a b).symm⟩
theorem Real?.mul {x y : EReal} (hx : Real? x) (hy : Real? y) : Real? (x * y) := by
  obtain ⟨a, rfl⟩ := hx; obtain ⟨b, rfl⟩ := hy; exact ⟨a * b, (EReal.coe_mul a b).symm⟩
theorem Real?.max {x y : EReal} (hx : Real? x) (hy : Real? y) : Real? (max x y) := by
  rcases max_choice x y with h | h <;> rw [h] <;> assumption
theorem real_zero : Real? 0 := ⟨0, rfl⟩
theorem Real?.sum {f : Fin K → EReal} (h : ∀ k, Real? (f k)) : Real? (∑ k, f k) := by
  choose g hg using h
  exact ⟨∑ k, g k, by rw [coe_sum]; exact Finset.sum_congr rfl fun k _ => hg k⟩
theorem Real?.leaky {s x : EReal} (hs : Real? s) (hx : Real? x) : Real? (leaky s x) := by
  unfold Knn.leaky
  split
  · exact hx
  · exact hs.mul hx
theorem fifth_real : Real? fifth := ⟨_, by simp [Ideal.ofBits, Ideal.ieee, -EReal.coe_mul]; rfl⟩
theorem real_dev {st : Fin 4 → EReal} (h : ∀ a, Real? (st a)) (h0 : 0 ≤ st 3) : Real? (dev st) := by
  obtain ⟨v, hv⟩ := h 3
  exact dev_real st v hv (by rw [hv] at h0; exact_mod_cast h0)
theorem Real?.norm {st : Fin 4 → EReal} (h : ∀ a, Real? (st a)) (h0 : 0 ≤ st 3) {y : EReal} (hy : Real? y) : Real? (norm st y) :=
  (((hy.sub (h 2)).mul (h 0)).mul (real_dev h h0)).add (h 1)

/-! ## The stages -/

/-- Folded into two products the normalisation is the normalisation of their sum. -/
theorem norm_fold (wa g : Fin K → EReal) (wb h : Fin L → EReal) (st : Fin 4 → EReal) (hwa : ∀ k, Real? (wa k)) (hg : ∀ k, Real? (g k))
    (hwb : ∀ k, Real? (wb k)) (hh : ∀ k, Real? (h k)) (hst : ∀ a, Real? (st a)) (h0 : 0 ≤ st 3) :
    (∑ k, (wa k * scale st) * g k) + (∑ k, (wb k * scale st) * h k) + offset st = norm st ((∑ k, wa k * g k) + ∑ k, wb k * h k) := by
  obtain ⟨d, hd⟩ := real_dev hst h0
  choose wa' hwa using hwa
  choose g' hg using hg
  choose wb' hwb using hwb
  choose h' hh using hh
  choose s hs using hst
  unfold norm offset scale
  simp only [hd, hwa, hg, hwb, hh, hs, ← EReal.coe_mul, ← coe_sum, ← EReal.coe_add, ← EReal.coe_sub]
  congr 1
  have e1 : ∀ k, wa' k * (s 0 * d) * g' k = wa' k * g' k * (s 0 * d) := fun k => by ring
  have e2 : ∀ k, wb' k * (s 0 * d) * h' k = wb' k * h' k * (s 0 * d) := fun k => by ring
  simp only [e1, e2, ← Finset.sum_mul]
  ring

/-- The same for one product. -/
theorem norm_fold_one (wa g : Fin K → EReal) (st : Fin 4 → EReal) (hwa : ∀ k, Real? (wa k)) (hg : ∀ k, Real? (g k))
    (hst : ∀ a, Real? (st a)) (h0 : 0 ≤ st 3) :
    (∑ k, (wa k * scale st) * g k) + offset st = norm st (∑ k, wa k * g k) := by
  have := norm_fold (L := 0) wa g (fun _ => 0) (fun _ => 0) st hwa hg (fun _ => real_zero) (fun _ => real_zero) hst h0
  simpa using this

/-- An aggregation as the reference computes it. -/
def aggR (T : ℕ) (hT : T ≤ N) (s : EReal) (q : Fin B → Fin S → Fin D → EReal) (p : Fin B → Fin N → Fin D → EReal)
    (f : Fin B → Fin N → Fin K → EReal) (x : Fin B → Fin S → Fin K → EReal) (w₀ w₁ : Fin C → Fin K → EReal)
    (st : Fin C → Fin 4 → EReal) (b : Fin B) (r : Fin S) (o : Fin C) : EReal :=
  Finset.univ.sup fun t : Fin T => leaky s
    (refTerm (f b (rank (fun i => gap (q b r) (p b i)) (t.castLE hT))) (x b r) (w₀ o) (w₁ o) (st o))

/-- The kernel's aggregation is the reference's. -/
theorem agg_eq (hT0 : 0 < T) (hT : T ≤ N) {s : EReal} (hs : 0 ≤ s) (q : Fin B → Fin S → Fin D → EReal) (p : Fin B → Fin N → Fin D → EReal)
    {f : Fin B → Fin N → Fin K → EReal} {x : Fin B → Fin S → Fin K → EReal} {w₀ w₁ : Fin C → Fin K → EReal} {st : Fin C → Fin 4 → EReal}
    (hf : ∀ b i k, Real? (f b i k)) (hx : ∀ b r k, Real? (x b r k)) (hw₀ : ∀ o k, Real? (w₀ o k)) (hw₁ : ∀ o k, Real? (w₁ o k))
    (hst : ∀ o a, Real? (st o a)) (h0 : ∀ o, 0 ≤ st o 3) : aggOf T s q p f x w₀ w₁ st = aggR T hT s q p f x w₀ w₁ st := by
  funext b r o
  exact row_eq (leaky s) (leaky_monotone s hs) hT0 hT _ (f b) (x b r) (w₀ o) (w₁ o) (st o) (hf b) (hx b r) (hw₀ o) (hw₁ o) (hst o) (h0 o)

/-- It is real. -/
theorem aggR_real (hT0 : 0 < T) (hT : T ≤ N) {s : EReal} (hs : Real? s) (q : Fin B → Fin S → Fin D → EReal) (p : Fin B → Fin N → Fin D → EReal)
    {f : Fin B → Fin N → Fin K → EReal} {x : Fin B → Fin S → Fin K → EReal} {w₀ w₁ : Fin C → Fin K → EReal} {st : Fin C → Fin 4 → EReal}
    (hf : ∀ b i k, Real? (f b i k)) (hx : ∀ b r k, Real? (x b r k)) (hw₀ : ∀ o k, Real? (w₀ o k)) (hw₁ : ∀ o k, Real? (w₁ o k))
    (hst : ∀ o a, Real? (st o a)) (h0 : ∀ o, 0 ≤ st o 3) (b : Fin B) (r : Fin S) (o : Fin C) :
    Real? (aggR T hT s q p f x w₀ w₁ st b r o) := by
  haveI : Nonempty (Fin T) := ⟨⟨0, hT0⟩⟩
  obtain ⟨t, -, ht⟩ := Finset.exists_mem_eq_sup Finset.univ Finset.univ_nonempty fun t : Fin T => leaky s
    (refTerm (f b (rank (fun i => gap (q b r) (p b i)) (t.castLE hT))) (x b r) (w₀ o) (w₁ o) (st o))
  unfold aggR
  rw [ht]
  exact hs.leaky ((((((Real?.sum fun k => ((hf _ _ k).sub (hx _ _ k)).mul (hw₀ o k)).add (Real?.sum fun k => (hx _ _ k).mul (hw₁ o k))).sub
    (hst o 2)).mul (hst o 0)).mul (real_dev (hst o) (h0 o))).add (hst o 1))

/-- The fusion as the kernel computes it. -/
def fuseK (g h : Fin B → Fin S → Fin K → EReal) (wa wb : Fin C → Fin K → EReal) (st : Fin C → Fin 4 → EReal) (b : Fin B) (i : Fin S)
    (o : Fin C) : EReal :=
  leaky fifth ((∑ k, g b i k * (wa o k * scale (st o))) + (∑ k, h b i k * (wb o k * scale (st o))) + offset (st o))

/-- The fusion as the reference computes it. -/
def fuseR (g h : Fin B → Fin S → Fin K → EReal) (wa wb : Fin C → Fin K → EReal) (st : Fin C → Fin 4 → EReal) (b : Fin B) (i : Fin S)
    (o : Fin C) : EReal :=
  leaky fifth (norm (st o) ((∑ k, g b i k * wa o k) + ∑ k, h b i k * wb o k))

theorem fuse_eq {g h : Fin B → Fin S → Fin K → EReal} {wa wb : Fin C → Fin K → EReal} {st : Fin C → Fin 4 → EReal}
    (hg : ∀ b i k, Real? (g b i k)) (hh : ∀ b i k, Real? (h b i k)) (hwa : ∀ o k, Real? (wa o k)) (hwb : ∀ o k, Real? (wb o k))
    (hst : ∀ o a, Real? (st o a)) (h0 : ∀ o, 0 ≤ st o 3) : fuseK g h wa wb st = fuseR g h wa wb st := by
  funext b i o
  unfold fuseK fuseR
  have := norm_fold (wa o) (g b i) (wb o) (h b i) (st o) (hwa o) (hg b i) (hwb o) (hh b i) (hst o) (h0 o)
  simp only [mul_comm (g b i _), mul_comm (h b i _)]
  rw [this]

theorem fuseR_real {g h : Fin B → Fin S → Fin K → EReal} {wa wb : Fin C → Fin K → EReal} {st : Fin C → Fin 4 → EReal}
    (hg : ∀ b i k, Real? (g b i k)) (hh : ∀ b i k, Real? (h b i k)) (hwa : ∀ o k, Real? (wa o k)) (hwb : ∀ o k, Real? (wb o k))
    (hst : ∀ o a, Real? (st o a)) (h0 : ∀ o, 0 ≤ st o 3) (b : Fin B) (i : Fin S) (o : Fin C) : Real? (fuseR g h wa wb st b i o) :=
  fifth_real.leaky (Real?.norm (hst o) (h0 o) ((Real?.sum fun k => (hg b i k).mul (hwa o k)).add (Real?.sum fun k => (hh b i k).mul (hwb o k))))

/-- The last stage as the kernel computes it, from local features `f1` and skipped features `xs`. -/
def lastK (f1 : Fin B → Fin N → Fin K → EReal) (xs : Fin B → Fin N → Fin M → EReal) (w2 : Fin L → Fin M → EReal)
    (st2 : Fin L → Fin 4 → EReal) (wa : Fin C → Fin K → EReal) (wb : Fin C → Fin L → EReal) (st : Fin C → Fin 4 → EReal) (b : Fin B)
    (o : Fin C) (n : Fin N) : EReal :=
  leaky fifth ((∑ k, (wa o k * scale (st o)) * f1 b n k)
    + (∑ h, (wb o h * scale (st o)) * max ((∑ j, (w2 h j * scale (st2 h)) * xs b n j) + offset (st2 h)) 0) + offset (st o))

/-- The last stage as the reference computes it. -/
def lastR (f1 : Fin B → Fin N → Fin K → EReal) (xs : Fin B → Fin N → Fin M → EReal) (w2 : Fin L → Fin M → EReal)
    (st2 : Fin L → Fin 4 → EReal) (wa : Fin C → Fin K → EReal) (wb : Fin C → Fin L → EReal) (st : Fin C → Fin 4 → EReal) (b : Fin B)
    (o : Fin C) (n : Fin N) : EReal :=
  leaky fifth (norm (st o) ((∑ k, wa o k * f1 b n k) + ∑ h, wb o h * max (norm (st2 h) (∑ j, w2 h j * xs b n j)) 0))

theorem last_eq {f1 : Fin B → Fin N → Fin K → EReal} {xs : Fin B → Fin N → Fin M → EReal} {w2 : Fin L → Fin M → EReal}
    {st2 : Fin L → Fin 4 → EReal} {wa : Fin C → Fin K → EReal} {wb : Fin C → Fin L → EReal} {st : Fin C → Fin 4 → EReal}
    (hf : ∀ b n k, Real? (f1 b n k)) (hx : ∀ b n j, Real? (xs b n j)) (hw2 : ∀ h j, Real? (w2 h j)) (hst2 : ∀ h a, Real? (st2 h a))
    (h02 : ∀ h, 0 ≤ st2 h 3) (hwa : ∀ o k, Real? (wa o k)) (hwb : ∀ o h, Real? (wb o h)) (hst : ∀ o a, Real? (st o a))
    (h0 : ∀ o, 0 ≤ st o 3) : lastK f1 xs w2 st2 wa wb st = lastR f1 xs w2 st2 wa wb st := by
  funext b o n
  unfold lastK lastR
  have e2 : ∀ h, (∑ j, (w2 h j * scale (st2 h)) * xs b n j) + offset (st2 h) = norm (st2 h) (∑ j, w2 h j * xs b n j) := fun h =>
    norm_fold_one (w2 h) (xs b n) (st2 h) (hw2 h) (hx b n) (hst2 h) (h02 h)
  simp only [e2]
  have := norm_fold (wa o) (f1 b n) (wb o) (fun h => max (norm (st2 h) (∑ j, w2 h j * xs b n j)) 0) (st o) (hwa o) (hf b n) (hwb o)
    (fun h => (Real?.norm (hst2 h) (h02 h) (Real?.sum fun j => (hw2 h j).mul (hx b n j))).max real_zero) (hst o) (h0 o)
  rw [this]

end Cert.Knn

end
-- ==== Proof.Net.lean ====
/- The network's stages in the launch's arguments, as the kernel and as the reference computes them, and that both agree. -/
module

public import proofs.«01_k».proof.Proof.Model

@[expose] public section

noncomputable section

namespace Cert.Knn

open Idealize.ShloMosaic

/-- A matrix of index words. -/
abbrev Words (a b : ℕ) : Type := (⟨2, ![a, b]⟩ : Shape).Idx → BitVec 32

/-- An entry of a matrix. -/
abbrev ent {a b : ℕ} (m : Mat a b) (i : Fin a) (j : Fin b) : EReal := m (ix2 i j)

/-- An entry of a stack. -/
abbrev ent3 {a b c : ℕ} (m : Stk a b c) (i : Fin a) (j : Fin b) (k : Fin c) : EReal := m (ix3 i j k)

/-- An entry of an array of four axes. -/
def ent4 {a b c d : ℕ} (m : (⟨4, ![a, b, c, d]⟩ : Shape).Idx → EReal) (i : Fin a) (j : Fin b) (k : Fin c) (l : Fin d) : EReal := m (ix4 i j k l)

/-- The launch's arguments: the points, the layers' weights and statistics, the sampled points and their positions. -/
structure Args where
  x : Stk 16 6 2048
  w1 : Mat 64 6
  bn1 : Mat 4 64
  w2 : Mat 1024 64
  bn2 : Mat 4 1024
  geoW : Mat 64 128
  geoB : Mat 4 64
  featW : Mat 64 128
  featB : Mat 4 64
  fuseW : Mat 64 128
  fuseB : Mat 4 64
  gl0W : Mat 128 128
  gl0B : Mat 4 128
  gl1W : Mat 256 256
  gl1B : Mat 4 256
  wf : Mat 512 1280
  bnf : Mat 4 512
  p1 : Stk 16 512 3
  i1 : Words 16 512
  p2 : Stk 16 256 3
  i2 : Words 16 256

/-- What the precondition gives: real values, and variances that are not negative. -/
structure Args.Good (A : Args) : Prop where
  x : ∀ j, Real? (A.x j)
  w1 : ∀ j, Real? (A.w1 j)
  bn1 : ∀ j, Real? (A.bn1 j)
  w2 : ∀ j, Real? (A.w2 j)
  bn2 : ∀ j, Real? (A.bn2 j)
  geoW : ∀ j, Real? (A.geoW j)
  geoB : ∀ j, Real? (A.geoB j)
  featW : ∀ j, Real? (A.featW j)
  featB : ∀ j, Real? (A.featB j)
  fuseW : ∀ j, Real? (A.fuseW j)
  fuseB : ∀ j, Real? (A.fuseB j)
  gl0W : ∀ j, Real? (A.gl0W j)
  gl0B : ∀ j, Real? (A.gl0B j)
  gl1W : ∀ j, Real? (A.gl1W j)
  gl1B : ∀ j, Real? (A.gl1B j)
  wf : ∀ j, Real? (A.wf j)
  bnf : ∀ j, Real? (A.bnf j)
  p1 : ∀ j, Real? (A.p1 j)
  p2 : ∀ j, Real? (A.p2 j)
  bn1v : ∀ o, 0 ≤ A.bn1 (ix2 3 o)
  bn2v : ∀ o, 0 ≤ A.bn2 (ix2 3 o)
  geoV : ∀ o, 0 ≤ A.geoB (ix2 3 o)
  featV : ∀ o, 0 ≤ A.featB (ix2 3 o)
  fuseV : ∀ o, 0 ≤ A.fuseB (ix2 3 o)
  gl0V : ∀ o, 0 ≤ A.gl0B (ix2 3 o)
  gl1V : ∀ o, 0 ≤ A.gl1B (ix2 3 o)
  bnfV : ∀ o, 0 ≤ A.bnf (ix2 3 o)

namespace Args

variable (A : Args)

/-- A point's coordinates. -/
def pt (b : Fin 16) (i : Fin 2048) (k : Fin 3) : EReal := A.x (ix3 b ⟨k.val, by omega⟩ i)

/-- A point's features. -/
def feat (b : Fin 16) (i : Fin 2048) (o : Fin 64) : EReal :=
  max (norm (stat A.bn1 o) (∑ k : Fin 6, A.w1 (ix2 o k) * A.x (ix3 b k i))) 0

/-- The features of every eighth point. -/
def skip (b : Fin 16) (n : Fin 256) (j : Fin 64) : EReal := A.feat b ⟨8 * n.val, by omega⟩ j

/-- The first sampled points. -/
def q1 (b : Fin 16) (r : Fin 512) (k : Fin 3) : EReal := A.p1 (ix3 b r k)

/-- The second sampled points. -/
def q2 (b : Fin 16) (r : Fin 256) (k : Fin 3) : EReal := A.p2 (ix3 b r k)

/-- The positions of the first sampled points. -/
def at1 (b : Fin 16) (r : Fin 512) : Fin 2048 := pick 2048 (by decide) (A.i1 (ix2 b r))

/-- The positions of the second sampled points among the first. -/
def at2 (b : Fin 16) (r : Fin 256) : Fin 512 := pick 512 (by decide) (A.i2 (ix2 b r))

/-! ## As the kernel computes them -/

/-- The geometric edge features. -/
def geoK : Fin 16 → Fin 2048 → Fin 64 → EReal :=
  aggOf 20 fifth A.pt A.pt A.feat A.feat (lo A.geoW 64 (by decide)) (hi A.geoW 64 64 (by decide)) (stat A.geoB)

/-- The edge features among the nearest in feature space. -/
def feaK : Fin 16 → Fin 2048 → Fin 64 → EReal :=
  aggOf 20 fifth A.feat A.feat A.feat A.feat (lo A.featW 64 (by decide)) (hi A.featW 64 64 (by decide)) (stat A.featB)

/-- Both fused. -/
def outK : Fin 16 → Fin 2048 → Fin 64 → EReal :=
  fuseK A.geoK A.feaK (lo A.fuseW 64 (by decide)) (hi A.fuseW 64 64 (by decide)) (stat A.fuseB)

/-- The first local aggregation. -/
def f0K : Fin 16 → Fin 512 → Fin 128 → EReal :=
  aggOf 32 0 A.q1 A.pt A.outK (fun b r => A.outK b (A.at1 b r)) (lo A.gl0W 64 (by decide)) (hi A.gl0W 64 64 (by decide)) (stat A.gl0B)

/-- The second local aggregation. -/
def f1K : Fin 16 → Fin 256 → Fin 256 → EReal :=
  aggOf 32 0 A.q2 A.q1 A.f0K (fun b r => A.f0K b (A.at2 b r)) (lo A.gl1W 128 (by decide)) (hi A.gl1W 128 128 (by decide)) (stat A.gl1B)

/-- The result. -/
def resK : Fin 16 → Fin 512 → Fin 256 → EReal :=
  lastK A.f1K A.skip (fun h j => A.w2 (ix2 h j)) (stat A.bn2) (lo A.wf 256 (by decide)) (hi A.wf 256 1024 (by decide)) (stat A.bnf)

/-! ## As the reference computes them -/

/-- The geometric edge features. -/
def geoR : Fin 16 → Fin 2048 → Fin 64 → EReal :=
  aggR 20 (by decide) fifth A.pt A.pt A.feat A.feat (lo A.geoW 64 (by decide)) (hi A.geoW 64 64 (by decide)) (stat A.geoB)

/-- The edge features among the nearest in feature space. -/
def feaR : Fin 16 → Fin 2048 → Fin 64 → EReal :=
  aggR 20 (by decide) fifth A.feat A.feat A.feat A.feat (lo A.featW 64 (by decide)) (hi A.featW 64 64 (by decide)) (stat A.featB)

/-- Both fused. -/
def outR : Fin 16 → Fin 2048 → Fin 64 → EReal :=
  fuseR A.geoR A.feaR (lo A.fuseW 64 (by decide)) (hi A.fuseW 64 64 (by decide)) (stat A.fuseB)

/-- The first local aggregation. -/
def f0R : Fin 16 → Fin 512 → Fin 128 → EReal :=
  aggR 32 (by decide) 0 A.q1 A.pt A.outR (fun b r => A.outR b (A.at1 b r)) (lo A.gl0W 64 (by decide)) (hi A.gl0W 64 64 (by decide)) (stat A.gl0B)

/-- The second local aggregation. -/
def f1R : Fin 16 → Fin 256 → Fin 256 → EReal :=
  aggR 32 (by decide) 0 A.q2 A.q1 A.f0R (fun b r => A.f0R b (A.at2 b r)) (lo A.gl1W 128 (by decide)) (hi A.gl1W 128 128 (by decide)) (stat A.gl1B)

/-- The result. -/
def resR : Fin 16 → Fin 512 → Fin 256 → EReal :=
  lastR A.f1R A.skip (fun h j => A.w2 (ix2 h j)) (stat A.bn2) (lo A.wf 256 (by decide)) (hi A.wf 256 1024 (by decide)) (stat A.bnf)

/-! ## Both agree -/

variable {A} (G : A.Good)

include G

theorem pt_real (b : Fin 16) (i : Fin 2048) (k : Fin 3) : Real? (A.pt b i k) := G.x _

theorem feat_real (b : Fin 16) (i : Fin 2048) (o : Fin 64) : Real? (A.feat b i o) := by
  unfold feat
  refine Real?.max (Real?.norm (fun a => ?_) ?_ (Real?.sum fun k => Real?.mul ?_ ?_)) real_zero
  · exact G.bn1 (ix2 a o)
  · exact G.bn1v o
  · exact G.w1 (ix2 o k)
  · exact G.x (ix3 b k i)

theorem geo_eq : A.geoK = A.geoR := by
  unfold geoK geoR
  refine agg_eq ?_ _ ?_ _ _ ?_ ?_ ?_ ?_ ?_ ?_
  · decide
  · exact fifth_nonneg
  · exact (feat_real G)
  · exact (feat_real G)
  · exact (fun _ _ => G.geoW _)
  · exact (fun _ _ => G.geoW _)
  · exact (fun _ _ => G.geoB _)
  · exact G.geoV

theorem geo_real (b : Fin 16) (i : Fin 2048) (o : Fin 64) : Real? (A.geoR b i o) := by
  unfold geoR
  refine aggR_real ?_ _ ?_ _ _ ?_ ?_ ?_ ?_ ?_ ?_ b i o
  · decide
  · exact fifth_real
  · exact (feat_real G)
  · exact (feat_real G)
  · exact (fun _ _ => G.geoW _)
  · exact (fun _ _ => G.geoW _)
  · exact (fun _ _ => G.geoB _)
  · exact G.geoV

theorem fea_eq : A.feaK = A.feaR := by
  unfold feaK feaR
  refine agg_eq ?_ _ ?_ _ _ ?_ ?_ ?_ ?_ ?_ ?_
  · decide
  · exact fifth_nonneg
  · exact (feat_real G)
  · exact (feat_real G)
  · exact (fun _ _ => G.featW _)
  · exact (fun _ _ => G.featW _)
  · exact (fun _ _ => G.featB _)
  · exact G.featV

theorem fea_real (b : Fin 16) (i : Fin 2048) (o : Fin 64) : Real? (A.feaR b i o) := by
  unfold feaR
  refine aggR_real ?_ _ ?_ _ _ ?_ ?_ ?_ ?_ ?_ ?_ b i o
  · decide
  · exact fifth_real
  · exact (feat_real G)
  · exact (feat_real G)
  · exact (fun _ _ => G.featW _)
  · exact (fun _ _ => G.featW _)
  · exact (fun _ _ => G.featB _)
  · exact G.featV

theorem out_eq : A.outK = A.outR := by
  unfold outK outR
  rw [geo_eq G, fea_eq G]
  exact fuse_eq (geo_real G) (fea_real G) (fun _ _ => G.fuseW _) (fun _ _ => G.fuseW _) (fun _ _ => G.fuseB _) G.fuseV

theorem out_real (b : Fin 16) (i : Fin 2048) (o : Fin 64) : Real? (A.outR b i o) := by
  unfold outR
  refine fuseR_real ?_ ?_ ?_ ?_ ?_ ?_ b i o
  · exact geo_real G
  · exact fea_real G
  · exact fun _ _ => G.fuseW _
  · exact fun _ _ => G.fuseW _
  · exact fun _ _ => G.fuseB _
  · exact G.fuseV

theorem f0_eq : A.f0K = A.f0R := by
  unfold f0K f0R
  rw [out_eq G]
  refine agg_eq ?_ _ ?_ _ _ ?_ ?_ ?_ ?_ ?_ ?_
  · decide
  · exact le_rfl
  · exact (out_real G)
  · exact (fun b r => out_real G b _)
  · exact (fun _ _ => G.gl0W _)
  · exact (fun _ _ => G.gl0W _)
  · exact (fun _ _ => G.gl0B _)
  · exact G.gl0V

theorem f0_real (b : Fin 16) (i : Fin 512) (o : Fin 128) : Real? (A.f0R b i o) := by
  unfold f0R
  refine aggR_real ?_ _ ?_ _ _ ?_ ?_ ?_ ?_ ?_ ?_ b i o
  · decide
  · exact real_zero
  · exact (out_real G)
  · exact (fun b r => out_real G b _)
  · exact (fun _ _ => G.gl0W _)
  · exact (fun _ _ => G.gl0W _)
  · exact (fun _ _ => G.gl0B _)
  · exact G.gl0V

theorem f1_eq : A.f1K = A.f1R := by
  unfold f1K f1R
  rw [f0_eq G]
  refine agg_eq ?_ _ ?_ _ _ ?_ ?_ ?_ ?_ ?_ ?_
  · decide
  · exact le_rfl
  · exact (f0_real G)
  · exact (fun b r => f0_real G b _)
  · exact (fun _ _ => G.gl1W _)
  · exact (fun _ _ => G.gl1W _)
  · exact (fun _ _ => G.gl1B _)
  · exact G.gl1V

theorem f1_real (b : Fin 16) (i : Fin 256) (o : Fin 256) : Real? (A.f1R b i o) := by
  unfold f1R
  refine aggR_real ?_ _ ?_ _ _ ?_ ?_ ?_ ?_ ?_ ?_ b i o
  · decide
  · exact real_zero
  · exact (f0_real G)
  · exact (fun b r => f0_real G b _)
  · exact (fun _ _ => G.gl1W _)
  · exact (fun _ _ => G.gl1W _)
  · exact (fun _ _ => G.gl1B _)
  · exact G.gl1V

/-- The kernel's result is the reference's. -/
theorem res_eq : A.resK = A.resR := by
  unfold resK resR
  rw [f1_eq G]
  exact last_eq (f1_real G) (fun b n j => feat_real G b _ j) (fun _ _ => G.w2 _) (fun _ _ => G.bn2 _) G.bn2v (fun _ _ => G.wf _)
    (fun _ _ => G.wf _) (fun _ _ => G.bnf _) G.bnfV

/-- The distances among the points are below `+∞`, -/
theorem gap_pt (b : Fin 16) (r i : Fin 2048) : gap (A.pt b r) (A.pt b i) < ⊤ := gap_lt_top _ _ (pt_real G b r) (pt_real G b i)

/-- so are those among the features, -/
theorem gap_feat (b : Fin 16) (r i : Fin 2048) : gap (A.feat b r) (A.feat b i) < ⊤ := gap_lt_top _ _ (feat_real G b r) (feat_real G b i)

/-- those of the first sampled points from the points, -/
theorem gap_q1 (b : Fin 16) (r : Fin 512) (i : Fin 2048) : gap (A.q1 b r) (A.pt b i) < ⊤ := gap_lt_top _ _ (fun _ => G.p1 _) (pt_real G b i)

/-- and those of the second sampled points from the first. -/
theorem gap_q2 (b : Fin 16) (r : Fin 256) (i : Fin 512) : gap (A.q2 b r) (A.q1 b i) < ⊤ := gap_lt_top _ _ (fun _ => G.p2 _) (fun _ => G.p1 _)

end Args

end Cert.Knn

end
-- ==== Proof.Host0.lean ====
/- The arrays the host computes before the first two aggregations, at an index, over any state it starts from. -/
module

public import proofs.«01_k».proof.Proof.Gen.CoreIdeal.Launch
public import proofs.«01_k».proof.Proof.Gather
public import proofs.«01_k».proof.Proof.Net
public import Idealize.ShloMosaic.Lib.Pipeline.ValueKit
public import Idealize.ShloMosaic.Lib.StableHlo.ReadAt

@[expose] public section

set_option maxRecDepth 16384

noncomputable section

namespace Cert.Knn.Host

open Cert.CoreIdeal Cert.CoreIdeal.Gen Idealize.ShloMosaic Idealize.ShloMosaic.TcCoe Idealize.SL.Sem

variable (W : Valuation τ sig (Elt Ideal))

/-- The coordinates, points first. -/
theorem pt_at (b : Fin 16) (i : Fin 2048) (k : Fin 3) : (StableHlo.after hostOps0 W (Proc.devRef .tc main_v1) : Stk 16 2048 3) (ix3 b i k)
    = (W (Proc.devRef .tc main_arg0) : Stk 16 6 2048) (ix3 b ⟨k.val, by omega⟩ i) := by
  simp only [hostOps0]
  after_results_simp
  pointwise

/-- The first layer before its activation. -/
theorem lin_at (b : Fin 16) (i : Fin 2048) (o : Fin 64) : (StableHlo.after hostOps0 W (Proc.devRef .tc main_v30) : Stk 16 64 2048) (ix3 b o i)
    = norm (stat (W (Proc.devRef .tc main_arg2) : Mat 4 64) o) (∑ k : Fin 6, ent (W (Proc.devRef .tc main_arg1) : Mat 64 6) o k * ent3 (W (Proc.devRef .tc main_arg0) : Stk 16 6 2048) b k i) := by
  simp only [hostOps0]
  after_results_simp
  pointwise
  rfl

/-- The activation of the first layer. -/
theorem relu_at (b : Fin 16) (i : Fin 2048) (o : Fin 64) : (StableHlo.after hostOps0_1 W (Proc.devRef .tc main_v31) : Stk 16 64 2048) (ix3 b o i)
    = max (ent3 (W (Proc.devRef .tc main_v30) : Stk 16 64 2048) b o i) 0 := by
  simp only [hostOps0_1]
  after_results_simp
  simp -implicitDefEqProofs only [StableHlo.TRef.toBuf, StableHlo.TRef.ofBuf, cast_cast, cast_eq]
  pointwise

/-- The features, points first. -/
theorem feat_at (b : Fin 16) (i : Fin 2048) (o : Fin 64) : (StableHlo.after hostOps0_2 W (Proc.devRef .tc main_v32) : Stk 16 2048 64) (ix3 b i o)
    = (W (Proc.devRef .tc main_v31) : Stk 16 64 2048) (ix3 b o i) := by
  simp only [hostOps0_2]
  after_results_simp
  pointwise

/-- The weights of a neighbour, for the geometric edges. -/
theorem geo_lo (o k : Fin 64) : (StableHlo.after hostOps0_2 W (Proc.devRef .tc main_v52) : Mat 64 64) (ix2 o k)
    = lo (W (Proc.devRef .tc main_arg5) : Mat 64 128) 64 (by decide) o k * scale (stat (W (Proc.devRef .tc main_arg6) : Mat 4 64) o) := by
  simp only [hostOps0_2]
  after_results_simp
  pointwise
  rfl

/-- The weights of the centre, for the geometric edges. -/
theorem geo_hi (o k : Fin 64) : (StableHlo.after hostOps0_2 W (Proc.devRef .tc main_v54) : Mat 64 64) (ix2 o k)
    = hi (W (Proc.devRef .tc main_arg5) : Mat 64 128) 64 64 (by decide) o k * scale (stat (W (Proc.devRef .tc main_arg6) : Mat 4 64) o) - lo (W (Proc.devRef .tc main_arg5) : Mat 64 128) 64 (by decide) o k * scale (stat (W (Proc.devRef .tc main_arg6) : Mat 4 64) o) := by
  simp only [hostOps0_2]
  after_results_simp
  pointwise
  rfl

/-- The offset, for the geometric edges. -/
theorem geo_off (o : Fin 64) : (StableHlo.after hostOps0_2 W (Proc.devRef .tc main_v81) : Mat 1 64) (ix2 0 o)
    = offset (stat (W (Proc.devRef .tc main_arg6) : Mat 4 64) o) := by
  simp only [hostOps0_2]
  after_results_simp
  pointwise
  rfl

/-- The weights of a neighbour, for the edges in feature space. -/
theorem fea_lo (o k : Fin 64) : (StableHlo.after hostOps0_2 W (Proc.devRef .tc main_v72) : Mat 64 64) (ix2 o k)
    = lo (W (Proc.devRef .tc main_arg7) : Mat 64 128) 64 (by decide) o k * scale (stat (W (Proc.devRef .tc main_arg8) : Mat 4 64) o) := by
  simp only [hostOps0_2]
  after_results_simp
  pointwise
  rfl

/-- The weights of the centre, for the edges in feature space. -/
theorem fea_hi (o k : Fin 64) : (StableHlo.after hostOps0_2 W (Proc.devRef .tc main_v74) : Mat 64 64) (ix2 o k)
    = hi (W (Proc.devRef .tc main_arg7) : Mat 64 128) 64 64 (by decide) o k * scale (stat (W (Proc.devRef .tc main_arg8) : Mat 4 64) o) - lo (W (Proc.devRef .tc main_arg7) : Mat 64 128) 64 (by decide) o k * scale (stat (W (Proc.devRef .tc main_arg8) : Mat 4 64) o) := by
  simp only [hostOps0_2]
  after_results_simp
  pointwise
  rfl

/-- The offset, for the edges in feature space. -/
theorem fea_off (o : Fin 64) : (StableHlo.after hostOps0_2 W (Proc.devRef .tc main_v71) : (⟨1, ![64]⟩ : Shape).Idx → EReal) (ix1 o)
    = offset (stat (W (Proc.devRef .tc main_arg8) : Mat 4 64) o) := by
  simp only [hostOps0_2]
  after_results_simp
  pointwise
  rfl

/-- The batches. -/
theorem iota_at (b : Fin 16) : (StableHlo.after hostOps0_2 W (Proc.devRef .tc main_v34) : Words 16 1) (ix2 b 0)
    = BitVec.ofNat 32 b.val := by
  simp only [hostOps0_2]
  after_results_simp
  pointwise

/-- The squared lengths, one column. -/
theorem pt_sq (b : Fin 16) (i : Fin 2048) : (StableHlo.after hostOps0_2 W (Proc.devRef .tc main_v77) : Stk 16 2048 1) (ix3 b i 0)
    = sq (fun k => (W (Proc.devRef .tc main_v1) : Stk 16 2048 3) (ix3 b i k)) := by
  simp only [hostOps0_2]
  after_results_simp
  pointwise
  rfl

/-- The squared lengths, one row. -/
theorem pt_sq_row (b : Fin 16) (i : Fin 2048) : (StableHlo.after hostOps0_2 W (Proc.devRef .tc main_v80) : Stk 16 1 2048) (ix3 b 0 i)
    = sq (fun k => (W (Proc.devRef .tc main_v1) : Stk 16 2048 3) (ix3 b i k)) := by
  simp only [hostOps0_2]
  after_results_simp
  pointwise
  rfl

/-- The squared lengths of the features, one column. -/
theorem feat_sq (b : Fin 16) (i : Fin 2048) : (StableHlo.after hostOps1 W (Proc.devRef .tc main_v85) : Stk 16 2048 1) (ix3 b i 0)
    = sq (fun k => (W (Proc.devRef .tc main_v32) : Stk 16 2048 64) (ix3 b i k)) := by
  simp only [hostOps1]
  after_results_simp
  pointwise
  rfl

/-- The squared lengths of the features, one row. -/
theorem feat_sq_row (b : Fin 16) (i : Fin 2048) : (StableHlo.after hostOps1 W (Proc.devRef .tc main_v88) : Stk 16 1 2048) (ix3 b 0 i)
    = sq (fun k => (W (Proc.devRef .tc main_v32) : Stk 16 2048 64) (ix3 b i k)) := by
  simp only [hostOps1]
  after_results_simp
  pointwise
  rfl

/-- The offset as a row. -/
theorem fea_off_row (o : Fin 64) : (StableHlo.after hostOps1 W (Proc.devRef .tc main_v89) : Mat 1 64) (ix2 0 o)
    = (W (Proc.devRef .tc main_v71) : (⟨1, ![64]⟩ : Shape).Idx → EReal) (ix1 o) := by
  simp only [hostOps1]
  after_results_simp
  pointwise

end Cert.Knn.Host

end
-- ==== Proof.Chain0.lean ====
/- What each stretch of the kernel leaves unchanged, and the features it starts from. -/
module

public import proofs.«01_k».proof.Proof.Gen.CoreIdeal.Frame.Fold0
public import proofs.«01_k».proof.Proof.Host0

@[expose] public section

set_option maxRecDepth 16384

noncomputable section

namespace Cert.Knn.Chain

open Cert.CoreIdeal Cert.CoreIdeal.Gen Idealize.ShloMosaic Idealize.ShloMosaic.TcCoe Idealize.SL.Sem

variable (m : (ℓ : Loc nD τ sig) → Buf (Elt Ideal) ℓ) (ρ : Dev nD → PrngReg) (c : Dev nD)

/-- The launch's arguments. -/
def args : Args where
  x := m ((c : Thread nD τ).loc main_arg0)
  w1 := m ((c : Thread nD τ).loc main_arg1)
  bn1 := m ((c : Thread nD τ).loc main_arg2)
  w2 := m ((c : Thread nD τ).loc main_arg3)
  bn2 := m ((c : Thread nD τ).loc main_arg4)
  geoW := m ((c : Thread nD τ).loc main_arg5)
  geoB := m ((c : Thread nD τ).loc main_arg6)
  featW := m ((c : Thread nD τ).loc main_arg7)
  featB := m ((c : Thread nD τ).loc main_arg8)
  fuseW := m ((c : Thread nD τ).loc main_arg9)
  fuseB := m ((c : Thread nD τ).loc main_arg10)
  gl0W := m ((c : Thread nD τ).loc main_arg11)
  gl0B := m ((c : Thread nD τ).loc main_arg12)
  gl1W := m ((c : Thread nD τ).loc main_arg13)
  gl1B := m ((c : Thread nD τ).loc main_arg14)
  wf := m ((c : Thread nD τ).loc main_arg15)
  bnf := m ((c : Thread nD τ).loc main_arg16)
  p1 := m ((c : Thread nD τ).loc main_arg17)
  i1 := m ((c : Thread nD τ).loc main_arg18)
  p2 := m ((c : Thread nD τ).loc main_arg19)
  i2 := m ((c : Thread nD τ).loc main_arg20)

/-! ## What the stretches leave unchanged -/

theorem keep_v1_2 : W2 m ρ c (Proc.devRef .tc main_v1) = W1 m ρ c (Proc.devRef .tc main_v1) :=
  (W2_of m ρ c main_v1 (by decide +kernel))

theorem keep_v1_3 : W3 m ρ c (Proc.devRef .tc main_v1) = W1 m ρ c (Proc.devRef .tc main_v1) :=
  ((W3_of m ρ c main_v1 (by decide +kernel)).trans (W2_of m ρ c main_v1 (by decide +kernel)))

theorem keep_v1_8 : W8 m ρ c (Proc.devRef .tc main_v1) = W1 m ρ c (Proc.devRef .tc main_v1) :=
  (((((((W8_of m ρ c main_v1 (by decide +kernel)).trans (W7_of m ρ c main_v1 (by decide +kernel))).trans (W6_of m ρ c main_v1 (by decide +kernel))).trans (W5_of m ρ c main_v1 (by decide +kernel))).trans (W4_of m ρ c main_v1 (by decide +kernel))).trans (W3_of m ρ c main_v1 (by decide +kernel))).trans (W2_of m ρ c main_v1 (by decide +kernel)))

theorem keep_v1_9 : W9 m ρ c (Proc.devRef .tc main_v1) = W1 m ρ c (Proc.devRef .tc main_v1) :=
  ((((((((W9_of m ρ c main_v1 (by decide +kernel)).trans (W8_of m ρ c main_v1 (by decide +kernel))).trans (W7_of m ρ c main_v1 (by decide +kernel))).trans (W6_of m ρ c main_v1 (by decide +kernel))).trans (W5_of m ρ c main_v1 (by decide +kernel))).trans (W4_of m ρ c main_v1 (by decide +kernel))).trans (W3_of m ρ c main_v1 (by decide +kernel))).trans (W2_of m ρ c main_v1 (by decide +kernel)))

theorem keep_v31_12 : W12 m ρ c (Proc.devRef .tc main_v31) = W2 m ρ c (Proc.devRef .tc main_v31) :=
  ((((((((((W12_of m ρ c main_v31 (by decide +kernel)).trans (W11_of m ρ c main_v31 (by decide +kernel))).trans (W10_of m ρ c main_v31 (by decide +kernel))).trans (W9_of m ρ c main_v31 (by decide +kernel))).trans (W8_of m ρ c main_v31 (by decide +kernel))).trans (W7_of m ρ c main_v31 (by decide +kernel))).trans (W6_of m ρ c main_v31 (by decide +kernel))).trans (W5_of m ρ c main_v31 (by decide +kernel))).trans (W4_of m ρ c main_v31 (by decide +kernel))).trans (W3_of m ρ c main_v31 (by decide +kernel)))

theorem keep_v32_4 : W4 m ρ c (Proc.devRef .tc main_v32) = W3 m ρ c (Proc.devRef .tc main_v32) :=
  (W4_of m ρ c main_v32 (by decide +kernel))

theorem keep_v32_5 : W5 m ρ c (Proc.devRef .tc main_v32) = W3 m ρ c (Proc.devRef .tc main_v32) :=
  ((W5_of m ρ c main_v32 (by decide +kernel)).trans (W4_of m ρ c main_v32 (by decide +kernel)))

theorem keep_v34_8 : W8 m ρ c (Proc.devRef .tc main_v34) = W3 m ρ c (Proc.devRef .tc main_v34) :=
  (((((W8_of m ρ c main_v34 (by decide +kernel)).trans (W7_of m ρ c main_v34 (by decide +kernel))).trans (W6_of m ρ c main_v34 (by decide +kernel))).trans (W5_of m ρ c main_v34 (by decide +kernel))).trans (W4_of m ρ c main_v34 (by decide +kernel)))

theorem keep_v34_10 : W10 m ρ c (Proc.devRef .tc main_v34) = W3 m ρ c (Proc.devRef .tc main_v34) :=
  (((((((W10_of m ρ c main_v34 (by decide +kernel)).trans (W9_of m ρ c main_v34 (by decide +kernel))).trans (W8_of m ρ c main_v34 (by decide +kernel))).trans (W7_of m ρ c main_v34 (by decide +kernel))).trans (W6_of m ρ c main_v34 (by decide +kernel))).trans (W5_of m ρ c main_v34 (by decide +kernel))).trans (W4_of m ρ c main_v34 (by decide +kernel)))

theorem keep_v71_4 : W4 m ρ c (Proc.devRef .tc main_v71) = W3 m ρ c (Proc.devRef .tc main_v71) :=
  (W4_of m ρ c main_v71 (by decide +kernel))

theorem keep_v72_5 : W5 m ρ c (Proc.devRef .tc main_v72) = W3 m ρ c (Proc.devRef .tc main_v72) :=
  ((W5_of m ρ c main_v72 (by decide +kernel)).trans (W4_of m ρ c main_v72 (by decide +kernel)))

theorem keep_v74_5 : W5 m ρ c (Proc.devRef .tc main_v74) = W3 m ρ c (Proc.devRef .tc main_v74) :=
  ((W5_of m ρ c main_v74 (by decide +kernel)).trans (W4_of m ρ c main_v74 (by decide +kernel)))

theorem keep_v82_7 : W7 m ρ c (Proc.devRef .tc main_v82) = W4 m ρ c (Proc.devRef .tc main_v82) :=
  (((W7_of m ρ c main_v82 (by decide +kernel)).trans (W6_of m ρ c main_v82 (by decide +kernel))).trans (W5_of m ρ c main_v82 (by decide +kernel)))

theorem keep_v90_7 : W7 m ρ c (Proc.devRef .tc main_v90) = W6 m ρ c (Proc.devRef .tc main_v90) :=
  (W7_of m ρ c main_v90 (by decide +kernel))

theorem keep_v111_9 : W9 m ρ c (Proc.devRef .tc main_v111) = W8 m ρ c (Proc.devRef .tc main_v111) :=
  (W9_of m ρ c main_v111 (by decide +kernel))

theorem keep_v154_11 : W11 m ρ c (Proc.devRef .tc main_v154) = W10 m ρ c (Proc.devRef .tc main_v154) :=
  (W11_of m ρ c main_v154 (by decide +kernel))

/-! ## The features -/

theorem pt_1 (b : Fin 16) (i : Fin 2048) (k : Fin 3) : (W1 m ρ c (Proc.devRef .tc main_v1) : Stk 16 2048 3) (ix3 b i k) = (args m c).pt b i k :=
  Host.pt_at (W0 m ρ c) b i k

theorem pt_2 (b : Fin 16) (i : Fin 2048) (k : Fin 3) : (W2 m ρ c (Proc.devRef .tc main_v1) : Stk 16 2048 3) (ix3 b i k) = (args m c).pt b i k := by
  rw [keep_v1_2]; exact pt_1 m ρ c b i k

theorem pt_3 (b : Fin 16) (i : Fin 2048) (k : Fin 3) : (W3 m ρ c (Proc.devRef .tc main_v1) : Stk 16 2048 3) (ix3 b i k) = (args m c).pt b i k := by
  rw [keep_v1_3]; exact pt_1 m ρ c b i k

theorem pt_8 (b : Fin 16) (i : Fin 2048) (k : Fin 3) : (W8 m ρ c (Proc.devRef .tc main_v1) : Stk 16 2048 3) (ix3 b i k) = (args m c).pt b i k := by
  rw [keep_v1_8]; exact pt_1 m ρ c b i k

theorem pt_9 (b : Fin 16) (i : Fin 2048) (k : Fin 3) : (W9 m ρ c (Proc.devRef .tc main_v1) : Stk 16 2048 3) (ix3 b i k) = (args m c).pt b i k := by
  rw [keep_v1_9]; exact pt_1 m ρ c b i k

theorem feat_2 (b : Fin 16) (i : Fin 2048) (o : Fin 64) : (W2 m ρ c (Proc.devRef .tc main_v31) : Stk 16 64 2048) (ix3 b o i) = (args m c).feat b i o := by
  refine (Host.relu_at (W1 m ρ c) b i o).trans ?_
  have h : ent3 (W1 m ρ c (Proc.devRef .tc main_v30) : Stk 16 64 2048) b o i = _ := Host.lin_at (W0 m ρ c) b i o
  rw [h]
  rfl

theorem feat_12 (b : Fin 16) (i : Fin 2048) (o : Fin 64) : (W12 m ρ c (Proc.devRef .tc main_v31) : Stk 16 64 2048) (ix3 b o i) = (args m c).feat b i o := by
  rw [keep_v31_12]; exact feat_2 m ρ c b i o

theorem featT_3 (b : Fin 16) (i : Fin 2048) (o : Fin 64) : (W3 m ρ c (Proc.devRef .tc main_v32) : Stk 16 2048 64) (ix3 b i o) = (args m c).feat b i o :=
  (Host.feat_at (W2 m ρ c) b i o).trans (feat_2 m ρ c b i o)

theorem featT_4 (b : Fin 16) (i : Fin 2048) (o : Fin 64) : (W4 m ρ c (Proc.devRef .tc main_v32) : Stk 16 2048 64) (ix3 b i o) = (args m c).feat b i o := by
  rw [keep_v32_4]; exact featT_3 m ρ c b i o

theorem featT_5 (b : Fin 16) (i : Fin 2048) (o : Fin 64) : (W5 m ρ c (Proc.devRef .tc main_v32) : Stk 16 2048 64) (ix3 b i o) = (args m c).feat b i o := by
  rw [keep_v32_5]; exact featT_3 m ρ c b i o

theorem iota_8 (b : Fin 16) : (W8 m ρ c (Proc.devRef .tc main_v34) : Words 16 1) (ix2 b 0) = BitVec.ofNat 32 b.val := by
  rw [keep_v34_8]; exact Host.iota_at (W2 m ρ c) b

theorem iota_10 (b : Fin 16) : (W10 m ρ c (Proc.devRef .tc main_v34) : Words 16 1) (ix2 b 0) = BitVec.ofNat 32 b.val := by
  rw [keep_v34_10]; exact Host.iota_at (W2 m ρ c) b

end Cert.Knn.Chain

end
-- ==== Proof.Whole.lean ====
/- Reading a whole buffer back: a load of everything from a buffer that holds `x` reads `x`. -/
module

public import Idealize.ShloMosaic.Lib.Pipeline.Value
public import Idealize.ShloMosaic.Lib.Exec

@[expose] public section

noncomputable section

namespace Cert.Knn

open Idealize.ShloMosaic

/-- A load of the whole shape at zero offsets from a whole buffer holding `x` reads `x`. -/
theorem readAt_unread {Val : EltTy → Type} {sig : RefSig} {κ : Kind} {sp : Space} {s : Shape} {e : EltTy}
    {m : Memref sig κ sp s e} (hw : m.IsWhole) {off : Fin s.rank → ℕ} (h : off = fun _ => 0)
    (inb : ∀ a, off a + s.size a ≤ s.size a) (x : s.Idx → Val e) :
    View.readAt Val m.view (Rect.unit off s.size inb).toLoadRect (hw.unread x) = x := by
  have h1 : View.readAt Val m.view (Rect.unit off s.size inb).toLoadRect (hw.unread x)
      = View.ld (m.view.read Val (hw.unread x)) (Rect.unit off s.size inb) := rfl
  rw [h1, View.ld_unit_zero h]
  exact hw.read_unread x

/-- The offset `0` is zero on its axis. -/
theorem off1 : (![0] : Fin 1 → ℕ) = fun _ => 0 := by decide

/-- The offsets `0, 0` are zero on every axis. -/
theorem off2 : (![0, 0] : Fin 2 → ℕ) = fun _ => 0 := by decide

/-- The offsets `0, 0, 0` are zero on every axis. -/
theorem off3 : (![0, 0, 0] : Fin 3 → ℕ) = fun _ => 0 := by decide

/-- A read of a whole block is the block, for one, two and three axes. -/
theorem ld1 {Val : EltTy → Type} {e : EltTy} {d : Fin 1 → ℕ} (X : (⟨1, d⟩ : Shape).Idx → Val e)
    (inb : ∀ a, (![0] : Fin 1 → ℕ) a + d a ≤ d a) : View.ld X (Rect.unit (s := ⟨1, d⟩) ![0] d inb) = X :=
  View.ld_unit_zero (S := ⟨1, d⟩) off1 inb X
theorem ld2 {Val : EltTy → Type} {e : EltTy} {d : Fin 2 → ℕ} (X : (⟨2, d⟩ : Shape).Idx → Val e)
    (inb : ∀ a, (![0, 0] : Fin 2 → ℕ) a + d a ≤ d a) : View.ld X (Rect.unit (s := ⟨2, d⟩) ![0, 0] d inb) = X :=
  View.ld_unit_zero (S := ⟨2, d⟩) off2 inb X
theorem ld3 {Val : EltTy → Type} {e : EltTy} {d : Fin 3 → ℕ} (X : (⟨3, d⟩ : Shape).Idx → Val e)
    (inb : ∀ a, (![0, 0, 0] : Fin 3 → ℕ) a + d a ≤ d a) : View.ld X (Rect.unit (s := ⟨3, d⟩) ![0, 0, 0] d inb) = X :=
  View.ld_unit_zero (S := ⟨3, d⟩) off3 inb X

end Cert.Knn

end
-- ==== Proof.Geo.lean ====
/- The call of the coordinate graph: its array, from the arrays it reads. -/
module

public import proofs.«01_k».proof.Proof.Gen.CoreIdeal.Frame.Region0
public import proofs.«01_k».proof.Proof.Stage
public import proofs.«01_k».proof.Proof.Whole
public import Idealize.ShloMosaic.Lib.Pipeline.ValueKit

@[expose] public section

set_option maxRecDepth 16384

noncomputable section

namespace Cert.Knn.Geo

open Cert.CoreIdeal Cert.CoreIdeal.Gen Idealize.ShloMosaic Idealize.ShloMosaic.TcCoe Idealize.SL.Sem
open Idealize.ShloMosaic.Pipeline (Dat)

/-- The body's functions. -/
def pays : Pays 1024 2048 64 64 3 (Ideal.ofBits .f32 0x3E4CCCCD#32) where
  take := k0_pay4 (F := Ideal)
  keep := k0_pay5 (F := Ideal)
  act := k0_pay6 (F := Ideal)
  near := k0_pay7 (F := Ideal)
  centre := k0_pay8 (F := Ideal)
  dist q p qq pp := k0_pay1 (F := Ideal) (k0_pay10 q p qq) (k0_pay11 pp)
  start q p := k0_pay2 (F := Ideal) (k0_pay9 q p)
  take_at A p hp r i := by
    pointwise [k0_pay4, k0_pay3]
    rw [argMin_row _ _ _ _ (hp r), select_word (by decide)]
    rfl
  keep_at v A M p hp r o := by
    pointwise [k0_pay5, k0_pay3]
    rw [argMin_row _ _ _ _ (hp r)]
    exact congrArg _ (sum_onehot (by decide) (p r) fun x => v (ix2 x o))
  act_at t M r o := by pointwise [k0_pay6]; rfl
  near_at x w i o := by pointwise [k0_pay7]
  centre_at x w b r o := by pointwise [k0_pay8]
  dist_at q p qq pp r i := by pointwise [k0_pay1, k0_pay10, k0_pay9, k0_pay11]
  start_at q p r o := by
    pointwise [k0_pay2, k0_pay9]
    rw [mul_zero]
    exact EReal.sub_top 0

/-- The batch of a grid point. -/
def batch (t : Fin grid0.N) : Fin 16 := ⟨(grid0.coords t 0).val, (grid0.coords t 0).isLt⟩

/-- The array's row of a block's row. -/
def row (t : Fin grid0.N) (r : Fin 1024) : Fin 2048 := ⟨(grid0.coords t 1).val * 1024 + r.val, by
  have h : (grid0.coords t 1).val < 2 := (grid0.coords t 1).isLt
  have := r.isLt; omega⟩

theorem index0 : ∀ t, win0_0.index t = ![(grid0.coords t 0).val, (grid0.coords t 1).val, 0] := by decide +kernel
theorem index1 : ∀ t, win0_1.index t = ![(grid0.coords t 0).val, 0, 0] := by decide +kernel
theorem index2 : ∀ t, win0_2.index t = ![(grid0.coords t 0).val, (grid0.coords t 1).val, 0] := by decide +kernel
theorem index3 : ∀ t, win0_3.index t = ![(grid0.coords t 0).val, 0, 0] := by decide +kernel
theorem index4 : ∀ t, win0_4.index t = ![(grid0.coords t 0).val, 0, 0] := by decide +kernel
theorem index5 : ∀ t, win0_5.index t = ![0, 0] := by decide +kernel
theorem index6 : ∀ t, win0_6.index t = ![(grid0.coords t 0).val, (grid0.coords t 1).val, 0] := by decide +kernel
theorem index7 : ∀ t, win0_7.index t = ![0, 0] := by decide +kernel
theorem index8 : ∀ t, win0_8.index t = ![0, 0] := by decide +kernel
theorem index9 : ∀ t, win0_9.index t = ![(grid0.coords t 0).val, (grid0.coords t 1).val, 0] := by decide +kernel

variable (V : (c : Dev nD) → (b : Ref sig .tc) → Buf (Elt Ideal) ((c : Thread nD τ).loc b)) (c : Dev nD)

/-- The body's run leaves its functions' block. -/
theorem outs_eq (t : Fin cfg0.N) : outsAt0 V c t = pays.out 20 (iblk0 V c 0 t) (iblk0 V c 1 t) (iblk0 V c 2 t) (iblk0 V c 3 t)
    (iblk0 V c 4 t) (iblk0 V c 5 t) (iblk0 V c 6 t) (iblk0 V c 7 t) (iblk0 V c 8 t) := by
  unfold outsAt0 out0_A_9 kernelRun0_A
  dsimp only
  refine (View.read_writes_junk_eq_canon VO0_9 _).trans ((View.canon_unit_zero off3 _ _).trans ?_)
  unfold kernelRun0_A.sl.r_1 kernelRun0_A.sl.r_5
  unfold kernelRun0_A.sl.r kernelRun0_A.sl.r_2 kernelRun0_A.sl.r_3 kernelRun0_A.sl.r_4
  rw [readAt_unread (hs0_0 t) off3, readAt_unread (hs0_1 t) off3, readAt_unread (hs0_2 t) off3, readAt_unread (hs0_3 t) off3,
    readAt_unread (hs0_4 t) off3, readAt_unread (hs0_5 t) off2, readAt_unread (hs0_6 t) off3, readAt_unread (hs0_7 t) off2,
    readAt_unread (hs0_8 t) off2]
  rfl

theorem block0 (t : Fin cfg0.N) (r : Fin 1024) (k : Fin 3) : iblk0 V c 0 t (ix3 0 r k) = V c main_v1 (ix3 (batch t) (row t r) k) := by
  blk_ext [iblk0, index0, batch, row]
theorem block1 (t : Fin cfg0.N) (i : Fin 2048) (k : Fin 3) : iblk0 V c 1 t (ix3 0 i k) = V c main_v1 (ix3 (batch t) i k) := by
  blk_ext [iblk0, index1, batch]
theorem block2 (t : Fin cfg0.N) (r : Fin 1024) : iblk0 V c 2 t (ix3 0 r 0) = V c main_v77 (ix3 (batch t) (row t r) 0) := by
  blk_ext [iblk0, index2, batch, row]
theorem block3 (t : Fin cfg0.N) (i : Fin 2048) : iblk0 V c 3 t (ix3 0 0 i) = V c main_v80 (ix3 (batch t) 0 i) := by
  blk_ext [iblk0, index3, batch]
theorem block4 (t : Fin cfg0.N) (i : Fin 2048) (k : Fin 64) : iblk0 V c 4 t (ix3 0 i k) = V c main_v32 (ix3 (batch t) i k) := by
  blk_ext [iblk0, index4, batch]
theorem block5 (t : Fin cfg0.N) (o k : Fin 64) : iblk0 V c 5 t (ix2 o k) = V c main_v52 (ix2 o k) := by
  blk_ext [iblk0, index5]
theorem block6 (t : Fin cfg0.N) (r : Fin 1024) (k : Fin 64) : iblk0 V c 6 t (ix3 0 r k) = V c main_v32 (ix3 (batch t) (row t r) k) := by
  blk_ext [iblk0, index6, batch, row]
theorem block7 (t : Fin cfg0.N) (o k : Fin 64) : iblk0 V c 7 t (ix2 o k) = V c main_v54 (ix2 o k) := by
  blk_ext [iblk0, index7]
theorem block8 (t : Fin cfg0.N) (o : Fin 64) : iblk0 V c 8 t (ix2 0 o) = V c main_v81 (ix2 0 o) := by
  blk_ext [iblk0, index8]

/-- The array's index of a block's index. -/
theorem emb9 (t : Fin cfg0.N) (r : Fin 1024) (o : Fin 64) :
    (win0_9.blk t).view.emb (ix3 0 r o) = (ix3 (batch t) (row t r) o : S16x2048x64.Idx) := by
  refine funext fun a => Fin.ext ?_
  match a with
  | ⟨0, _⟩ => blk_simp [index9]; rfl
  | ⟨1, _⟩ => blk_simp [index9]; rfl
  | ⟨2, _⟩ => blk_simp [index9]

/-- THE CALL'S ARRAY, every distance being below `+∞`. -/
theorem arr {q p : Fin 16 → Fin 2048 → Fin 3 → EReal} {f x : Fin 16 → Fin 2048 → Fin 64 → EReal} {w₀ w₁ : Fin 64 → Fin 64 → EReal}
    {st : Fin 64 → Fin 4 → EReal}
    (R : Ready (V c main_v1) (V c main_v1) (V c main_v77) (V c main_v80) (V c main_v32) (V c main_v52) (V c main_v32)
      (V c main_v54) (V c main_v81) q p f x w₀ w₁ st)
    (hfin : ∀ b r i, gap (q b r) (p b i) < ⊤) (b : Fin 16) (r : Fin 2048) (o : Fin 64) :
    (dat0 V c).arrAt 9 cfg0.N (ix3 b r o) = aggOf 20 (Ideal.ofBits .f32 0x3E4CCCCD#32) q p f x w₀ w₁ st b r o := by
  refine congrFun ((dat0 V c).arrAt_eq_of_covers 9
    (stk (aggOf 20 (Ideal.ofBits .f32 0x3E4CCCCD#32) q p f x w₀ w₁ st)) (by decide +kernel) fun t hf y => ?_) (ix3 b r o)
  blk_simp
  rw [after0_9, outs_eq]
  obtain ⟨r, o, rfl⟩ : ∃ (r : Fin 1024) (o : Fin 64), y = (ix3 0 r o : S1x1024x64.Idx) :=
    ⟨y 1, y 2, funext fun a => match a with
      | ⟨0, _⟩ => Fin.ext (Nat.lt_one_iff.mp (y 0).isLt)
      | ⟨1, _⟩ => rfl
      | ⟨2, _⟩ => rfl⟩
  rw [emb9]
  exact R.out_at pays (by decide) hfin (batch t) (row t) (block0 V c t) (block1 V c t) (block2 V c t) (block3 V c t) (block4 V c t)
    (block5 V c t) (block6 V c t) (block7 V c t) (block8 V c t) r o

end Cert.Knn.Geo

end
-- ==== Proof.Feat.lean ====
/- The call of the feature graph: its array, from the arrays it reads. -/
module

public import proofs.«01_k».proof.Proof.Gen.CoreIdeal.Frame.Region1
public import proofs.«01_k».proof.Proof.Geo
public import proofs.«01_k».proof.Proof.Stage
public import proofs.«01_k».proof.Proof.Whole
public import Idealize.ShloMosaic.Lib.Pipeline.ValueKit

@[expose] public section

set_option maxRecDepth 16384

noncomputable section

namespace Cert.Knn.Feat

open Cert.CoreIdeal Cert.CoreIdeal.Gen Idealize.ShloMosaic Idealize.ShloMosaic.TcCoe Idealize.SL.Sem
open Idealize.ShloMosaic.Pipeline (Dat)

/-- The body's functions: those of the coordinate graph's call, but for the distances, which are between features. -/
def pays : Pays 1024 2048 64 64 64 (Ideal.ofBits .f32 0x3E4CCCCD#32) where
  take := k1_pay4 (F := Ideal)
  keep := k1_pay5 (F := Ideal)
  act := k1_pay6 (F := Ideal)
  near := k1_pay7 (F := Ideal)
  centre := k1_pay8 (F := Ideal)
  dist q p qq pp := k1_pay1 (F := Ideal) (k1_pay10 q p qq) (k1_pay11 pp)
  start q p := k1_pay2 (F := Ideal) (k1_pay9 q p)
  take_at := Geo.pays.take_at
  keep_at := Geo.pays.keep_at
  act_at := Geo.pays.act_at
  near_at := Geo.pays.near_at
  centre_at := Geo.pays.centre_at
  dist_at q p qq pp r i := by pointwise [k1_pay1, k1_pay10, k1_pay9, k1_pay11]
  start_at q p r o := by
    pointwise [k1_pay2, k1_pay9]
    rw [mul_zero]
    exact EReal.sub_top 0

/-- The batch of a grid point. -/
def batch (t : Fin grid1.N) : Fin 16 := ⟨(grid1.coords t 0).val, (grid1.coords t 0).isLt⟩

/-- The array's row of a block's row. -/
def row (t : Fin grid1.N) (r : Fin 1024) : Fin 2048 := ⟨(grid1.coords t 1).val * 1024 + r.val, by
  have h : (grid1.coords t 1).val < 2 := (grid1.coords t 1).isLt
  have := r.isLt; omega⟩

theorem index0 : ∀ t, win1_0.index t = ![(grid1.coords t 0).val, (grid1.coords t 1).val, 0] := by decide +kernel
theorem index1 : ∀ t, win1_1.index t = ![(grid1.coords t 0).val, 0, 0] := by decide +kernel
theorem index2 : ∀ t, win1_2.index t = ![(grid1.coords t 0).val, (grid1.coords t 1).val, 0] := by decide +kernel
theorem index3 : ∀ t, win1_3.index t = ![(grid1.coords t 0).val, 0, 0] := by decide +kernel
theorem index4 : ∀ t, win1_4.index t = ![(grid1.coords t 0).val, 0, 0] := by decide +kernel
theorem index5 : ∀ t, win1_5.index t = ![0, 0] := by decide +kernel
theorem index6 : ∀ t, win1_6.index t = ![(grid1.coords t 0).val, (grid1.coords t 1).val, 0] := by decide +kernel
theorem index7 : ∀ t, win1_7.index t = ![0, 0] := by decide +kernel
theorem index8 : ∀ t, win1_8.index t = ![0, 0] := by decide +kernel
theorem index9 : ∀ t, win1_9.index t = ![(grid1.coords t 0).val, (grid1.coords t 1).val, 0] := by decide +kernel

variable (V : (c : Dev nD) → (b : Ref sig .tc) → Buf (Elt Ideal) ((c : Thread nD τ).loc b)) (c : Dev nD)

/-- The body's run leaves its functions' block. -/
theorem outs_eq (t : Fin cfg1.N) : outsAt1 V c t = pays.out 20 (iblk1 V c 0 t) (iblk1 V c 1 t) (iblk1 V c 2 t) (iblk1 V c 3 t)
    (iblk1 V c 4 t) (iblk1 V c 5 t) (iblk1 V c 6 t) (iblk1 V c 7 t) (iblk1 V c 8 t) := by
  unfold outsAt1 out1_A_9 kernelRun1_A
  dsimp only
  refine (View.read_writes_junk_eq_canon VO1_9 _).trans ((View.canon_unit_zero off3 _ _).trans ?_)
  unfold kernelRun1_A.sl.r_1 kernelRun1_A.sl.r_5
  unfold kernelRun1_A.sl.r kernelRun1_A.sl.r_2 kernelRun1_A.sl.r_3 kernelRun1_A.sl.r_4
  rw [readAt_unread (hs1_0 t) off3, readAt_unread (hs1_1 t) off3, readAt_unread (hs1_2 t) off3, readAt_unread (hs1_3 t) off3,
    readAt_unread (hs1_4 t) off3, readAt_unread (hs1_5 t) off2, readAt_unread (hs1_6 t) off3, readAt_unread (hs1_7 t) off2,
    readAt_unread (hs1_8 t) off2]
  rfl

theorem block0 (t : Fin cfg1.N) (r : Fin 1024) (k : Fin 64) : iblk1 V c 0 t (ix3 0 r k) = V c main_v32 (ix3 (batch t) (row t r) k) := by
  blk_ext [iblk1, index0, batch, row]
theorem block1 (t : Fin cfg1.N) (i : Fin 2048) (k : Fin 64) : iblk1 V c 1 t (ix3 0 i k) = V c main_v32 (ix3 (batch t) i k) := by
  blk_ext [iblk1, index1, batch]
theorem block2 (t : Fin cfg1.N) (r : Fin 1024) : iblk1 V c 2 t (ix3 0 r 0) = V c main_v85 (ix3 (batch t) (row t r) 0) := by
  blk_ext [iblk1, index2, batch, row]
theorem block3 (t : Fin cfg1.N) (i : Fin 2048) : iblk1 V c 3 t (ix3 0 0 i) = V c main_v88 (ix3 (batch t) 0 i) := by
  blk_ext [iblk1, index3, batch]
theorem block4 (t : Fin cfg1.N) (i : Fin 2048) (k : Fin 64) : iblk1 V c 4 t (ix3 0 i k) = V c main_v32 (ix3 (batch t) i k) := by
  blk_ext [iblk1, index4, batch]
theorem block5 (t : Fin cfg1.N) (o k : Fin 64) : iblk1 V c 5 t (ix2 o k) = V c main_v72 (ix2 o k) := by
  blk_ext [iblk1, index5]
theorem block6 (t : Fin cfg1.N) (r : Fin 1024) (k : Fin 64) : iblk1 V c 6 t (ix3 0 r k) = V c main_v32 (ix3 (batch t) (row t r) k) := by
  blk_ext [iblk1, index6, batch, row]
theorem block7 (t : Fin cfg1.N) (o k : Fin 64) : iblk1 V c 7 t (ix2 o k) = V c main_v74 (ix2 o k) := by
  blk_ext [iblk1, index7]
theorem block8 (t : Fin cfg1.N) (o : Fin 64) : iblk1 V c 8 t (ix2 0 o) = V c main_v89 (ix2 0 o) := by
  blk_ext [iblk1, index8]

/-- The array's index of a block's index. -/
theorem emb9 (t : Fin cfg1.N) (r : Fin 1024) (o : Fin 64) :
    (win1_9.blk t).view.emb (ix3 0 r o) = (ix3 (batch t) (row t r) o : S16x2048x64.Idx) := by
  refine funext fun a => Fin.ext ?_
  match a with
  | ⟨0, _⟩ => blk_simp [index9]; rfl
  | ⟨1, _⟩ => blk_simp [index9]; rfl
  | ⟨2, _⟩ => blk_simp [index9]

/-- THE CALL'S ARRAY, every distance being below `+∞`. -/
theorem arr {q p : Fin 16 → Fin 2048 → Fin 64 → EReal} {f x : Fin 16 → Fin 2048 → Fin 64 → EReal} {w₀ w₁ : Fin 64 → Fin 64 → EReal}
    {st : Fin 64 → Fin 4 → EReal}
    (R : Ready (V c main_v32) (V c main_v32) (V c main_v85) (V c main_v88) (V c main_v32) (V c main_v72) (V c main_v32)
      (V c main_v74) (V c main_v89) q p f x w₀ w₁ st)
    (hfin : ∀ b r i, gap (q b r) (p b i) < ⊤) (b : Fin 16) (r : Fin 2048) (o : Fin 64) :
    (dat1 V c).arrAt 9 cfg1.N (ix3 b r o) = aggOf 20 (Ideal.ofBits .f32 0x3E4CCCCD#32) q p f x w₀ w₁ st b r o := by
  refine congrFun ((dat1 V c).arrAt_eq_of_covers 9
    (stk (aggOf 20 (Ideal.ofBits .f32 0x3E4CCCCD#32) q p f x w₀ w₁ st)) (by decide +kernel) fun t hf y => ?_) (ix3 b r o)
  blk_simp
  rw [after1_9, outs_eq]
  obtain ⟨r, o, rfl⟩ : ∃ (r : Fin 1024) (o : Fin 64), y = (ix3 0 r o : S1x1024x64.Idx) :=
    ⟨y 1, y 2, funext fun a => match a with
      | ⟨0, _⟩ => Fin.ext (Nat.lt_one_iff.mp (y 0).isLt)
      | ⟨1, _⟩ => rfl
      | ⟨2, _⟩ => rfl⟩
  rw [emb9]
  exact R.out_at pays (by decide) hfin (batch t) (row t) (block0 V c t) (block1 V c t) (block2 V c t) (block3 V c t) (block4 V c t)
    (block5 V c t) (block6 V c t) (block7 V c t) (block8 V c t) r o

end Cert.Knn.Feat

end
-- ==== Proof.Chain1.lean ====
/- The arrays of the two edge aggregations, in the launch's arguments. -/
module

public import proofs.«01_k».proof.Proof.Chain0
public import proofs.«01_k».proof.Proof.Geo
public import proofs.«01_k».proof.Proof.Feat

@[expose] public section

set_option maxRecDepth 16384

noncomputable section

namespace Cert.Knn.Chain

open Cert.CoreIdeal Cert.CoreIdeal.Gen Idealize.ShloMosaic Idealize.ShloMosaic.TcCoe Idealize.SL.Sem

variable (m : (ℓ : Loc nD τ sig) → Buf (Elt Ideal) ℓ) (ρ : Dev nD → PrngReg) (c : Dev nD)

/-- The arrays of the geometric edges. -/
theorem geo_ready : Ready (V3 m ρ c main_v1) (V3 m ρ c main_v1) (V3 m ρ c main_v77) (V3 m ρ c main_v80) (V3 m ρ c main_v32) (V3 m ρ c main_v52) (V3 m ρ c main_v32) (V3 m ρ c main_v54) (V3 m ρ c main_v81)
    (args m c).pt (args m c).pt (args m c).feat (args m c).feat (lo (args m c).geoW 64 (by decide)) (hi (args m c).geoW 64 64 (by decide)) (stat (args m c).geoB) where
  hq := pt_3 m ρ c
  hp := pt_3 m ρ c
  hqq := fun b r => (Host.pt_sq (W2 m ρ c) b r).trans (congrArg sq (funext fun k => pt_2 m ρ c b r k))
  hpp := fun b i => (Host.pt_sq_row (W2 m ρ c) b i).trans (congrArg sq (funext fun k => pt_2 m ρ c b i k))
  hf := featT_3 m ρ c
  hwv := fun o k => (Host.geo_lo (W2 m ρ c) o k).trans (by rw [W2_args m ρ c main_arg5 (by decide +kernel), W2_args m ρ c main_arg6 (by decide +kernel)]; rfl)
  hx := featT_3 m ρ c
  hwt := fun o k => (Host.geo_hi (W2 m ρ c) o k).trans (by rw [W2_args m ρ c main_arg5 (by decide +kernel), W2_args m ρ c main_arg6 (by decide +kernel)]; rfl)
  hb := fun o => (Host.geo_off (W2 m ρ c) o).trans (by rw [W2_args m ρ c main_arg6 (by decide +kernel)]; rfl)

variable (G : (args m c).Good)

include G

/-- The geometric edge features. -/
theorem geo_4 (b : Fin 16) (r : Fin 2048) (o : Fin 64) : (W4 m ρ c (Proc.devRef .tc main_v82) : Stk 16 2048 64) (ix3 b r o) = (args m c).geoK b r o :=
  (congrFun (W4_arr m ρ c 9) _).trans (Geo.arr (V3 m ρ) c (geo_ready m ρ c) (Args.gap_pt G) b r o)

omit G

/-- The arrays of the edges in feature space. -/
theorem fea_ready : Ready (V5 m ρ c main_v32) (V5 m ρ c main_v32) (V5 m ρ c main_v85) (V5 m ρ c main_v88) (V5 m ρ c main_v32) (V5 m ρ c main_v72) (V5 m ρ c main_v32) (V5 m ρ c main_v74) (V5 m ρ c main_v89)
    (args m c).feat (args m c).feat (args m c).feat (args m c).feat (lo (args m c).featW 64 (by decide)) (hi (args m c).featW 64 64 (by decide)) (stat (args m c).featB) where
  hq := featT_5 m ρ c
  hp := featT_5 m ρ c
  hqq := fun b r => (Host.feat_sq (W4 m ρ c) b r).trans (congrArg sq (funext fun k => featT_4 m ρ c b r k))
  hpp := fun b i => (Host.feat_sq_row (W4 m ρ c) b i).trans (congrArg sq (funext fun k => featT_4 m ρ c b i k))
  hf := featT_5 m ρ c
  hwv := fun o k => (congrFun (keep_v72_5 m ρ c) _).trans ((Host.fea_lo (W2 m ρ c) o k).trans (by rw [W2_args m ρ c main_arg7 (by decide +kernel), W2_args m ρ c main_arg8 (by decide +kernel)]; rfl))
  hx := featT_5 m ρ c
  hwt := fun o k => (congrFun (keep_v74_5 m ρ c) _).trans ((Host.fea_hi (W2 m ρ c) o k).trans (by rw [W2_args m ρ c main_arg7 (by decide +kernel), W2_args m ρ c main_arg8 (by decide +kernel)]; rfl))
  hb := fun o => (Host.fea_off_row (W4 m ρ c) o).trans ((congrFun (keep_v71_4 m ρ c) _).trans ((Host.fea_off (W2 m ρ c) o).trans (by rw [W2_args m ρ c main_arg8 (by decide +kernel)]; rfl)))

include G

/-- The edge features among the nearest in feature space. -/
theorem fea_6 (b : Fin 16) (r : Fin 2048) (o : Fin 64) : (W6 m ρ c (Proc.devRef .tc main_v90) : Stk 16 2048 64) (ix3 b r o) = (args m c).feaK b r o :=
  (congrFun (W6_arr m ρ c 9) _).trans (Feat.arr (V5 m ρ) c (fea_ready m ρ c) (Args.gap_feat G) b r o)

end Cert.Knn.Chain

end
-- ==== Proof.Host1.lean ====
/- The arrays the host computes before the fusion and the first local aggregation, at an index, over any state it starts from. -/
module

public import proofs.«01_k».proof.Proof.Gen.CoreIdeal.Launch
public import proofs.«01_k».proof.Proof.Gather
public import proofs.«01_k».proof.Proof.Net
public import Idealize.ShloMosaic.Lib.Pipeline.ValueKit
public import Idealize.ShloMosaic.Lib.StableHlo.ReadAt

@[expose] public section

set_option maxRecDepth 16384

noncomputable section

namespace Cert.Knn.Host

open Cert.CoreIdeal Cert.CoreIdeal.Gen Idealize.ShloMosaic Idealize.ShloMosaic.TcCoe Idealize.SL.Sem

variable (W : Valuation τ sig (Elt Ideal))

/-- The weights of the geometric features in the fusion. -/
theorem fuse_lo (o k : Fin 64) : (StableHlo.after hostOps2 W (Proc.devRef .tc main_v108) : Mat 64 64) (ix2 o k)
    = lo (W (Proc.devRef .tc main_arg9) : Mat 64 128) 64 (by decide) o k * scale (stat (W (Proc.devRef .tc main_arg10) : Mat 4 64) o) := by
  simp only [hostOps2]
  after_results_simp
  pointwise
  rfl

/-- The weights of the others in the fusion. -/
theorem fuse_hi (o k : Fin 64) : (StableHlo.after hostOps2 W (Proc.devRef .tc main_v109) : Mat 64 64) (ix2 o k)
    = hi (W (Proc.devRef .tc main_arg9) : Mat 64 128) 64 64 (by decide) o k * scale (stat (W (Proc.devRef .tc main_arg10) : Mat 4 64) o) := by
  simp only [hostOps2]
  after_results_simp
  pointwise
  rfl

/-- The offset of the fusion. -/
theorem fuse_off (o : Fin 64) : (StableHlo.after hostOps2 W (Proc.devRef .tc main_v110) : Mat 1 64) (ix2 0 o)
    = offset (stat (W (Proc.devRef .tc main_arg10) : Mat 4 64) o) := by
  simp only [hostOps2]
  after_results_simp
  pointwise
  rfl

/-- The weights of a neighbour in the first local aggregation. -/
theorem loc0_lo (o : Fin 128) (k : Fin 64) : (StableHlo.after hostOps3 W (Proc.devRef .tc main_v129) : Mat 128 64) (ix2 o k)
    = lo (W (Proc.devRef .tc main_arg11) : Mat 128 128) 64 (by decide) o k * scale (stat (W (Proc.devRef .tc main_arg12) : Mat 4 128) o) := by
  simp only [hostOps3]
  after_results_simp
  pointwise
  rfl

/-- The weights of the centre in the first local aggregation. -/
theorem loc0_hi (o : Fin 128) (k : Fin 64) : (StableHlo.after hostOps3 W (Proc.devRef .tc main_v131) : Mat 128 64) (ix2 o k)
    = hi (W (Proc.devRef .tc main_arg11) : Mat 128 128) 64 64 (by decide) o k * scale (stat (W (Proc.devRef .tc main_arg12) : Mat 4 128) o) - lo (W (Proc.devRef .tc main_arg11) : Mat 128 128) 64 (by decide) o k * scale (stat (W (Proc.devRef .tc main_arg12) : Mat 4 128) o) := by
  simp only [hostOps3]
  after_results_simp
  pointwise
  rfl

/-- The offset of the first local aggregation. -/
theorem loc0_off (o : Fin 128) : (StableHlo.after hostOps3 W (Proc.devRef .tc main_v153) : Mat 1 128) (ix2 0 o)
    = offset (stat (W (Proc.devRef .tc main_arg12) : Mat 4 128) o) := by
  simp only [hostOps3]
  after_results_simp
  pointwise
  rfl

/-- The squared lengths of the first sampled points. -/
theorem loc0_sq (b : Fin 16) (r : Fin 512) : (StableHlo.after hostOps3 W (Proc.devRef .tc main_v149) : Stk 16 512 1) (ix3 b r 0)
    = sq (fun k => (W (Proc.devRef .tc main_arg17) : Stk 16 512 3) (ix3 b r k)) := by
  simp only [hostOps3]
  after_results_simp
  pointwise
  rfl

/-- The squared lengths of the points they are compared with. -/
theorem loc0_sq_row (b : Fin 16) (i : Fin 2048) : (StableHlo.after hostOps3 W (Proc.devRef .tc main_v152) : Stk 16 1 2048) (ix3 b 0 i)
    = sq (fun k => (W (Proc.devRef .tc main_v1) : Stk 16 2048 3) (ix3 b i k)) := by
  simp only [hostOps3]
  after_results_simp
  pointwise
  rfl

/-- The features of the first sampled points: the rows their positions name. -/
theorem loc0_row (hb : ∀ b, (W (Proc.devRef .tc main_v34) : Words 16 1) (ix2 b 0) = BitVec.ofNat 32 b.val) (b : Fin 16) (r : Fin 512) (k : Fin 64) :
    (StableHlo.after hostOps3 W (Proc.devRef .tc main_v146) : Stk 16 512 64) (ix3 b r k)
    = (W (Proc.devRef .tc main_v111) : Stk 16 2048 64) (ix3 b (pick 2048 (by decide) ((W (Proc.devRef .tc main_arg18) : Words 16 512) (ix2 b r))) k) := by
  simp only [hostOps3]
  after_results
  refine gather_row _ _ _ b r k b _ ?_ ?_
  · pointwise
    exact wrap_word b.val (by omega) _ _ (hb b)
  · pointwise
    rfl

end Cert.Knn.Host

end
-- ==== Proof.Fuse.lean ====
/- The call that fuses the two graphs: its array, from the arrays it reads. -/
module

public import proofs.«01_k».proof.Proof.Gen.CoreIdeal.Frame.Region2
public import proofs.«01_k».proof.Proof.Stage
public import proofs.«01_k».proof.Proof.Whole
public import Idealize.ShloMosaic.Lib.Pipeline.ValueKit

@[expose] public section

set_option maxRecDepth 16384

noncomputable section

namespace Cert.Knn.Fuse

open Cert.CoreIdeal Cert.CoreIdeal.Gen Idealize.ShloMosaic Idealize.ShloMosaic.TcCoe Idealize.SL.Sem
open Idealize.ShloMosaic.Pipeline (Dat)

/-- The fused value of a point's channel: two products, the offset, the activation. -/
def fused {B S K C : ℕ} (g h : Stk B S K) (wa wb : Mat C K) (bias : Mat 1 C) (b : Fin B) (i : Fin S) (o : Fin C) : EReal :=
  leaky (Ideal.ofBits .f32 0x3E4CCCCD#32)
    ((∑ k, g (ix3 b i k) * wa (ix2 o k)) + (∑ k, h (ix3 b i k) * wb (ix2 o k)) + bias (ix2 0 o))

/-- The body's function at an index. -/
theorem pay_at (g h : Stk 1 2048 64) (wa wb : Mat 64 64) (bias : Mat 1 64) (i : Fin 2048) (o : Fin 64) :
    k2_pay1 (F := Ideal) g wa h wb bias (ix3 0 i o) = fused g h wa wb bias 0 i o := by
  pointwise [k2_pay1]
  rfl

/-- The block the body leaves, at an index. -/
theorem out_at (g h : Vec Ideal S1x2048x64 .f32) (wa wb : Vec Ideal S64x64 .f32) (bias : Vec Ideal S1x64 .f32) (i : Fin 2048)
    (o : Fin 64) : out2_5 (F := Ideal) g h wa wb bias (ix3 0 i o) = fused g h wa wb bias 0 i o := by
  refine Eq.trans ?_ (pay_at g h wa wb bias i o)
  unfold out2_5
  rw [View.canon_unit_zero off3, ld3 g, ld3 h, ld2 wa, ld2 wb, ld2 bias]

theorem index0 : ∀ t, win2_0.index t = ![(grid2.coords t 0).val, 0, 0] := by decide +kernel
theorem index1 : ∀ t, win2_1.index t = ![(grid2.coords t 0).val, 0, 0] := by decide +kernel
theorem index2 : ∀ t, win2_2.index t = ![0, 0] := by decide +kernel
theorem index3 : ∀ t, win2_3.index t = ![0, 0] := by decide +kernel
theorem index4 : ∀ t, win2_4.index t = ![0, 0] := by decide +kernel
theorem index5 : ∀ t, win2_5.index t = ![(grid2.coords t 0).val, 0, 0] := by decide +kernel

/-- The batch of a grid point. -/
def batch (t : Fin grid2.N) : Fin 16 := ⟨(grid2.coords t 0).val, (grid2.coords t 0).isLt⟩

variable (V : (c : Dev nD) → (b : Ref sig .tc) → Buf (Elt Ideal) ((c : Thread nD τ).loc b)) (c : Dev nD)

theorem block0 (t : Fin cfg2.N) (i : Fin 2048) (k : Fin 64) : iblk2 V c 0 t (ix3 0 i k) = V c main_v82 (ix3 (batch t) i k) := by
  blk_ext [iblk2, index0, batch]
theorem block1 (t : Fin cfg2.N) (i : Fin 2048) (k : Fin 64) : iblk2 V c 1 t (ix3 0 i k) = V c main_v90 (ix3 (batch t) i k) := by
  blk_ext [iblk2, index1, batch]
theorem block2 (t : Fin cfg2.N) (o k : Fin 64) : iblk2 V c 2 t (ix2 o k) = V c main_v108 (ix2 o k) := by
  blk_ext [iblk2, index2]
theorem block3 (t : Fin cfg2.N) (o k : Fin 64) : iblk2 V c 3 t (ix2 o k) = V c main_v109 (ix2 o k) := by
  blk_ext [iblk2, index3]
theorem block4 (t : Fin cfg2.N) (o : Fin 64) : iblk2 V c 4 t (ix2 0 o) = V c main_v110 (ix2 0 o) := by
  blk_ext [iblk2, index4]

/-- The array's index of a block's index. -/
theorem emb5 (t : Fin cfg2.N) (i : Fin 2048) (o : Fin 64) :
    (win2_5.blk t).view.emb (ix3 0 i o) = (ix3 (batch t) i o : S16x2048x64.Idx) := by
  refine funext fun a => Fin.ext ?_
  match a with
  | ⟨0, _⟩ => blk_simp [index5]; rfl
  | ⟨1, _⟩ => blk_simp [index5]
  | ⟨2, _⟩ => blk_simp [index5]

/-- Equal blocks fuse equally. -/
theorem fused_congr {B B' S K C : ℕ} {g h : Stk B S K} {g' h' : Stk B' S K} {wa wb wa' wb' : Mat C K} {bias bias' : Mat 1 C}
    {b : Fin B} {b' : Fin B'} {i : Fin S} {o : Fin C} (hg : ∀ k, g (ix3 b i k) = g' (ix3 b' i k))
    (hh : ∀ k, h (ix3 b i k) = h' (ix3 b' i k)) (ha : ∀ k, wa (ix2 o k) = wa' (ix2 o k)) (hb : ∀ k, wb (ix2 o k) = wb' (ix2 o k))
    (hc : bias (ix2 0 o) = bias' (ix2 0 o)) : fused g h wa wb bias b i o = fused g' h' wa' wb' bias' b' i o := by
  unfold fused
  simp only [hg, hh, ha, hb, hc]

/-- THE CALL'S ARRAY. -/
theorem arr (b : Fin 16) (i : Fin 2048) (o : Fin 64) : (dat2 V c).arrAt 5 cfg2.N (ix3 b i o)
    = fused (V c main_v82) (V c main_v90) (V c main_v108) (V c main_v109) (V c main_v110) b i o := by
  refine congrFun ((dat2 V c).arrAt_eq_of_covers 5
    (stk (fused (V c main_v82) (V c main_v90) (V c main_v108) (V c main_v109) (V c main_v110))) (by decide +kernel)
    fun t hf y => ?_) (ix3 b i o)
  blk_simp
  rw [after2_5]
  obtain ⟨i, o, rfl⟩ : ∃ (i : Fin 2048) (o : Fin 64), y = (ix3 0 i o : S1x2048x64.Idx) :=
    ⟨y 1, y 2, funext fun a => match a with
      | ⟨0, _⟩ => Fin.ext (Nat.lt_one_iff.mp (y 0).isLt)
      | ⟨1, _⟩ => rfl
      | ⟨2, _⟩ => rfl⟩
  rw [emb5]
  rw [out_at]
  show _ = fused _ _ _ _ _ (batch t) i o
  exact fused_congr (block0 V c t i) (block1 V c t i) (block2 V c t o) (block3 V c t o) (block4 V c t o)

end Cert.Knn.Fuse

end
-- ==== Proof.Local0.lean ====
/- The call of the first local operation: its array, from the arrays it reads. -/
module

public import proofs.«01_k».proof.Proof.Gen.CoreIdeal.Frame.Region3
public import proofs.«01_k».proof.Proof.Stage
public import proofs.«01_k».proof.Proof.Whole
public import Idealize.ShloMosaic.Lib.Pipeline.ValueKit

@[expose] public section

set_option maxRecDepth 16384

noncomputable section

namespace Cert.Knn.Local0

open Cert.CoreIdeal Cert.CoreIdeal.Gen Idealize.ShloMosaic Idealize.ShloMosaic.TcCoe Idealize.SL.Sem
open Idealize.ShloMosaic.Pipeline (Dat)

/-- The body's functions. -/
def pays : Pays 512 2048 128 64 3 0 where
  take := k3_pay4 (F := Ideal)
  keep := k3_pay5 (F := Ideal)
  act := k3_pay6 (F := Ideal)
  near := k3_pay7 (F := Ideal)
  centre := k3_pay8 (F := Ideal)
  dist q p qq pp := k3_pay1 (F := Ideal) (k3_pay10 q p qq) (k3_pay11 pp)
  start q p := k3_pay2 (F := Ideal) (k3_pay9 q p)
  take_at A p hp r i := by
    pointwise [k3_pay4, k3_pay3]
    rw [argMin_row _ _ _ _ (hp r), select_word (by decide)]
    rfl
  keep_at v A M p hp r o := by
    pointwise [k3_pay5, k3_pay3]
    rw [argMin_row _ _ _ _ (hp r)]
    exact congrArg _ (sum_onehot (by decide) (p r) fun x => v (ix2 x o))
  act_at t M r o := by pointwise [k3_pay6]; rfl
  near_at x w i o := by pointwise [k3_pay7]
  centre_at x w b r o := by pointwise [k3_pay8]
  dist_at q p qq pp r i := by pointwise [k3_pay1, k3_pay10, k3_pay9, k3_pay11]
  start_at q p r o := by
    pointwise [k3_pay2, k3_pay9]
    rw [mul_zero]
    exact EReal.sub_top 0

/-- The batch of a grid point. -/
def batch (t : Fin grid3.N) : Fin 16 := ⟨(grid3.coords t 0).val, (grid3.coords t 0).isLt⟩

theorem index0 : ∀ t, win3_0.index t = ![(grid3.coords t 0).val, (grid3.coords t 1).val, 0] := by decide +kernel
theorem index1 : ∀ t, win3_1.index t = ![(grid3.coords t 0).val, 0, 0] := by decide +kernel
theorem index2 : ∀ t, win3_2.index t = ![(grid3.coords t 0).val, (grid3.coords t 1).val, 0] := by decide +kernel
theorem index3 : ∀ t, win3_3.index t = ![(grid3.coords t 0).val, 0, 0] := by decide +kernel
theorem index4 : ∀ t, win3_4.index t = ![(grid3.coords t 0).val, 0, 0] := by decide +kernel
theorem index5 : ∀ t, win3_5.index t = ![0, 0] := by decide +kernel
theorem index6 : ∀ t, win3_6.index t = ![(grid3.coords t 0).val, (grid3.coords t 1).val, 0] := by decide +kernel
theorem index7 : ∀ t, win3_7.index t = ![0, 0] := by decide +kernel
theorem index8 : ∀ t, win3_8.index t = ![0, 0] := by decide +kernel
theorem index9 : ∀ t, win3_9.index t = ![(grid3.coords t 0).val, (grid3.coords t 1).val, 0] := by decide +kernel

variable (V : (c : Dev nD) → (b : Ref sig .tc) → Buf (Elt Ideal) ((c : Thread nD τ).loc b)) (c : Dev nD)

/-- The body's run leaves its functions' block. -/
theorem outs_eq (t : Fin cfg3.N) : outsAt3 V c t = pays.out 32 (iblk3 V c 0 t) (iblk3 V c 1 t) (iblk3 V c 2 t) (iblk3 V c 3 t)
    (iblk3 V c 4 t) (iblk3 V c 5 t) (iblk3 V c 6 t) (iblk3 V c 7 t) (iblk3 V c 8 t) := by
  unfold outsAt3 out3_A_9 kernelRun3_A
  dsimp only
  refine (View.read_writes_junk_eq_canon VO3_9 _).trans ((View.canon_unit_zero off3 _ _).trans ?_)
  unfold kernelRun3_A.sl.r_1 kernelRun3_A.sl.r_5
  unfold kernelRun3_A.sl.r kernelRun3_A.sl.r_2 kernelRun3_A.sl.r_3 kernelRun3_A.sl.r_4
  rw [readAt_unread (hs3_0 t) off3, readAt_unread (hs3_1 t) off3, readAt_unread (hs3_2 t) off3, readAt_unread (hs3_3 t) off3,
    readAt_unread (hs3_4 t) off3, readAt_unread (hs3_5 t) off2, readAt_unread (hs3_6 t) off3, readAt_unread (hs3_7 t) off2,
    readAt_unread (hs3_8 t) off2]
  rfl

theorem block0 (t : Fin cfg3.N) (r : Fin 512) (k : Fin 3) : iblk3 V c 0 t (ix3 0 r k) = V c main_arg17 (ix3 (batch t) r k) := by
  blk_ext [iblk3, index0, batch]
theorem block1 (t : Fin cfg3.N) (i : Fin 2048) (k : Fin 3) : iblk3 V c 1 t (ix3 0 i k) = V c main_v1 (ix3 (batch t) i k) := by
  blk_ext [iblk3, index1, batch]
theorem block2 (t : Fin cfg3.N) (r : Fin 512) : iblk3 V c 2 t (ix3 0 r 0) = V c main_v149 (ix3 (batch t) r 0) := by
  blk_ext [iblk3, index2, batch]
theorem block3 (t : Fin cfg3.N) (i : Fin 2048) : iblk3 V c 3 t (ix3 0 0 i) = V c main_v152 (ix3 (batch t) 0 i) := by
  blk_ext [iblk3, index3, batch]
theorem block4 (t : Fin cfg3.N) (i : Fin 2048) (k : Fin 64) : iblk3 V c 4 t (ix3 0 i k) = V c main_v111 (ix3 (batch t) i k) := by
  blk_ext [iblk3, index4, batch]
theorem block5 (t : Fin cfg3.N) (o : Fin 128) (k : Fin 64) : iblk3 V c 5 t (ix2 o k) = V c main_v129 (ix2 o k) := by
  blk_ext [iblk3, index5]
theorem block6 (t : Fin cfg3.N) (r : Fin 512) (k : Fin 64) : iblk3 V c 6 t (ix3 0 r k) = V c main_v146 (ix3 (batch t) r k) := by
  blk_ext [iblk3, index6, batch]
theorem block7 (t : Fin cfg3.N) (o : Fin 128) (k : Fin 64) : iblk3 V c 7 t (ix2 o k) = V c main_v131 (ix2 o k) := by
  blk_ext [iblk3, index7]
theorem block8 (t : Fin cfg3.N) (o : Fin 128) : iblk3 V c 8 t (ix2 0 o) = V c main_v153 (ix2 0 o) := by
  blk_ext [iblk3, index8]

/-- The array's index of a block's index. -/
theorem emb9 (t : Fin cfg3.N) (r : Fin 512) (o : Fin 128) :
    (win3_9.blk t).view.emb (ix3 0 r o) = (ix3 (batch t) r o : S16x512x128.Idx) := by
  refine funext fun a => Fin.ext ?_
  match a with
  | ⟨0, _⟩ => blk_simp [index9]; rfl
  | ⟨1, _⟩ => blk_simp [index9]
  | ⟨2, _⟩ => blk_simp [index9]

/-- THE CALL'S ARRAY, every distance being below `+∞`. -/
theorem arr {q : Fin 16 → Fin 512 → Fin 3 → EReal} {p : Fin 16 → Fin 2048 → Fin 3 → EReal} {f : Fin 16 → Fin 2048 → Fin 64 → EReal}
    {x : Fin 16 → Fin 512 → Fin 64 → EReal} {w₀ w₁ : Fin 128 → Fin 64 → EReal} {st : Fin 128 → Fin 4 → EReal}
    (R : Ready (V c main_arg17) (V c main_v1) (V c main_v149) (V c main_v152) (V c main_v111) (V c main_v129) (V c main_v146)
      (V c main_v131) (V c main_v153) q p f x w₀ w₁ st)
    (hfin : ∀ b r i, gap (q b r) (p b i) < ⊤) (b : Fin 16) (r : Fin 512) (o : Fin 128) :
    (dat3 V c).arrAt 9 cfg3.N (ix3 b r o) = aggOf 32 0 q p f x w₀ w₁ st b r o := by
  refine congrFun ((dat3 V c).arrAt_eq_of_covers 9
    (stk (aggOf 32 0 q p f x w₀ w₁ st)) (by decide +kernel) fun t hf y => ?_) (ix3 b r o)
  blk_simp
  rw [after3_9, outs_eq]
  obtain ⟨r, o, rfl⟩ : ∃ (r : Fin 512) (o : Fin 128), y = (ix3 0 r o : S1x512x128.Idx) :=
    ⟨y 1, y 2, funext fun a => match a with
      | ⟨0, _⟩ => Fin.ext (Nat.lt_one_iff.mp (y 0).isLt)
      | ⟨1, _⟩ => rfl
      | ⟨2, _⟩ => rfl⟩
  rw [emb9]
  exact R.out_at pays (by decide) hfin (batch t) id (block0 V c t) (block1 V c t) (block2 V c t) (block3 V c t) (block4 V c t)
    (block5 V c t) (block6 V c t) (block7 V c t) (block8 V c t) r o

end Cert.Knn.Local0

end
-- ==== Proof.Chain2.lean ====
/- The fused features and the first local aggregation, in the launch's arguments. -/
module

public import proofs.«01_k».proof.Proof.Chain1
public import proofs.«01_k».proof.Proof.Host1
public import proofs.«01_k».proof.Proof.Fuse
public import proofs.«01_k».proof.Proof.Local0

@[expose] public section

set_option maxRecDepth 16384

noncomputable section

namespace Cert.Knn.Chain

open Cert.CoreIdeal Cert.CoreIdeal.Gen Idealize.ShloMosaic Idealize.ShloMosaic.TcCoe Idealize.SL.Sem

variable (m : (ℓ : Loc nD τ sig) → Buf (Elt Ideal) ℓ) (ρ : Dev nD → PrngReg) (c : Dev nD)

/-- The fused array from arrays known at every index. -/
theorem fused_of {g h : Stk 16 2048 64} {wa wb : Mat 64 64} {bias : Mat 1 64} {G H : Fin 16 → Fin 2048 → Fin 64 → EReal}
    {WA WB : Fin 64 → Fin 64 → EReal} {st : Fin 64 → Fin 4 → EReal} (hg : ∀ b i k, g (ix3 b i k) = G b i k)
    (hh : ∀ b i k, h (ix3 b i k) = H b i k) (ha : ∀ o k, wa (ix2 o k) = WA o k * scale (st o))
    (hb : ∀ o k, wb (ix2 o k) = WB o k * scale (st o)) (ho : ∀ o, bias (ix2 0 o) = offset (st o)) (b : Fin 16) (i : Fin 2048) (o : Fin 64) :
    Fuse.fused g h wa wb bias b i o = fuseK G H WA WB st b i o := by
  unfold Fuse.fused fuseK
  simp only [hg, hh, ha, hb, ho]

variable (G : (args m c).Good)

include G

theorem geo_7 (b : Fin 16) (r : Fin 2048) (o : Fin 64) : (W7 m ρ c (Proc.devRef .tc main_v82) : Stk 16 2048 64) (ix3 b r o) = (args m c).geoK b r o := by
  rw [keep_v82_7]; exact geo_4 m ρ c G b r o

theorem fea_7 (b : Fin 16) (r : Fin 2048) (o : Fin 64) : (W7 m ρ c (Proc.devRef .tc main_v90) : Stk 16 2048 64) (ix3 b r o) = (args m c).feaK b r o := by
  rw [keep_v90_7]; exact fea_6 m ρ c G b r o

/-- The fused features. -/
theorem out_8 (b : Fin 16) (r : Fin 2048) (o : Fin 64) : (W8 m ρ c (Proc.devRef .tc main_v111) : Stk 16 2048 64) (ix3 b r o) = (args m c).outK b r o := by
  refine (congrFun (W8_arr m ρ c 5) _).trans ((Fuse.arr (V7 m ρ) c b r o).trans ?_)
  refine fused_of (geo_7 m ρ c G) (fea_7 m ρ c G) (fun o k => ?_) (fun o k => ?_) (fun o => ?_) b r o
  · exact (Host.fuse_lo (W6 m ρ c) o k).trans (by rw [W6_args m ρ c main_arg9 (by decide +kernel), W6_args m ρ c main_arg10 (by decide +kernel)]; rfl)
  · exact (Host.fuse_hi (W6 m ρ c) o k).trans (by rw [W6_args m ρ c main_arg9 (by decide +kernel), W6_args m ρ c main_arg10 (by decide +kernel)]; rfl)
  · exact (Host.fuse_off (W6 m ρ c) o).trans (by rw [W6_args m ρ c main_arg10 (by decide +kernel)]; rfl)

theorem out_9 (b : Fin 16) (r : Fin 2048) (o : Fin 64) : (W9 m ρ c (Proc.devRef .tc main_v111) : Stk 16 2048 64) (ix3 b r o) = (args m c).outK b r o := by
  rw [keep_v111_9]; exact out_8 m ρ c G b r o

/-- The arrays of the first local aggregation. -/
theorem loc0_ready : Ready (V9 m ρ c main_arg17) (V9 m ρ c main_v1) (V9 m ρ c main_v149) (V9 m ρ c main_v152) (V9 m ρ c main_v111) (V9 m ρ c main_v129) (V9 m ρ c main_v146) (V9 m ρ c main_v131) (V9 m ρ c main_v153)
    (args m c).q1 (args m c).pt (args m c).outK (fun b r => (args m c).outK b ((args m c).at1 b r)) (lo (args m c).gl0W 64 (by decide)) (hi (args m c).gl0W 64 64 (by decide)) (stat (args m c).gl0B) where
  hq := fun b r k => congrFun (W9_args m ρ c main_arg17 (by decide +kernel)) _
  hp := pt_9 m ρ c
  hqq := fun b r => (Host.loc0_sq (W8 m ρ c) b r).trans (by rw [W8_args m ρ c main_arg17 (by decide +kernel)]; rfl)
  hpp := fun b i => (Host.loc0_sq_row (W8 m ρ c) b i).trans (congrArg sq (funext fun k => pt_8 m ρ c b i k))
  hf := out_9 m ρ c G
  hwv := fun o k => (Host.loc0_lo (W8 m ρ c) o k).trans (by rw [W8_args m ρ c main_arg11 (by decide +kernel), W8_args m ρ c main_arg12 (by decide +kernel)]; rfl)
  hx := fun b r k => (Host.loc0_row (W8 m ρ c) (iota_8 m ρ c) b r k).trans ((out_8 m ρ c G b _ k).trans (by rw [W8_args m ρ c main_arg18 (by decide +kernel)]; rfl))
  hwt := fun o k => (Host.loc0_hi (W8 m ρ c) o k).trans (by rw [W8_args m ρ c main_arg11 (by decide +kernel), W8_args m ρ c main_arg12 (by decide +kernel)]; rfl)
  hb := fun o => (Host.loc0_off (W8 m ρ c) o).trans (by rw [W8_args m ρ c main_arg12 (by decide +kernel)]; rfl)

/-- The first local features. -/
theorem f0_10 (b : Fin 16) (r : Fin 512) (o : Fin 128) : (W10 m ρ c (Proc.devRef .tc main_v154) : Stk 16 512 128) (ix3 b r o) = (args m c).f0K b r o :=
  (congrFun (W10_arr m ρ c 9) _).trans (Local0.arr (V9 m ρ) c (loc0_ready m ρ c G) (Args.gap_q1 G) b r o)

theorem f0_11 (b : Fin 16) (r : Fin 512) (o : Fin 128) : (W11 m ρ c (Proc.devRef .tc main_v154) : Stk 16 512 128) (ix3 b r o) = (args m c).f0K b r o := by
  rw [keep_v154_11]; exact f0_10 m ρ c G b r o

end Cert.Knn.Chain

end
-- ==== Proof.Host2.lean ====
/- The arrays the host computes before the second local aggregation, at an index, over any state it starts from. -/
module

public import proofs.«01_k».proof.Proof.Gen.CoreIdeal.Launch
public import proofs.«01_k».proof.Proof.Gather
public import proofs.«01_k».proof.Proof.Net
public import Idealize.ShloMosaic.Lib.Pipeline.ValueKit
public import Idealize.ShloMosaic.Lib.StableHlo.ReadAt

@[expose] public section

set_option maxRecDepth 16384

noncomputable section

namespace Cert.Knn.Host

open Cert.CoreIdeal Cert.CoreIdeal.Gen Idealize.ShloMosaic Idealize.ShloMosaic.TcCoe Idealize.SL.Sem

variable (W : Valuation τ sig (Elt Ideal))

/-- The weights of a neighbour in the second local aggregation. -/
theorem loc1_lo (o : Fin 256) (k : Fin 128) : (StableHlo.after hostOps4 W (Proc.devRef .tc main_v172) : Mat 256 128) (ix2 o k)
    = lo (W (Proc.devRef .tc main_arg13) : Mat 256 256) 128 (by decide) o k * scale (stat (W (Proc.devRef .tc main_arg14) : Mat 4 256) o) := by
  simp only [hostOps4]
  after_results_simp
  pointwise
  rfl

/-- The weights of the centre in the second local aggregation. -/
theorem loc1_hi (o : Fin 256) (k : Fin 128) : (StableHlo.after hostOps4 W (Proc.devRef .tc main_v174) : Mat 256 128) (ix2 o k)
    = hi (W (Proc.devRef .tc main_arg13) : Mat 256 256) 128 128 (by decide) o k * scale (stat (W (Proc.devRef .tc main_arg14) : Mat 4 256) o) - lo (W (Proc.devRef .tc main_arg13) : Mat 256 256) 128 (by decide) o k * scale (stat (W (Proc.devRef .tc main_arg14) : Mat 4 256) o) := by
  simp only [hostOps4]
  after_results_simp
  pointwise
  rfl

/-- The offset of the second local aggregation. -/
theorem loc1_off (o : Fin 256) : (StableHlo.after hostOps4 W (Proc.devRef .tc main_v196) : Mat 1 256) (ix2 0 o)
    = offset (stat (W (Proc.devRef .tc main_arg14) : Mat 4 256) o) := by
  simp only [hostOps4]
  after_results_simp
  pointwise
  rfl

/-- The squared lengths of the second sampled points. -/
theorem loc1_sq (b : Fin 16) (r : Fin 256) : (StableHlo.after hostOps4 W (Proc.devRef .tc main_v192) : Stk 16 256 1) (ix3 b r 0)
    = sq (fun k => (W (Proc.devRef .tc main_arg19) : Stk 16 256 3) (ix3 b r k)) := by
  simp only [hostOps4]
  after_results_simp
  pointwise
  rfl

/-- The squared lengths of the points they are compared with. -/
theorem loc1_sq_row (b : Fin 16) (i : Fin 512) : (StableHlo.after hostOps4 W (Proc.devRef .tc main_v195) : Stk 16 1 512) (ix3 b 0 i)
    = sq (fun k => (W (Proc.devRef .tc main_arg17) : Stk 16 512 3) (ix3 b i k)) := by
  simp only [hostOps4]
  after_results_simp
  pointwise
  rfl

/-- The features of the second sampled points: the rows their positions name. -/
theorem loc1_row (hb : ∀ b, (W (Proc.devRef .tc main_v34) : Words 16 1) (ix2 b 0) = BitVec.ofNat 32 b.val) (b : Fin 16) (r : Fin 256) (k : Fin 128) :
    (StableHlo.after hostOps4 W (Proc.devRef .tc main_v189) : Stk 16 256 128) (ix3 b r k)
    = (W (Proc.devRef .tc main_v154) : Stk 16 512 128) (ix3 b (pick 512 (by decide) ((W (Proc.devRef .tc main_arg20) : Words 16 256) (ix2 b r))) k) := by
  simp only [hostOps4]
  after_results
  refine gather_row _ _ _ b r k b _ ?_ ?_
  · pointwise
    exact wrap_word b.val (by omega) _ _ (hb b)
  · pointwise
    rfl

end Cert.Knn.Host

end
-- ==== Proof.Host3.lean ====
/- The arrays the host computes before the last stage, at an index, over any state it starts from. -/
module

public import proofs.«01_k».proof.Proof.Gen.CoreIdeal.Launch
public import proofs.«01_k».proof.Proof.Gather
public import proofs.«01_k».proof.Proof.Net
public import Idealize.ShloMosaic.Lib.Pipeline.ValueKit
public import Idealize.ShloMosaic.Lib.StableHlo.ReadAt

@[expose] public section

set_option maxRecDepth 16384

noncomputable section

namespace Cert.Knn.Host

open Cert.CoreIdeal Cert.CoreIdeal.Gen Idealize.ShloMosaic Idealize.ShloMosaic.TcCoe Idealize.SL.Sem

variable (W : Valuation τ sig (Elt Ideal))

/-- The local features, channels first. -/
theorem f1_at (b : Fin 16) (k n : Fin 256) : (StableHlo.after hostOps5 W (Proc.devRef .tc main_v198) : Stk 16 256 256) (ix3 b k n)
    = (W (Proc.devRef .tc main_v197) : Stk 16 256 256) (ix3 b n k) := by
  simp only [hostOps5]
  after_results_simp
  pointwise

/-- The features of every eighth point. -/
theorem skip_at (b : Fin 16) (j : Fin 64) (n : Fin 256) : (StableHlo.after hostOps5 W (Proc.devRef .tc main_v199) : Stk 16 64 256) (ix3 b j n)
    = (W (Proc.devRef .tc main_v31) : Stk 16 64 2048) (ix3 b j ⟨8 * n.val, by omega⟩) := by
  simp only [hostOps5]
  after_results_simp
  pointwise

/-- The weights of the skipped layer. -/
theorem w2_at (h : Fin 1024) (j : Fin 64) : (StableHlo.after hostOps5 W (Proc.devRef .tc main_v214) : Mat 1024 64) (ix2 h j)
    = ent (W (Proc.devRef .tc main_arg3) : Mat 1024 64) h j * scale (stat (W (Proc.devRef .tc main_arg4) : Mat 4 1024) h) := by
  simp only [hostOps5]
  after_results_simp
  pointwise
  rfl

/-- The offset of the skipped layer. -/
theorem w2_off (h : Fin 1024) : (StableHlo.after hostOps5 W (Proc.devRef .tc main_v216) : (⟨1, ![1024]⟩ : Shape).Idx → EReal) (ix1 h)
    = offset (stat (W (Proc.devRef .tc main_arg4) : Mat 4 1024) h) := by
  simp only [hostOps5]
  after_results_simp
  pointwise
  rfl

/-- The weights of the local features in the last layer. -/
theorem wf_lo (o : Fin 512) (k : Fin 256) : (StableHlo.after hostOps5 W (Proc.devRef .tc main_v234) : Mat 512 256) (ix2 o k)
    = lo (W (Proc.devRef .tc main_arg15) : Mat 512 1280) 256 (by decide) o k * scale (stat (W (Proc.devRef .tc main_arg16) : Mat 4 512) o) := by
  simp only [hostOps5]
  after_results_simp
  pointwise
  rfl

/-- The weights of the skipped features in the last layer. -/
theorem wf_hi (o : Fin 512) (k : Fin 1024) : (StableHlo.after hostOps5 W (Proc.devRef .tc main_v235) : Mat 512 1024) (ix2 o k)
    = hi (W (Proc.devRef .tc main_arg15) : Mat 512 1280) 256 1024 (by decide) o k * scale (stat (W (Proc.devRef .tc main_arg16) : Mat 4 512) o) := by
  simp only [hostOps5]
  after_results_simp
  pointwise
  rfl

/-- The offset of the last layer. -/
theorem wf_off (o : Fin 512) : (StableHlo.after hostOps5 W (Proc.devRef .tc main_v233) : (⟨1, ![512]⟩ : Shape).Idx → EReal) (ix1 o)
    = offset (stat (W (Proc.devRef .tc main_arg16) : Mat 4 512) o) := by
  simp only [hostOps5]
  after_results_simp
  pointwise
  rfl

end Cert.Knn.Host

end
-- ==== Proof.Local1.lean ====
/- The call of the second local operation: its array, from the arrays it reads. -/
module

public import proofs.«01_k».proof.Proof.Gen.CoreIdeal.Frame.Region4
public import proofs.«01_k».proof.Proof.Stage
public import proofs.«01_k».proof.Proof.Whole
public import Idealize.ShloMosaic.Lib.Pipeline.ValueKit

@[expose] public section

set_option maxRecDepth 16384

noncomputable section

namespace Cert.Knn.Local1

open Cert.CoreIdeal Cert.CoreIdeal.Gen Idealize.ShloMosaic Idealize.ShloMosaic.TcCoe Idealize.SL.Sem
open Idealize.ShloMosaic.Pipeline (Dat)

/-- The body's functions. -/
def pays : Pays 256 512 256 128 3 0 where
  take := k4_pay4 (F := Ideal)
  keep := k4_pay5 (F := Ideal)
  act := k4_pay6 (F := Ideal)
  near := k4_pay7 (F := Ideal)
  centre := k4_pay8 (F := Ideal)
  dist q p qq pp := k4_pay1 (F := Ideal) (k4_pay10 q p qq) (k4_pay11 pp)
  start q p := k4_pay2 (F := Ideal) (k4_pay9 q p)
  take_at A p hp r i := by
    pointwise [k4_pay4, k4_pay3]
    rw [argMin_row _ _ _ _ (hp r), select_word (by decide)]
    rfl
  keep_at v A M p hp r o := by
    pointwise [k4_pay5, k4_pay3]
    rw [argMin_row _ _ _ _ (hp r)]
    exact congrArg _ (sum_onehot (by decide) (p r) fun x => v (ix2 x o))
  act_at t M r o := by pointwise [k4_pay6]; rfl
  near_at x w i o := by pointwise [k4_pay7]
  centre_at x w b r o := by pointwise [k4_pay8]
  dist_at q p qq pp r i := by pointwise [k4_pay1, k4_pay10, k4_pay9, k4_pay11]
  start_at q p r o := by
    pointwise [k4_pay2, k4_pay9]
    rw [mul_zero]
    exact EReal.sub_top 0

/-- The batch of a grid point. -/
def batch (t : Fin grid4.N) : Fin 16 := ⟨(grid4.coords t 0).val, (grid4.coords t 0).isLt⟩

theorem index0 : ∀ t, win4_0.index t = ![(grid4.coords t 0).val, (grid4.coords t 1).val, 0] := by decide +kernel
theorem index1 : ∀ t, win4_1.index t = ![(grid4.coords t 0).val, 0, 0] := by decide +kernel
theorem index2 : ∀ t, win4_2.index t = ![(grid4.coords t 0).val, (grid4.coords t 1).val, 0] := by decide +kernel
theorem index3 : ∀ t, win4_3.index t = ![(grid4.coords t 0).val, 0, 0] := by decide +kernel
theorem index4 : ∀ t, win4_4.index t = ![(grid4.coords t 0).val, 0, 0] := by decide +kernel
theorem index5 : ∀ t, win4_5.index t = ![0, 0] := by decide +kernel
theorem index6 : ∀ t, win4_6.index t = ![(grid4.coords t 0).val, (grid4.coords t 1).val, 0] := by decide +kernel
theorem index7 : ∀ t, win4_7.index t = ![0, 0] := by decide +kernel
theorem index8 : ∀ t, win4_8.index t = ![0, 0] := by decide +kernel
theorem index9 : ∀ t, win4_9.index t = ![(grid4.coords t 0).val, (grid4.coords t 1).val, 0] := by decide +kernel

variable (V : (c : Dev nD) → (b : Ref sig .tc) → Buf (Elt Ideal) ((c : Thread nD τ).loc b)) (c : Dev nD)

/-- The body's run leaves its functions' block. -/
theorem outs_eq (t : Fin cfg4.N) : outsAt4 V c t = pays.out 32 (iblk4 V c 0 t) (iblk4 V c 1 t) (iblk4 V c 2 t) (iblk4 V c 3 t)
    (iblk4 V c 4 t) (iblk4 V c 5 t) (iblk4 V c 6 t) (iblk4 V c 7 t) (iblk4 V c 8 t) := by
  unfold outsAt4 out4_A_9 kernelRun4_A
  dsimp only
  refine (View.read_writes_junk_eq_canon VO4_9 _).trans ((View.canon_unit_zero off3 _ _).trans ?_)
  unfold kernelRun4_A.sl.r_1 kernelRun4_A.sl.r_5
  unfold kernelRun4_A.sl.r kernelRun4_A.sl.r_2 kernelRun4_A.sl.r_3 kernelRun4_A.sl.r_4
  rw [readAt_unread (hs4_0 t) off3, readAt_unread (hs4_1 t) off3, readAt_unread (hs4_2 t) off3, readAt_unread (hs4_3 t) off3,
    readAt_unread (hs4_4 t) off3, readAt_unread (hs4_5 t) off2, readAt_unread (hs4_6 t) off3, readAt_unread (hs4_7 t) off2,
    readAt_unread (hs4_8 t) off2]
  rfl

theorem block0 (t : Fin cfg4.N) (r : Fin 256) (k : Fin 3) : iblk4 V c 0 t (ix3 0 r k) = V c main_arg19 (ix3 (batch t) r k) := by
  blk_ext [iblk4, index0, batch]
theorem block1 (t : Fin cfg4.N) (i : Fin 512) (k : Fin 3) : iblk4 V c 1 t (ix3 0 i k) = V c main_arg17 (ix3 (batch t) i k) := by
  blk_ext [iblk4, index1, batch]
theorem block2 (t : Fin cfg4.N) (r : Fin 256) : iblk4 V c 2 t (ix3 0 r 0) = V c main_v192 (ix3 (batch t) r 0) := by
  blk_ext [iblk4, index2, batch]
theorem block3 (t : Fin cfg4.N) (i : Fin 512) : iblk4 V c 3 t (ix3 0 0 i) = V c main_v195 (ix3 (batch t) 0 i) := by
  blk_ext [iblk4, index3, batch]
theorem block4 (t : Fin cfg4.N) (i : Fin 512) (k : Fin 128) : iblk4 V c 4 t (ix3 0 i k) = V c main_v154 (ix3 (batch t) i k) := by
  blk_ext [iblk4, index4, batch]
theorem block5 (t : Fin cfg4.N) (o : Fin 256) (k : Fin 128) : iblk4 V c 5 t (ix2 o k) = V c main_v172 (ix2 o k) := by
  blk_ext [iblk4, index5]
theorem block6 (t : Fin cfg4.N) (r : Fin 256) (k : Fin 128) : iblk4 V c 6 t (ix3 0 r k) = V c main_v189 (ix3 (batch t) r k) := by
  blk_ext [iblk4, index6, batch]
theorem block7 (t : Fin cfg4.N) (o : Fin 256) (k : Fin 128) : iblk4 V c 7 t (ix2 o k) = V c main_v174 (ix2 o k) := by
  blk_ext [iblk4, index7]
theorem block8 (t : Fin cfg4.N) (o : Fin 256) : iblk4 V c 8 t (ix2 0 o) = V c main_v196 (ix2 0 o) := by
  blk_ext [iblk4, index8]

/-- The array's index of a block's index. -/
theorem emb9 (t : Fin cfg4.N) (r : Fin 256) (o : Fin 256) :
    (win4_9.blk t).view.emb (ix3 0 r o) = (ix3 (batch t) r o : S16x256x256.Idx) := by
  refine funext fun a => Fin.ext ?_
  match a with
  | ⟨0, _⟩ => blk_simp [index9]; rfl
  | ⟨1, _⟩ => blk_simp [index9]
  | ⟨2, _⟩ => blk_simp [index9]

/-- THE CALL'S ARRAY, every distance being below `+∞`. -/
theorem arr {q : Fin 16 → Fin 256 → Fin 3 → EReal} {p : Fin 16 → Fin 512 → Fin 3 → EReal} {f : Fin 16 → Fin 512 → Fin 128 → EReal}
    {x : Fin 16 → Fin 256 → Fin 128 → EReal} {w₀ w₁ : Fin 256 → Fin 128 → EReal} {st : Fin 256 → Fin 4 → EReal}
    (R : Ready (V c main_arg19) (V c main_arg17) (V c main_v192) (V c main_v195) (V c main_v154) (V c main_v172) (V c main_v189)
      (V c main_v174) (V c main_v196) q p f x w₀ w₁ st)
    (hfin : ∀ b r i, gap (q b r) (p b i) < ⊤) (b : Fin 16) (r : Fin 256) (o : Fin 256) :
    (dat4 V c).arrAt 9 cfg4.N (ix3 b r o) = aggOf 32 0 q p f x w₀ w₁ st b r o := by
  refine congrFun ((dat4 V c).arrAt_eq_of_covers 9
    (stk (aggOf 32 0 q p f x w₀ w₁ st)) (by decide +kernel) fun t hf y => ?_) (ix3 b r o)
  blk_simp
  rw [after4_9, outs_eq]
  obtain ⟨r, o, rfl⟩ : ∃ (r : Fin 256) (o : Fin 256), y = (ix3 0 r o : S1x256x256.Idx) :=
    ⟨y 1, y 2, funext fun a => match a with
      | ⟨0, _⟩ => Fin.ext (Nat.lt_one_iff.mp (y 0).isLt)
      | ⟨1, _⟩ => rfl
      | ⟨2, _⟩ => rfl⟩
  rw [emb9]
  exact R.out_at pays (by decide) hfin (batch t) id (block0 V c t) (block1 V c t) (block2 V c t) (block3 V c t) (block4 V c t)
    (block5 V c t) (block6 V c t) (block7 V c t) (block8 V c t) r o

end Cert.Knn.Local1

end
-- ==== Proof.Final.lean ====
/- The last call: its array, from the arrays it reads. -/
module

public import proofs.«01_k».proof.Proof.Gen.CoreIdeal.Frame.Region5
public import proofs.«01_k».proof.Proof.Stage
public import proofs.«01_k».proof.Proof.Whole
public import Idealize.ShloMosaic.Lib.Pipeline.ValueKit

@[expose] public section

set_option maxRecDepth 16384

noncomputable section

namespace Cert.Knn.Final

open Cert.CoreIdeal Cert.CoreIdeal.Gen Idealize.ShloMosaic Idealize.ShloMosaic.TcCoe Idealize.SL.Sem
open Idealize.ShloMosaic.Pipeline (Dat)

/-- An array of one axis over the extended reals. -/
abbrev Row (a : ℕ) : Type := (⟨1, ![a]⟩ : Shape).Idx → EReal

/-- A channel of the last call at a sampled point: the product with the local features, the product with the skipped features
    — themselves a product, an offset and the larger of that and zero —, the offset, the activation. -/
def final {B K H J C N : ℕ} (f1 : Stk B K N) (xs : Stk B J N) (w2 : Mat H J) (b2 : Row H) (wa : Mat C K) (wb : Mat C H) (bf : Row C)
    (b : Fin B) (o : Fin C) (n : Fin N) : EReal :=
  leaky (Ideal.ofBits .f32 0x3E4CCCCD#32)
    ((∑ k, wa (ix2 o k) * f1 (ix3 b k n)) + (∑ h, wb (ix2 o h) * max ((∑ j, w2 (ix2 h j) * xs (ix3 b j n)) + b2 (ix1 h)) 0) + bf (ix1 o))

/-- The body's function at an index. -/
theorem pay_at (f1 : Stk 1 256 256) (xs : Stk 1 64 256) (w2 : Mat 1024 64) (b2 : Row 1024) (wa : Mat 512 256) (wb : Mat 512 1024)
    (bf : Row 512) (o : Fin 512) (n : Fin 256) :
    k5_pay1 (F := Ideal) xs f1 w2 b2 wa wb bf (ix3 0 o n) = final f1 xs w2 b2 wa wb bf 0 o n := by
  pointwise [k5_pay1]
  rfl

/-- The block the body leaves, at an index. -/
theorem out_at (f1 : Vec Ideal S1x256x256 .f32) (xs : Vec Ideal S1x64x256 .f32) (w2 : Vec Ideal S1024x64 .f32)
    (b2 : Vec Ideal S1024 .f32) (wa : Vec Ideal S512x256 .f32) (wb : Vec Ideal S512x1024 .f32) (bf : Vec Ideal S512 .f32)
    (o : Fin 512) (n : Fin 256) :
    out5_7 (F := Ideal) f1 xs w2 b2 wa wb bf (ix3 0 o n) = final f1 xs w2 b2 wa wb bf 0 o n := by
  refine Eq.trans ?_ (pay_at f1 xs w2 b2 wa wb bf o n)
  unfold out5_7
  rw [View.canon_unit_zero off3, ld3 f1, ld3 xs, ld2 w2, ld1 b2, ld2 wa, ld2 wb, ld1 bf]

theorem index0 : ∀ t, win5_0.index t = ![(grid5.coords t 0).val, 0, 0] := by decide +kernel
theorem index1 : ∀ t, win5_1.index t = ![(grid5.coords t 0).val, 0, 0] := by decide +kernel
theorem index2 : ∀ t, win5_2.index t = ![0, 0] := by decide +kernel
theorem index3 : ∀ t, win5_3.index t = ![0] := by decide +kernel
theorem index4 : ∀ t, win5_4.index t = ![0, 0] := by decide +kernel
theorem index5 : ∀ t, win5_5.index t = ![0, 0] := by decide +kernel
theorem index6 : ∀ t, win5_6.index t = ![0] := by decide +kernel
theorem index7 : ∀ t, win5_7.index t = ![(grid5.coords t 0).val, 0, 0] := by decide +kernel

/-- The batch of a grid point. -/
def batch (t : Fin grid5.N) : Fin 16 := ⟨(grid5.coords t 0).val, (grid5.coords t 0).isLt⟩

variable (V : (c : Dev nD) → (b : Ref sig .tc) → Buf (Elt Ideal) ((c : Thread nD τ).loc b)) (c : Dev nD)

theorem block0 (t : Fin cfg5.N) (k n : Fin 256) : iblk5 V c 0 t (ix3 0 k n) = V c main_v198 (ix3 (batch t) k n) := by
  blk_ext [iblk5, index0, batch]
theorem block1 (t : Fin cfg5.N) (k : Fin 64) (n : Fin 256) : iblk5 V c 1 t (ix3 0 k n) = V c main_v199 (ix3 (batch t) k n) := by
  blk_ext [iblk5, index1, batch]
theorem block2 (t : Fin cfg5.N) (h : Fin 1024) (j : Fin 64) : iblk5 V c 2 t (ix2 h j) = V c main_v214 (ix2 h j) := by
  blk_ext [iblk5, index2]
theorem block3 (t : Fin cfg5.N) (h : Fin 1024) : iblk5 V c 3 t (ix1 h) = V c main_v216 (ix1 h) := by
  blk_ext [iblk5, index3]
theorem block4 (t : Fin cfg5.N) (o : Fin 512) (k : Fin 256) : iblk5 V c 4 t (ix2 o k) = V c main_v234 (ix2 o k) := by
  blk_ext [iblk5, index4]
theorem block5 (t : Fin cfg5.N) (o : Fin 512) (h : Fin 1024) : iblk5 V c 5 t (ix2 o h) = V c main_v235 (ix2 o h) := by
  blk_ext [iblk5, index5]
theorem block6 (t : Fin cfg5.N) (o : Fin 512) : iblk5 V c 6 t (ix1 o) = V c main_v233 (ix1 o) := by
  blk_ext [iblk5, index6]

/-- The array's index of a block's index. -/
theorem emb7 (t : Fin cfg5.N) (o : Fin 512) (n : Fin 256) :
    (win5_7.blk t).view.emb (ix3 0 o n) = (ix3 (batch t) o n : S16x512x256.Idx) := by
  refine funext fun a => Fin.ext ?_
  match a with
  | ⟨0, _⟩ => blk_simp [index7]; rfl
  | ⟨1, _⟩ => blk_simp [index7]
  | ⟨2, _⟩ => blk_simp [index7]

/-- Equal blocks give equal channels. -/
theorem final_congr {B B' K H J C N : ℕ} {f1 : Stk B K N} {f1' : Stk B' K N} {xs : Stk B J N} {xs' : Stk B' J N} {w2 w2' : Mat H J}
    {b2 b2' : Row H} {wa wa' : Mat C K} {wb wb' : Mat C H} {bf bf' : Row C} {b : Fin B} {b' : Fin B'} {o : Fin C} {n : Fin N}
    (h0 : ∀ k, f1 (ix3 b k n) = f1' (ix3 b' k n)) (h1 : ∀ j, xs (ix3 b j n) = xs' (ix3 b' j n)) (h2 : ∀ h j, w2 (ix2 h j) = w2' (ix2 h j))
    (h3 : ∀ h, b2 (ix1 h) = b2' (ix1 h)) (h4 : ∀ k, wa (ix2 o k) = wa' (ix2 o k)) (h5 : ∀ h, wb (ix2 o h) = wb' (ix2 o h))
    (h6 : bf (ix1 o) = bf' (ix1 o)) : final f1 xs w2 b2 wa wb bf b o n = final f1' xs' w2' b2' wa' wb' bf' b' o n := by
  unfold final
  simp only [h0, h1, h2, h3, h4, h5, h6]

/-- THE CALL'S ARRAY. -/
theorem arr (b : Fin 16) (o : Fin 512) (n : Fin 256) : (dat5 V c).arrAt 7 cfg5.N (ix3 b o n)
    = final (V c main_v198) (V c main_v199) (V c main_v214) (V c main_v216) (V c main_v234) (V c main_v235) (V c main_v233) b o n := by
  refine congrFun ((dat5 V c).arrAt_eq_of_covers 7
    (stk (final (V c main_v198) (V c main_v199) (V c main_v214) (V c main_v216) (V c main_v234) (V c main_v235) (V c main_v233))) (by decide +kernel) fun t hf y => ?_) (ix3 b o n)
  blk_simp
  rw [after5_7]
  obtain ⟨o, n, rfl⟩ : ∃ (o : Fin 512) (n : Fin 256), y = (ix3 0 o n : S1x512x256.Idx) :=
    ⟨y 1, y 2, funext fun a => match a with
      | ⟨0, _⟩ => Fin.ext (Nat.lt_one_iff.mp (y 0).isLt)
      | ⟨1, _⟩ => rfl
      | ⟨2, _⟩ => rfl⟩
  rw [emb7]
  rw [out_at]
  show _ = final _ _ _ _ _ _ _ (batch t) o n
  exact final_congr (fun k => block0 V c t k n) (fun j => block1 V c t j n) (block2 V c t) (block3 V c t) (block4 V c t o)
    (block5 V c t o) (block6 V c t o)

end Cert.Knn.Final

end
-- ==== Proof.Chain3.lean ====
/- The second local aggregation and the result, in the launch's arguments. -/
module

public import proofs.«01_k».proof.Proof.Chain2
public import proofs.«01_k».proof.Proof.Host2
public import proofs.«01_k».proof.Proof.Host3
public import proofs.«01_k».proof.Proof.Local1
public import proofs.«01_k».proof.Proof.Final

@[expose] public section

set_option maxRecDepth 16384

noncomputable section

namespace Cert.Knn.Chain

open Cert.CoreIdeal Cert.CoreIdeal.Gen Idealize.ShloMosaic Idealize.ShloMosaic.TcCoe Idealize.SL.Sem

variable (m : (ℓ : Loc nD τ sig) → Buf (Elt Ideal) ℓ) (ρ : Dev nD → PrngReg) (c : Dev nD)

/-- The last stage's array from arrays known at every index. -/
theorem final_of {f1 : Stk 16 256 256} {xs : Stk 16 64 256} {w2 : Mat 1024 64} {b2 : Final.Row 1024} {wa : Mat 512 256} {wb : Mat 512 1024}
    {bf : Final.Row 512} {F : Fin 16 → Fin 256 → Fin 256 → EReal} {X : Fin 16 → Fin 256 → Fin 64 → EReal} {W2 : Fin 1024 → Fin 64 → EReal}
    {st2 : Fin 1024 → Fin 4 → EReal} {WA : Fin 512 → Fin 256 → EReal} {WB : Fin 512 → Fin 1024 → EReal} {st : Fin 512 → Fin 4 → EReal}
    (hf : ∀ b k n, f1 (ix3 b k n) = F b n k) (hx : ∀ b j n, xs (ix3 b j n) = X b n j) (hw2 : ∀ h j, w2 (ix2 h j) = W2 h j * scale (st2 h))
    (hb2 : ∀ h, b2 (ix1 h) = offset (st2 h)) (ha : ∀ o k, wa (ix2 o k) = WA o k * scale (st o))
    (hb : ∀ o k, wb (ix2 o k) = WB o k * scale (st o)) (ho : ∀ o, bf (ix1 o) = offset (st o)) (b : Fin 16) (o : Fin 512) (n : Fin 256) :
    Final.final f1 xs w2 b2 wa wb bf b o n = lastK F X W2 st2 WA WB st b o n := by
  unfold Final.final lastK
  simp only [hf, hx, hw2, hb2, ha, hb, ho]

variable (G : (args m c).Good)

include G

/-- The arrays of the second local aggregation. -/
theorem loc1_ready : Ready (V11 m ρ c main_arg19) (V11 m ρ c main_arg17) (V11 m ρ c main_v192) (V11 m ρ c main_v195) (V11 m ρ c main_v154) (V11 m ρ c main_v172) (V11 m ρ c main_v189) (V11 m ρ c main_v174) (V11 m ρ c main_v196)
    (args m c).q2 (args m c).q1 (args m c).f0K (fun b r => (args m c).f0K b ((args m c).at2 b r)) (lo (args m c).gl1W 128 (by decide)) (hi (args m c).gl1W 128 128 (by decide)) (stat (args m c).gl1B) where
  hq := fun b r k => congrFun (W11_args m ρ c main_arg19 (by decide +kernel)) _
  hp := fun b r k => congrFun (W11_args m ρ c main_arg17 (by decide +kernel)) _
  hqq := fun b r => (Host.loc1_sq (W10 m ρ c) b r).trans (by rw [W10_args m ρ c main_arg19 (by decide +kernel)]; rfl)
  hpp := fun b i => (Host.loc1_sq_row (W10 m ρ c) b i).trans (by rw [W10_args m ρ c main_arg17 (by decide +kernel)]; rfl)
  hf := f0_11 m ρ c G
  hwv := fun o k => (Host.loc1_lo (W10 m ρ c) o k).trans (by rw [W10_args m ρ c main_arg13 (by decide +kernel), W10_args m ρ c main_arg14 (by decide +kernel)]; rfl)
  hx := fun b r k => (Host.loc1_row (W10 m ρ c) (iota_10 m ρ c) b r k).trans ((f0_10 m ρ c G b _ k).trans (by rw [W10_args m ρ c main_arg20 (by decide +kernel)]; rfl))
  hwt := fun o k => (Host.loc1_hi (W10 m ρ c) o k).trans (by rw [W10_args m ρ c main_arg13 (by decide +kernel), W10_args m ρ c main_arg14 (by decide +kernel)]; rfl)
  hb := fun o => (Host.loc1_off (W10 m ρ c) o).trans (by rw [W10_args m ρ c main_arg14 (by decide +kernel)]; rfl)

/-- The second local features. -/
theorem f1_12 (b : Fin 16) (r : Fin 256) (o : Fin 256) : (W12 m ρ c (Proc.devRef .tc main_v197) : Stk 16 256 256) (ix3 b r o) = (args m c).f1K b r o :=
  (congrFun (W12_arr m ρ c 9) _).trans (Local1.arr (V11 m ρ) c (loc1_ready m ρ c G) (Args.gap_q2 G) b r o)

/-- The result. -/
theorem res_14 (b : Fin 16) (o : Fin 512) (n : Fin 256) : (W14 m ρ c (Proc.devRef .tc main_v236) : Stk 16 512 256) (ix3 b o n) = (args m c).resK b o n := by
  refine (congrFun (W14_arr m ρ c 7) _).trans ((Final.arr (V13 m ρ) c b o n).trans ?_)
  refine final_of (fun b k n => ?_) (fun b j n => ?_) (fun h j => ?_) (fun h => ?_) (fun o k => ?_) (fun o k => ?_) (fun o => ?_) b o n
  · exact (Host.f1_at (W12 m ρ c) b k n).trans (f1_12 m ρ c G b n k)
  · exact (Host.skip_at (W12 m ρ c) b j n).trans (feat_12 m ρ c b _ j)
  · exact (Host.w2_at (W12 m ρ c) h j).trans (by rw [W12_args m ρ c main_arg3 (by decide +kernel), W12_args m ρ c main_arg4 (by decide +kernel)]; rfl)
  · exact (Host.w2_off (W12 m ρ c) h).trans (by rw [W12_args m ρ c main_arg4 (by decide +kernel)]; rfl)
  · exact (Host.wf_lo (W12 m ρ c) o k).trans (by rw [W12_args m ρ c main_arg15 (by decide +kernel), W12_args m ρ c main_arg16 (by decide +kernel)]; rfl)
  · exact (Host.wf_hi (W12 m ρ c) o k).trans (by rw [W12_args m ρ c main_arg15 (by decide +kernel), W12_args m ρ c main_arg16 (by decide +kernel)]; rfl)
  · exact (Host.wf_off (W12 m ρ c) o).trans (by rw [W12_args m ρ c main_arg16 (by decide +kernel)]; rfl)

end Cert.Knn.Chain

end
-- ==== Proof.Ref0.lean ====
/- The reference's features, distances and edges, at an index. -/
module

public import proofs.«01_k».proof.Proof.Gen.CoreRefIdeal.Run
public import proofs.«01_k».proof.Proof.Gather
public import proofs.«01_k».proof.Proof.Net

@[expose] public section

set_option maxRecDepth 16384

noncomputable section

namespace Cert.Knn.Ref

open Cert.CoreRefIdeal Cert.CoreRefIdeal.Gen Cert.CoreRefIdeal.Value Idealize.ShloMosaic Idealize.ShloMosaic.TcCoe Idealize.SL.Sem

variable (V : Valuation τ sig (Elt Ideal))

/-- The launch's arguments. -/
def args : Args where
  x := V (Proc.devRef .tc main_arg0)
  w1 := V (Proc.devRef .tc main_arg1)
  bn1 := V (Proc.devRef .tc main_arg2)
  w2 := V (Proc.devRef .tc main_arg3)
  bn2 := V (Proc.devRef .tc main_arg4)
  geoW := V (Proc.devRef .tc main_arg5)
  geoB := V (Proc.devRef .tc main_arg6)
  featW := V (Proc.devRef .tc main_arg7)
  featB := V (Proc.devRef .tc main_arg8)
  fuseW := V (Proc.devRef .tc main_arg9)
  fuseB := V (Proc.devRef .tc main_arg10)
  gl0W := V (Proc.devRef .tc main_arg11)
  gl0B := V (Proc.devRef .tc main_arg12)
  gl1W := V (Proc.devRef .tc main_arg13)
  gl1B := V (Proc.devRef .tc main_arg14)
  wf := V (Proc.devRef .tc main_arg15)
  bnf := V (Proc.devRef .tc main_arg16)
  p1 := V (Proc.devRef .tc main_arg17)
  i1 := V (Proc.devRef .tc main_arg18)
  p2 := V (Proc.devRef .tc main_arg19)
  i2 := V (Proc.devRef .tc main_arg20)

theorem pt_at (b : Fin 16) (i : Fin 2048) (k : Fin 3) : (res_main_v1 V : Stk 16 2048 3) (ix3 b i k) = (args V).pt b i k := by
  unfold res_main_v1
  pointwise
  rfl

theorem feat_at (b : Fin 16) (i : Fin 2048) (o : Fin 64) : (res_main_v27 V : Stk 16 64 2048) (ix3 b o i) = (args V).feat b i o := by
  unfold res_main_v27
  pointwise
  rfl

theorem featT_at (b : Fin 16) (i : Fin 2048) (o : Fin 64) : (res_main_v28 V : Stk 16 2048 64) (ix3 b i o) = (args V).feat b i o := by
  unfold res_main_v28
  pointwise
  exact feat_at V b i o

/-- A point's distance to another, negated. -/
theorem dist_pt (b : Fin 16) (r i : Fin 2048) : (res_main_v42 V : Stk 16 2048 2048) (ix3 b r i)
    = -gap ((args V).pt b r) ((args V).pt b i) := by
  unfold res_main_v42
  pointwise
  simp only [pt_at]
  rfl

/-- A point's features' distance to another's, negated. -/
theorem dist_feat (b : Fin 16) (r i : Fin 2048) : (res_main_v103 V : Stk 16 2048 2048) (ix3 b r i)
    = -gap ((args V).feat b r) ((args V).feat b i) := by
  unfold res_main_v103
  pointwise
  simp only [featT_at]
  rfl

/-- The geometric edge of a point and its `t`-th nearest, normalised. -/
theorem geo_edge (b : Fin 16) (r : Fin 2048) (t : Fin 20) (o : Fin 64) : (res_main_v87 V : (⟨4, ![16, 2048, 20, 64]⟩ : Shape).Idx → EReal) (ix4 b r t o)
    = refTerm ((args V).feat b (rank (fun i => gap ((args V).pt b r) ((args V).pt b i)) (t.castLE (by decide)))) ((args V).feat b r)
      (lo (args V).geoW 64 (by decide) o) (hi (args V).geoW 64 64 (by decide) o) (stat (args V).geoB o) := by
  unfold res_main_v87
  generalize hG : Host.gather _ _ _ = G
  have hg : ∀ t k, G (ix4 b r t k)
      = (args V).feat b (rank (fun i => gap ((args V).pt b r) ((args V).pt b i)) (t.castLE (by decide))) k := by
    intro t k
    rw [← hG]
    refine (gather_pick _ _ _ b r t k b (rank (fun i => gap ((args V).pt b r) ((args V).pt b i)) (t.castLE (by decide))) ?_ ?_).trans (featT_at V b _ k)
    · unfold res_main_v44
      pointwise
      exact wrap_word b.val (by omega) _ _ rfl
    · unfold res_main_indices
      generalize hW : Host.topK _ _ _ _ _ = W
      pointwise
      refine wrap_word _ (by omega) _ _ ?_
      rw [← hW]
      exact topK_neg (by decide) _ _ b r t _ fun i => dist_pt V b r i
  clear hG
  unfold res_main_v61
  pointwise
  simp only [hg, featT_at]
  rfl

/-- The feature-space edge of a point and its `t`-th nearest, normalised. -/
theorem fea_edge (b : Fin 16) (r : Fin 2048) (t : Fin 20) (o : Fin 64) : (res_main_v148 V : (⟨4, ![16, 2048, 20, 64]⟩ : Shape).Idx → EReal) (ix4 b r t o)
    = refTerm ((args V).feat b (rank (fun i => gap ((args V).feat b r) ((args V).feat b i)) (t.castLE (by decide)))) ((args V).feat b r)
      (lo (args V).featW 64 (by decide) o) (hi (args V).featW 64 64 (by decide) o) (stat (args V).featB o) := by
  unfold res_main_v148
  generalize hG : Host.gather _ _ _ = G
  have hg : ∀ t k, G (ix4 b r t k)
      = (args V).feat b (rank (fun i => gap ((args V).feat b r) ((args V).feat b i)) (t.castLE (by decide))) k := by
    intro t k
    rw [← hG]
    refine (gather_pick _ _ _ b r t k b (rank (fun i => gap ((args V).feat b r) ((args V).feat b i)) (t.castLE (by decide))) ?_ ?_).trans (featT_at V b _ k)
    · unfold res_main_v105
      pointwise
      exact wrap_word b.val (by omega) _ _ rfl
    · unfold res_main_indices_13
      generalize hW : Host.topK _ _ _ _ _ = W
      pointwise
      refine wrap_word _ (by omega) _ _ ?_
      rw [← hW]
      exact topK_neg (by decide) _ _ b r t _ fun i => dist_feat V b r i
  clear hG
  unfold res_main_v122
  pointwise
  simp only [hg, featT_at]
  rfl

end Cert.Knn.Ref

end
-- ==== Proof.Ref1.lean ====
/- The reference's fusion and first local aggregation, at an index. -/
module

public import proofs.«01_k».proof.Proof.Ref0

@[expose] public section

set_option maxRecDepth 16384

noncomputable section

namespace Cert.Knn.Ref

open Cert.CoreRefIdeal Cert.CoreRefIdeal.Gen Cert.CoreRefIdeal.Value Idealize.ShloMosaic Idealize.ShloMosaic.TcCoe Idealize.SL.Sem

variable (V : Valuation τ sig (Elt Ideal))

/-- The largest activation among a point's twenty edges. -/
theorem max_edges (X : FVec Ideal S16x2048x20x64 .f32) (b : Fin 16) (i : Fin 2048) (k : Fin 64) :
    Host.reduce FloatOps.maximumf (select (cmpf .oge X (broadcastInDim S16x2048x20x64 ![] bcast_S_S16x2048x20x64 (constant S_ .f32 0x00000000#32))) X
      (mulf (broadcastInDim S16x2048x20x64 ![] bcast_S_S16x2048x20x64 (id (constant S_ .f32 0x3E4CCCCD#32))) X))
      (constant S_ .f32 0xFF800000#32) reducesTo_S16x2048x20x64_S16x2048x64_d2 h_S_ (ix3 b i k)
    = Finset.univ.sup fun t : Fin 20 => leaky fifth (ent4 X b i t k) := by
  simp only [id]
  pointwise
  rw [show Ideal.ofBits .f32 0xFF800000#32 = ⊥ by simp [Ideal.ofBits, Ideal.ieee]]
  rfl

/-- Both edge features fused, normalised. -/
theorem fuse_at (b : Fin 16) (i : Fin 2048) (o : Fin 64) : (res_main_v175 V : Stk 16 2048 64) (ix3 b i o)
    = norm (stat (args V).fuseB o) ((∑ k, (args V).geoR b i k * lo (args V).fuseW 64 (by decide) o k)
      + ∑ k, (args V).feaR b i k * hi (args V).fuseW 64 64 (by decide) o k) := by
  unfold res_main_v175
  generalize hP : Host.reduce _ (select (cmpf _ (res_main_v87 V) _) _ _) _ _ _ = P
  generalize hQ : Host.reduce _ _ _ _ _ = Q
  have hP' : ∀ k, P (ix3 b i k) = (args V).geoR b i k := by
    intro k
    have hX := geo_edge V b i
    generalize res_main_v87 V = X at hX hP
    change FVec Ideal S16x2048x20x64 .f32 at X
    rw [← hP]
    refine (max_edges X b i k).trans ?_
    unfold Args.geoR aggR ent4
    simp only [hX]
  have hQ' : ∀ k, Q (ix3 b i k) = (args V).feaR b i k := by
    intro k
    have hX := fea_edge V b i
    generalize res_main_v148 V = X at hX hQ
    change FVec Ideal S16x2048x20x64 .f32 at X
    rw [← hQ]
    refine (max_edges X b i k).trans ?_
    unfold Args.feaR aggR ent4
    simp only [hX]
  clear hP hQ
  change FVec Ideal S16x2048x64 .f32 at P Q
  pointwise
  refine (show _ = norm (stat (args V).fuseB o) ((∑ k, ent3 P b i k * lo (args V).fuseW 64 (by decide) o k)
      + ∑ k, ent3 Q b i k * hi (args V).fuseW 64 64 (by decide) o k) from rfl).trans ?_
  simp only [ent3, hP', hQ']

theorem out_at (b : Fin 16) (i : Fin 2048) (o : Fin 64) : (res_main_v176 V : Stk 16 2048 64) (ix3 b i o) = (args V).outR b i o := by
  unfold res_main_v176
  have hX := fuse_at V b i o
  generalize res_main_v175 V = X at hX ⊢
  change FVec Ideal S16x2048x64 .f32 at X
  simp only [id]
  pointwise
  refine (show _ = leaky fifth (ent3 X b i o) from rfl).trans ?_
  unfold Args.outR fuseR ent3
  rw [hX]

/-- A first sampled point's distance to a point, negated. -/
theorem dist_q1 (b : Fin 16) (r : Fin 512) (i : Fin 2048) : (res_main_v234 V : Stk 16 512 2048) (ix3 b r i)
    = -gap ((args V).q1 b r) ((args V).pt b i) := by
  unfold res_main_v234
  pointwise
  simp only [pt_at]
  rfl

/-- The features of the first sampled points, once per neighbour. -/
theorem row_q1 (b : Fin 16) (r : Fin 512) (t : Fin 32) (k : Fin 64) : (res_main_v253 V : (⟨4, ![16, 512, 32, 64]⟩ : Shape).Idx → EReal) (ix4 b r t k)
    = (args V).outR b ((args V).at1 b r) k := by
  unfold res_main_v253
  generalize hG : Host.gather _ _ _ = G
  have hg : G (ix3 b r k) = (args V).outR b ((args V).at1 b r) k := by
    rw [← hG]
    refine (gather_row _ _ _ b r k b ((args V).at1 b r) ?_ ?_).trans (out_at V b _ k)
    · unfold res_main_v205
      pointwise
      exact wrap_word b.val (by omega) _ _ rfl
    · pointwise
      rfl
  clear hG
  pointwise
  exact hg

/-- The features of a first sampled point's neighbours. -/
theorem near_q1 (G : (⟨4, ![16, 512, 32, 64]⟩ : Shape).Idx → EReal) (idx : IVec ⟨4, ![16, 512, 32, 2]⟩ 32) (wf)
    (hG : Host.gather (pickDims 16 2048 512 32 64 wf) (res_main_v176 V : Stk 16 2048 64) idx = G)
    (b : Fin 16) (r : Fin 512) (t : Fin 32) (k : Fin 64) (w z : BitVec 32) (hw : w = res_main_indices_32 V (ix3 b r t)) (h0 : (idx (ix4 b r t 0)).toInt.toNat = b.val)
    (h1 : idx (ix4 b r t 1) = Scalar.select (IntOp.cmpi .slt w 0#32) z w) :
    G (ix4 b r t k) = (args V).outR b (rank (fun i => gap ((args V).q1 b r) ((args V).pt b i)) (t.castLE (by decide))) k := by
  rw [← hG]
  refine (gather_pick _ _ _ b r t k b (rank (fun i => gap ((args V).q1 b r) ((args V).pt b i)) (t.castLE (by decide))) h0 ?_).trans (out_at V b _ k)
  rw [h1]
  refine wrap_word _ (by omega) _ _ (hw.trans ?_)
  unfold res_main_indices_32
  exact topK_neg (by decide) _ _ b r t _ fun i => dist_q1 V b r i

theorem f0_at (b : Fin 16) (r : Fin 512) (o : Fin 128) : (res_main_v281 V : Stk 16 512 128) (ix3 b r o) = (args V).f0R b r o := by
  unfold res_main_v281
  generalize hG : Host.gather _ _ _ = G
  have hg : ∀ b r t k, ent4 G b r t k
      = (args V).outR b (rank (fun i => gap ((args V).q1 b r) ((args V).pt b i)) (t.castLE (by decide))) k := by
    intro b r t k
    refine near_q1 V G _ _ hG b r t k (res_main_indices_32 V (ix3 b r t)) (IntOp.addi (res_main_indices_32 V (ix3 b r t)) 2048#32) rfl ?_ ?_
    · unfold res_main_v236
      pointwise
      exact wrap_word b.val (by omega) _ _ rfl
    · generalize res_main_indices_32 V = I
      change IVec ⟨3, ![16, 512, 32]⟩ 32 at I
      pointwise
  clear hG
  have hY := row_q1 V
  generalize res_main_v253 V = Y at hY ⊢
  change FVec Ideal S16x512x32x64 .f32 at Y G
  pointwise
  rw [show Ideal.ofBits .f32 0xFF800000#32 = ⊥ by simp [Ideal.ofBits, Ideal.ieee]]
  refine (show _ = Finset.univ.sup fun t : Fin 32 => max (refTerm (ent4 G b r t) (ent4 Y b r t) (lo (args V).gl0W 64 (by decide) o)
    (hi (args V).gl0W 64 64 (by decide) o) (stat (args V).gl0B o)) 0 from rfl).trans ?_
  unfold Args.f0R aggR
  simp only [leaky_zero]
  refine Finset.sup_congr rfl fun t _ => ?_
  rw [show ent4 G b r t = _ from funext (hg b r t), show ent4 Y b r t = _ from funext (hY b r t)]

end Cert.Knn.Ref

end
-- ==== Proof.Ref2.lean ====
/- The reference's second local aggregation and last stage, at an index. -/
module

public import proofs.«01_k».proof.Proof.Ref1

@[expose] public section

set_option maxRecDepth 16384

noncomputable section

namespace Cert.Knn.Ref

open Cert.CoreRefIdeal Cert.CoreRefIdeal.Gen Cert.CoreRefIdeal.Value Idealize.ShloMosaic Idealize.ShloMosaic.TcCoe Idealize.SL.Sem

variable (V : Valuation τ sig (Elt Ideal))

/-- A second sampled point's distance to a point, negated. -/
theorem dist_q2 (b : Fin 16) (r : Fin 256) (i : Fin 512) : (res_main_v312 V : Stk 16 256 512) (ix3 b r i)
    = -gap ((args V).q2 b r) ((args V).q1 b i) := by
  unfold res_main_v312
  pointwise

  rfl

/-- The features of the second sampled points, once per neighbour. -/
theorem row_q2 (b : Fin 16) (r : Fin 256) (t : Fin 32) (k : Fin 128) : (res_main_v331 V : (⟨4, ![16, 256, 32, 128]⟩ : Shape).Idx → EReal) (ix4 b r t k)
    = (args V).f0R b ((args V).at2 b r) k := by
  unfold res_main_v331
  generalize hG : Host.gather _ _ _ = G
  have hg : G (ix3 b r k) = (args V).f0R b ((args V).at2 b r) k := by
    rw [← hG]
    refine (gather_row _ _ _ b r k b ((args V).at2 b r) ?_ ?_).trans (f0_at V b _ k)
    · unfold res_main_v283
      pointwise
      exact wrap_word b.val (by omega) _ _ rfl
    · pointwise
      rfl
  clear hG
  pointwise
  exact hg

/-- The features of a second sampled point's neighbours. -/
theorem near_q2 (G : (⟨4, ![16, 256, 32, 128]⟩ : Shape).Idx → EReal) (idx : IVec ⟨4, ![16, 256, 32, 2]⟩ 32) (wf)
    (hG : Host.gather (pickDims 16 512 256 32 128 wf) (res_main_v281 V : Stk 16 512 128) idx = G)
    (b : Fin 16) (r : Fin 256) (t : Fin 32) (k : Fin 128) (w z : BitVec 32) (hw : w = res_main_indices_47 V (ix3 b r t)) (h0 : (idx (ix4 b r t 0)).toInt.toNat = b.val)
    (h1 : idx (ix4 b r t 1) = Scalar.select (IntOp.cmpi .slt w 0#32) z w) :
    G (ix4 b r t k) = (args V).f0R b (rank (fun i => gap ((args V).q2 b r) ((args V).q1 b i)) (t.castLE (by decide))) k := by
  rw [← hG]
  refine (gather_pick _ _ _ b r t k b (rank (fun i => gap ((args V).q2 b r) ((args V).q1 b i)) (t.castLE (by decide))) h0 ?_).trans (f0_at V b _ k)
  rw [h1]
  refine wrap_word _ (by omega) _ _ (hw.trans ?_)
  unfold res_main_indices_47
  exact topK_neg (by decide) _ _ b r t _ fun i => dist_q2 V b r i

/-- The last stage, normalised. -/
theorem last_at (b : Fin 16) (o : Fin 512) (n : Fin 256) : (res_main_v386 V : Stk 16 512 256) (ix3 b o n)
    = norm (stat (args V).bnf o) ((∑ k, lo (args V).wf 256 (by decide) o k * (args V).f1R b n k)
      + ∑ h, hi (args V).wf 256 1024 (by decide) o h * max (norm (stat (args V).bn2 h) (∑ j, (args V).w2 (ix2 h j) * (args V).skip b n j)) 0) := by
  unfold res_main_v386 res_main_v361
  generalize hG : Host.gather _ _ _ = G
  have hg : ∀ b r t k, ent4 G b r t k
      = (args V).f0R b (rank (fun i => gap ((args V).q2 b r) ((args V).q1 b i)) (t.castLE (by decide))) k := by
    intro b r t k
    refine near_q2 V G _ _ hG b r t k (res_main_indices_47 V (ix3 b r t)) (IntOp.addi (res_main_indices_47 V (ix3 b r t)) 512#32) rfl ?_ ?_
    · unfold res_main_v314
      pointwise
      exact wrap_word b.val (by omega) _ _ rfl
    · generalize res_main_indices_47 V = I
      change IVec ⟨3, ![16, 256, 32]⟩ 32 at I
      pointwise
  clear hG
  generalize hP : Host.reduce _ _ _ _ _ = P
  have hP' : ∀ k, P (ix3 b n k) = (args V).f1R b n k := by
    intro k
    have hY := row_q2 V
    generalize res_main_v331 V = Y at hY hP
    change FVec Ideal S16x256x32x128 .f32 at Y G
    rw [← hP]
    pointwise
    rw [show Ideal.ofBits .f32 0xFF800000#32 = ⊥ by simp [Ideal.ofBits, Ideal.ieee]]
    refine (show _ = Finset.univ.sup fun t : Fin 32 => max (refTerm (ent4 G b n t) (ent4 Y b n t) (lo (args V).gl1W 128 (by decide) k)
      (hi (args V).gl1W 128 128 (by decide) k) (stat (args V).gl1B k)) 0 from rfl).trans ?_
    unfold Args.f1R aggR
    simp only [leaky_zero]
    refine Finset.sup_congr rfl fun t _ => ?_
    rw [show ent4 G b n t = _ from funext (hg b n t), show ent4 Y b n t = _ from funext (hY b n t)]
  clear hP hg
  have hZ := feat_at V b
  generalize res_main_v27 V = Z at hZ ⊢
  change FVec Ideal S16x256x256 .f32 at P
  change FVec Ideal S16x64x2048 .f32 at Z
  pointwise
  refine (show _ = norm (stat (args V).bnf o) ((∑ k, lo (args V).wf 256 (by decide) o k * ent3 P b n k)
      + ∑ h, hi (args V).wf 256 1024 (by decide) o h * max (norm (stat (args V).bn2 h) (∑ j : Fin 64, (args V).w2 (ix2 h j) *
        ent3 Z b j ⟨8 * n.val, by omega⟩)) 0) from rfl).trans ?_
  simp only [ent3, hP', hZ]
  rfl

end Cert.Knn.Ref

end
-- ==== Proof.Finite.lean ====
/- Reading the precondition's tests: an absolute value below `+∞`, a test that a value is not negative. -/
module

public import proofs.«01_k».proof.Proof.Row
public import Idealize.ShloMosaic.Lib.ReduceAll

@[expose] public section

noncomputable section

namespace Cert.Knn

open Idealize.ShloMosaic

/-- The word of a truth value is 1 where it is true. -/
theorem of_ofBool {b : Bool} (h : BitVec.ofBool b = 1#1) : b = true := by
  cases b
  · exact absurd h (by decide)
  · rfl

/-- An extended real whose absolute value is below `+∞` is a real. -/
theorem real_of_abs {x : EReal} (h : FloatOps.cmpf (F := Ideal) (φ := .f32) .olt (FloatOps.hostAbsf (F := Ideal) (φ := .f32) x) (Ideal.ofBits .f32 0x7F800000#32) = 1#1) :
    ∃ r : ℝ, x = r := by
  have ht : Ideal.ofBits .f32 0x7F800000#32 = ⊤ := by simp [Ideal.ofBits, Ideal.ieee]
  rw [ht] at h
  have hlt : max x (-x) < ⊤ := of_decide_eq_true (of_ofBool h)
  induction x using EReal.rec with
  | bot => exact absurd hlt (by simp)
  | top => exact absurd hlt (by simp)
  | coe r => exact ⟨r, rfl⟩

/-- A test that a value is not negative. -/
theorem nonneg_of_test {x : EReal} (h : FloatOps.cmpf (F := Ideal) (φ := .f32) .oge x (Ideal.ofBits .f32 0x00000000#32) = 1#1) : 0 ≤ x := by
  rw [Ideal.ofBits_zero_f32] at h
  exact of_decide_eq_true (of_ofBool h)

end Cert.Knn

end
-- ==== Proof.Pre.lean ====
/- What the precondition gives: every float argument finite, no variance negative. -/
module

public import proofs.«01_k».proof.Proof.Finite
public import proofs.«01_k».proof.Proof.Net
public import proofs.«01_k».proof.Proof.Gen.Pre_core_pre

@[expose] public section

set_option maxRecDepth 16384

noncomputable section

namespace Cert.Knn

open Idealize.ShloMosaic Cert.Pre_core_pre

/-- Every float argument is finite and no variance is negative. -/
theorem good_of_pre (x : FVec Ideal S16x6x2048 .f32) (w1 : FVec Ideal S64x6 .f32) (bn1 : FVec Ideal S4x64 .f32) (w2 : FVec Ideal S1024x64 .f32) (bn2 : FVec Ideal S4x1024 .f32) (geoW : FVec Ideal S64x128 .f32) (geoB : FVec Ideal S4x64 .f32) (featW : FVec Ideal S64x128 .f32) (featB : FVec Ideal S4x64 .f32) (fuseW : FVec Ideal S64x128 .f32) (fuseB : FVec Ideal S4x64 .f32) (gl0W : FVec Ideal S128x128 .f32) (gl0B : FVec Ideal S4x128 .f32) (gl1W : FVec Ideal S256x256 .f32) (gl1B : FVec Ideal S4x256 .f32) (wf : FVec Ideal S512x1280 .f32) (bnf : FVec Ideal S4x512 .f32) (p1 : FVec Ideal S16x512x3 .f32) (i1 : IVec S16x512 32) (p2 : FVec Ideal S16x256x3 .f32) (i2 : IVec S16x256 32)
    (h : Cert.Pre_core_pre.fn (F := Ideal) x w1 bn1 w2 bn2 geoW geoB featW featB fuseW fuseB gl0W gl0B gl1W gl1B wf bnf p1 i1 p2 i2 = fun _ => 1#1) :
    Args.Good ⟨x, w1, bn1, w2, bn2, geoW, geoB, featW, featB, fuseW, fuseB, gl0W, gl0B, gl1W, gl1B, wf, bnf, p1, i1, p2, i2⟩ := by
  have e := congrFun h ix0
  clear h
  unfold Cert.Pre_core_pre.fn fn_part1 fn_part2 fn_part3 fn_part4 fn_part5 fn_part6 fn_part7 fn_part8 fn_part9 fn_part10 fn_part11 fn_part12 fn_part13 at e
  dsimp only at e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, v_bnf⟩ := IntOp.andi_eq_one.1 e
  obtain ⟨e, v_gl1B⟩ := IntOp.andi_eq_one.1 e
  obtain ⟨e, v_gl0B⟩ := IntOp.andi_eq_one.1 e
  obtain ⟨e, v_fuseB⟩ := IntOp.andi_eq_one.1 e
  obtain ⟨e, v_featB⟩ := IntOp.andi_eq_one.1 e
  obtain ⟨e, v_geoB⟩ := IntOp.andi_eq_one.1 e
  obtain ⟨e, v_bn2⟩ := IntOp.andi_eq_one.1 e
  obtain ⟨e, v_bn1⟩ := IntOp.andi_eq_one.1 e
  obtain ⟨e, f_p2⟩ := IntOp.andi_eq_one.1 e
  obtain ⟨e, f_p1⟩ := IntOp.andi_eq_one.1 e
  obtain ⟨e, f_bnf⟩ := IntOp.andi_eq_one.1 e
  obtain ⟨e, f_wf⟩ := IntOp.andi_eq_one.1 e
  obtain ⟨e, f_gl1B⟩ := IntOp.andi_eq_one.1 e
  obtain ⟨e, f_gl1W⟩ := IntOp.andi_eq_one.1 e
  obtain ⟨e, f_gl0B⟩ := IntOp.andi_eq_one.1 e
  obtain ⟨e, f_gl0W⟩ := IntOp.andi_eq_one.1 e
  obtain ⟨e, f_fuseB⟩ := IntOp.andi_eq_one.1 e
  obtain ⟨e, f_fuseW⟩ := IntOp.andi_eq_one.1 e
  obtain ⟨e, f_featB⟩ := IntOp.andi_eq_one.1 e
  obtain ⟨e, f_featW⟩ := IntOp.andi_eq_one.1 e
  obtain ⟨e, f_geoB⟩ := IntOp.andi_eq_one.1 e
  obtain ⟨e, f_geoW⟩ := IntOp.andi_eq_one.1 e
  obtain ⟨e, f_bn2⟩ := IntOp.andi_eq_one.1 e
  obtain ⟨e, f_w2⟩ := IntOp.andi_eq_one.1 e
  obtain ⟨e, f_bn1⟩ := IntOp.andi_eq_one.1 e
  obtain ⟨e, f_w1⟩ := IntOp.andi_eq_one.1 e
  haveI : Subsingleton S_.Idx := ⟨fun a b => funext fun i => i.elim0⟩
  have n_bn1 : ∀ o : Fin 64, 0 ≤ bn1 (ix2 3 o) := fun o => by
    have := Host.reduce_andi_all _ _ _ _ _ v_bn1 (ix1 o)
    refine nonneg_of_test (Eq.trans ?_ this)
    pointwise
  have n_bn2 : ∀ o : Fin 1024, 0 ≤ bn2 (ix2 3 o) := fun o => by
    have := Host.reduce_andi_all _ _ _ _ _ v_bn2 (ix1 o)
    refine nonneg_of_test (Eq.trans ?_ this)
    pointwise
  have n_geoB : ∀ o : Fin 64, 0 ≤ geoB (ix2 3 o) := fun o => by
    have := Host.reduce_andi_all _ _ _ _ _ v_geoB (ix1 o)
    refine nonneg_of_test (Eq.trans ?_ this)
    pointwise
  have n_featB : ∀ o : Fin 64, 0 ≤ featB (ix2 3 o) := fun o => by
    have := Host.reduce_andi_all _ _ _ _ _ v_featB (ix1 o)
    refine nonneg_of_test (Eq.trans ?_ this)
    pointwise
  have n_fuseB : ∀ o : Fin 64, 0 ≤ fuseB (ix2 3 o) := fun o => by
    have := Host.reduce_andi_all _ _ _ _ _ v_fuseB (ix1 o)
    refine nonneg_of_test (Eq.trans ?_ this)
    pointwise
  have n_gl0B : ∀ o : Fin 128, 0 ≤ gl0B (ix2 3 o) := fun o => by
    have := Host.reduce_andi_all _ _ _ _ _ v_gl0B (ix1 o)
    refine nonneg_of_test (Eq.trans ?_ this)
    pointwise
  have n_gl1B : ∀ o : Fin 256, 0 ≤ gl1B (ix2 3 o) := fun o => by
    have := Host.reduce_andi_all _ _ _ _ _ v_gl1B (ix1 o)
    refine nonneg_of_test (Eq.trans ?_ this)
    pointwise
  have n_bnf : ∀ o : Fin 512, 0 ≤ bnf (ix2 3 o) := fun o => by
    have := Host.reduce_andi_all _ _ _ _ _ v_bnf (ix1 o)
    refine nonneg_of_test (Eq.trans ?_ this)
    pointwise
  exact ⟨fun i => real_of_abs (Host.reduce_andi_all _ _ _ _ _ e i),
    fun i => real_of_abs (Host.reduce_andi_all _ _ _ _ _ f_w1 i),
    fun i => real_of_abs (Host.reduce_andi_all _ _ _ _ _ f_bn1 i),
    fun i => real_of_abs (Host.reduce_andi_all _ _ _ _ _ f_w2 i),
    fun i => real_of_abs (Host.reduce_andi_all _ _ _ _ _ f_bn2 i),
    fun i => real_of_abs (Host.reduce_andi_all _ _ _ _ _ f_geoW i),
    fun i => real_of_abs (Host.reduce_andi_all _ _ _ _ _ f_geoB i),
    fun i => real_of_abs (Host.reduce_andi_all _ _ _ _ _ f_featW i),
    fun i => real_of_abs (Host.reduce_andi_all _ _ _ _ _ f_featB i),
    fun i => real_of_abs (Host.reduce_andi_all _ _ _ _ _ f_fuseW i),
    fun i => real_of_abs (Host.reduce_andi_all _ _ _ _ _ f_fuseB i),
    fun i => real_of_abs (Host.reduce_andi_all _ _ _ _ _ f_gl0W i),
    fun i => real_of_abs (Host.reduce_andi_all _ _ _ _ _ f_gl0B i),
    fun i => real_of_abs (Host.reduce_andi_all _ _ _ _ _ f_gl1W i),
    fun i => real_of_abs (Host.reduce_andi_all _ _ _ _ _ f_gl1B i),
    fun i => real_of_abs (Host.reduce_andi_all _ _ _ _ _ f_wf i),
    fun i => real_of_abs (Host.reduce_andi_all _ _ _ _ _ f_bnf i),
    fun i => real_of_abs (Host.reduce_andi_all _ _ _ _ _ f_p1 i),
    fun i => real_of_abs (Host.reduce_andi_all _ _ _ _ _ f_p2 i),
    n_bn1,
    n_bn2,
    n_geoB,
    n_featB,
    n_fuseB,
    n_gl0B,
    n_gl1B,
    n_bnf⟩

end Cert.Knn

end
-- ==== Proof.Run.lean ====
/- The idealized kernel's run, with what its result array holds: the buffer contents at the last boundary. -/
module

public import proofs.«01_k».proof.Proof.Gen.CoreIdeal.Frame

@[expose] public section

set_option maxRecDepth 16384

noncomputable section

namespace Cert.Knn.Run

open Cert.CoreIdeal Cert.CoreIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

set_option backward.isDefEq.respectTransparency.types false in
/-- Every execution of the kernel ends with its result array at the last boundary's contents and its arguments as launched: the
    launch over the segments, the last thread state read against the final state. -/
theorem value : θ_run defs (onTc (τ := τ) (main (F := F))) ⟨m, fun _ => 0, ρ⟩ (fun r => ∀ c : Dev nD,
      r.2.mem ((c.tc : Thread nD τ).loc main_v236) = W14 m ρ c (Proc.devRef .tc main_v236)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h _ c =>
      ⟨h c _ (mem_uc main_v236 (by decide)),
       (h c _ (mem_uc main_arg0 (by decide))).trans (W14_args m ρ c main_arg0 (by decide +kernel)),
       (h c _ (mem_uc main_arg1 (by decide))).trans (W14_args m ρ c main_arg1 (by decide +kernel)),
       (h c _ (mem_uc main_arg2 (by decide))).trans (W14_args m ρ c main_arg2 (by decide +kernel)),
       (h c _ (mem_uc main_arg3 (by decide))).trans (W14_args m ρ c main_arg3 (by decide +kernel)),
       (h c _ (mem_uc main_arg4 (by decide))).trans (W14_args m ρ c main_arg4 (by decide +kernel)),
       (h c _ (mem_uc main_arg5 (by decide))).trans (W14_args m ρ c main_arg5 (by decide +kernel)),
       (h c _ (mem_uc main_arg6 (by decide))).trans (W14_args m ρ c main_arg6 (by decide +kernel)),
       (h c _ (mem_uc main_arg7 (by decide))).trans (W14_args m ρ c main_arg7 (by decide +kernel)),
       (h c _ (mem_uc main_arg8 (by decide))).trans (W14_args m ρ c main_arg8 (by decide +kernel)),
       (h c _ (mem_uc main_arg9 (by decide))).trans (W14_args m ρ c main_arg9 (by decide +kernel)),
       (h c _ (mem_uc main_arg10 (by decide))).trans (W14_args m ρ c main_arg10 (by decide +kernel)),
       (h c _ (mem_uc main_arg11 (by decide))).trans (W14_args m ρ c main_arg11 (by decide +kernel)),
       (h c _ (mem_uc main_arg12 (by decide))).trans (W14_args m ρ c main_arg12 (by decide +kernel)),
       (h c _ (mem_uc main_arg13 (by decide))).trans (W14_args m ρ c main_arg13 (by decide +kernel)),
       (h c _ (mem_uc main_arg14 (by decide))).trans (W14_args m ρ c main_arg14 (by decide +kernel)),
       (h c _ (mem_uc main_arg15 (by decide))).trans (W14_args m ρ c main_arg15 (by decide +kernel)),
       (h c _ (mem_uc main_arg16 (by decide))).trans (W14_args m ρ c main_arg16 (by decide +kernel)),
       (h c _ (mem_uc main_arg17 (by decide))).trans (W14_args m ρ c main_arg17 (by decide +kernel)),
       (h c _ (mem_uc main_arg18 (by decide))).trans (W14_args m ρ c main_arg18 (by decide +kernel)),
       (h c _ (mem_uc main_arg19 (by decide))).trans (W14_args m ρ c main_arg19 (by decide +kernel)),
       (h c _ (mem_uc main_arg20 (by decide))).trans (W14_args m ρ c main_arg20 (by decide +kernel))⟩)

end Cert.Knn.Run

end
-- ==== Proof.Core.lean ====
/- The kernel's result equals the reference's, and both run. -/
module

public import proofs.«01_k».proof.Defs
public import proofs.«01_k».proof.Proof.Chain3
public import proofs.«01_k».proof.Proof.Ref2
public import proofs.«01_k».proof.Proof.Pre
public import proofs.«01_k».proof.Proof.Run
public import proofs.«01_k».proof.Proof.Gen.Core.Frame
public import Idealize.ShloMosaic.Lib.Claim

@[expose] public section

set_option maxRecDepth 16384

noncomputable section

namespace Cert.Knn

open Idealize.ShloMosaic Idealize.ShloMosaic.TcCoe Idealize.ShloMosaic.StableHlo Idealize.SL.Sem

open Cert.CoreRefIdeal Cert.CoreRefIdeal.Gen in
/-- The reference's last operation at an index: the activation. -/
theorem leaky_at (X : FVec Ideal Cert.CoreRefIdeal.S16x512x256 .f32) (j : Cert.CoreRefIdeal.S16x512x256.Idx) :
    (select (cmpf .oge X (broadcastInDim Cert.CoreRefIdeal.S16x512x256 ![] bcast_S_S16x512x256 (constant Cert.CoreRefIdeal.S_ .f32 0x00000000#32))) X
      (mulf (broadcastInDim Cert.CoreRefIdeal.S16x512x256 ![] bcast_S_S16x512x256 (id (constant Cert.CoreRefIdeal.S_ .f32 0x3E4CCCCD#32))) X)) j
      = leaky fifth (X j) := by
  simp only [id]
  pointwise
  rfl

/-- The reference's result. -/
def result (V : Valuation Cert.CoreRefIdeal.τ Cert.CoreRefIdeal.sig (Elt Ideal)) : Stk 16 512 256 :=
  fun j => leaky fifth ((Cert.CoreRefIdeal.Value.res_main_v386 V : Stk 16 512 256) j)

/-- The reference's arguments are the kernel's. -/
theorem args_eq (m : (ℓ : Loc Cert.CoreIdeal.nD Cert.CoreIdeal.τ Cert.CoreIdeal.sig) → Buf (Elt Ideal) ℓ)
    (m' : (ℓ : Loc Cert.CoreRefIdeal.nD Cert.CoreRefIdeal.τ Cert.CoreRefIdeal.sig) → Buf (Elt Ideal) ℓ) (c : Dev Cert.CoreIdeal.nD)
    (h0 : m' ((c.tc : Thread Cert.CoreRefIdeal.nD Cert.CoreRefIdeal.τ).loc Cert.CoreRefIdeal.main_arg0) = m ((c.tc : Thread Cert.CoreIdeal.nD Cert.CoreIdeal.τ).loc Cert.CoreIdeal.main_arg0))
    (h1 : m' ((c.tc : Thread Cert.CoreRefIdeal.nD Cert.CoreRefIdeal.τ).loc Cert.CoreRefIdeal.main_arg1) = m ((c.tc : Thread Cert.CoreIdeal.nD Cert.CoreIdeal.τ).loc Cert.CoreIdeal.main_arg1))
    (h2 : m' ((c.tc : Thread Cert.CoreRefIdeal.nD Cert.CoreRefIdeal.τ).loc Cert.CoreRefIdeal.main_arg2) = m ((c.tc : Thread Cert.CoreIdeal.nD Cert.CoreIdeal.τ).loc Cert.CoreIdeal.main_arg2))
    (h3 : m' ((c.tc : Thread Cert.CoreRefIdeal.nD Cert.CoreRefIdeal.τ).loc Cert.CoreRefIdeal.main_arg3) = m ((c.tc : Thread Cert.CoreIdeal.nD Cert.CoreIdeal.τ).loc Cert.CoreIdeal.main_arg3))
    (h4 : m' ((c.tc : Thread Cert.CoreRefIdeal.nD Cert.CoreRefIdeal.τ).loc Cert.CoreRefIdeal.main_arg4) = m ((c.tc : Thread Cert.CoreIdeal.nD Cert.CoreIdeal.τ).loc Cert.CoreIdeal.main_arg4))
    (h5 : m' ((c.tc : Thread Cert.CoreRefIdeal.nD Cert.CoreRefIdeal.τ).loc Cert.CoreRefIdeal.main_arg5) = m ((c.tc : Thread Cert.CoreIdeal.nD Cert.CoreIdeal.τ).loc Cert.CoreIdeal.main_arg5))
    (h6 : m' ((c.tc : Thread Cert.CoreRefIdeal.nD Cert.CoreRefIdeal.τ).loc Cert.CoreRefIdeal.main_arg6) = m ((c.tc : Thread Cert.CoreIdeal.nD Cert.CoreIdeal.τ).loc Cert.CoreIdeal.main_arg6))
    (h7 : m' ((c.tc : Thread Cert.CoreRefIdeal.nD Cert.CoreRefIdeal.τ).loc Cert.CoreRefIdeal.main_arg7) = m ((c.tc : Thread Cert.CoreIdeal.nD Cert.CoreIdeal.τ).loc Cert.CoreIdeal.main_arg7))
    (h8 : m' ((c.tc : Thread Cert.CoreRefIdeal.nD Cert.CoreRefIdeal.τ).loc Cert.CoreRefIdeal.main_arg8) = m ((c.tc : Thread Cert.CoreIdeal.nD Cert.CoreIdeal.τ).loc Cert.CoreIdeal.main_arg8))
    (h9 : m' ((c.tc : Thread Cert.CoreRefIdeal.nD Cert.CoreRefIdeal.τ).loc Cert.CoreRefIdeal.main_arg9) = m ((c.tc : Thread Cert.CoreIdeal.nD Cert.CoreIdeal.τ).loc Cert.CoreIdeal.main_arg9))
    (h10 : m' ((c.tc : Thread Cert.CoreRefIdeal.nD Cert.CoreRefIdeal.τ).loc Cert.CoreRefIdeal.main_arg10) = m ((c.tc : Thread Cert.CoreIdeal.nD Cert.CoreIdeal.τ).loc Cert.CoreIdeal.main_arg10))
    (h11 : m' ((c.tc : Thread Cert.CoreRefIdeal.nD Cert.CoreRefIdeal.τ).loc Cert.CoreRefIdeal.main_arg11) = m ((c.tc : Thread Cert.CoreIdeal.nD Cert.CoreIdeal.τ).loc Cert.CoreIdeal.main_arg11))
    (h12 : m' ((c.tc : Thread Cert.CoreRefIdeal.nD Cert.CoreRefIdeal.τ).loc Cert.CoreRefIdeal.main_arg12) = m ((c.tc : Thread Cert.CoreIdeal.nD Cert.CoreIdeal.τ).loc Cert.CoreIdeal.main_arg12))
    (h13 : m' ((c.tc : Thread Cert.CoreRefIdeal.nD Cert.CoreRefIdeal.τ).loc Cert.CoreRefIdeal.main_arg13) = m ((c.tc : Thread Cert.CoreIdeal.nD Cert.CoreIdeal.τ).loc Cert.CoreIdeal.main_arg13))
    (h14 : m' ((c.tc : Thread Cert.CoreRefIdeal.nD Cert.CoreRefIdeal.τ).loc Cert.CoreRefIdeal.main_arg14) = m ((c.tc : Thread Cert.CoreIdeal.nD Cert.CoreIdeal.τ).loc Cert.CoreIdeal.main_arg14))
    (h15 : m' ((c.tc : Thread Cert.CoreRefIdeal.nD Cert.CoreRefIdeal.τ).loc Cert.CoreRefIdeal.main_arg15) = m ((c.tc : Thread Cert.CoreIdeal.nD Cert.CoreIdeal.τ).loc Cert.CoreIdeal.main_arg15))
    (h16 : m' ((c.tc : Thread Cert.CoreRefIdeal.nD Cert.CoreRefIdeal.τ).loc Cert.CoreRefIdeal.main_arg16) = m ((c.tc : Thread Cert.CoreIdeal.nD Cert.CoreIdeal.τ).loc Cert.CoreIdeal.main_arg16))
    (h17 : m' ((c.tc : Thread Cert.CoreRefIdeal.nD Cert.CoreRefIdeal.τ).loc Cert.CoreRefIdeal.main_arg17) = m ((c.tc : Thread Cert.CoreIdeal.nD Cert.CoreIdeal.τ).loc Cert.CoreIdeal.main_arg17))
    (h18 : m' ((c.tc : Thread Cert.CoreRefIdeal.nD Cert.CoreRefIdeal.τ).loc Cert.CoreRefIdeal.main_arg18) = m ((c.tc : Thread Cert.CoreIdeal.nD Cert.CoreIdeal.τ).loc Cert.CoreIdeal.main_arg18))
    (h19 : m' ((c.tc : Thread Cert.CoreRefIdeal.nD Cert.CoreRefIdeal.τ).loc Cert.CoreRefIdeal.main_arg19) = m ((c.tc : Thread Cert.CoreIdeal.nD Cert.CoreIdeal.τ).loc Cert.CoreIdeal.main_arg19))
    (h20 : m' ((c.tc : Thread Cert.CoreRefIdeal.nD Cert.CoreRefIdeal.τ).loc Cert.CoreRefIdeal.main_arg20) = m ((c.tc : Thread Cert.CoreIdeal.nD Cert.CoreIdeal.τ).loc Cert.CoreIdeal.main_arg20)) :
    Ref.args (launchContents m' c) = Chain.args m c := by
  have e : Ref.args (launchContents m' c) = ⟨m' ((c.tc : Thread Cert.CoreRefIdeal.nD Cert.CoreRefIdeal.τ).loc Cert.CoreRefIdeal.main_arg0), m' ((c.tc : Thread Cert.CoreRefIdeal.nD Cert.CoreRefIdeal.τ).loc Cert.CoreRefIdeal.main_arg1), m' ((c.tc : Thread Cert.CoreRefIdeal.nD Cert.CoreRefIdeal.τ).loc Cert.CoreRefIdeal.main_arg2), m' ((c.tc : Thread Cert.CoreRefIdeal.nD Cert.CoreRefIdeal.τ).loc Cert.CoreRefIdeal.main_arg3), m' ((c.tc : Thread Cert.CoreRefIdeal.nD Cert.CoreRefIdeal.τ).loc Cert.CoreRefIdeal.main_arg4), m' ((c.tc : Thread Cert.CoreRefIdeal.nD Cert.CoreRefIdeal.τ).loc Cert.CoreRefIdeal.main_arg5), m' ((c.tc : Thread Cert.CoreRefIdeal.nD Cert.CoreRefIdeal.τ).loc Cert.CoreRefIdeal.main_arg6), m' ((c.tc : Thread Cert.CoreRefIdeal.nD Cert.CoreRefIdeal.τ).loc Cert.CoreRefIdeal.main_arg7), m' ((c.tc : Thread Cert.CoreRefIdeal.nD Cert.CoreRefIdeal.τ).loc Cert.CoreRefIdeal.main_arg8), m' ((c.tc : Thread Cert.CoreRefIdeal.nD Cert.CoreRefIdeal.τ).loc Cert.CoreRefIdeal.main_arg9), m' ((c.tc : Thread Cert.CoreRefIdeal.nD Cert.CoreRefIdeal.τ).loc Cert.CoreRefIdeal.main_arg10), m' ((c.tc : Thread Cert.CoreRefIdeal.nD Cert.CoreRefIdeal.τ).loc Cert.CoreRefIdeal.main_arg11), m' ((c.tc : Thread Cert.CoreRefIdeal.nD Cert.CoreRefIdeal.τ).loc Cert.CoreRefIdeal.main_arg12), m' ((c.tc : Thread Cert.CoreRefIdeal.nD Cert.CoreRefIdeal.τ).loc Cert.CoreRefIdeal.main_arg13), m' ((c.tc : Thread Cert.CoreRefIdeal.nD Cert.CoreRefIdeal.τ).loc Cert.CoreRefIdeal.main_arg14), m' ((c.tc : Thread Cert.CoreRefIdeal.nD Cert.CoreRefIdeal.τ).loc Cert.CoreRefIdeal.main_arg15), m' ((c.tc : Thread Cert.CoreRefIdeal.nD Cert.CoreRefIdeal.τ).loc Cert.CoreRefIdeal.main_arg16), m' ((c.tc : Thread Cert.CoreRefIdeal.nD Cert.CoreRefIdeal.τ).loc Cert.CoreRefIdeal.main_arg17), m' ((c.tc : Thread Cert.CoreRefIdeal.nD Cert.CoreRefIdeal.τ).loc Cert.CoreRefIdeal.main_arg18), m' ((c.tc : Thread Cert.CoreRefIdeal.nD Cert.CoreRefIdeal.τ).loc Cert.CoreRefIdeal.main_arg19), m' ((c.tc : Thread Cert.CoreRefIdeal.nD Cert.CoreRefIdeal.τ).loc Cert.CoreRefIdeal.main_arg20)⟩ := rfl
  rw [e, h0, h1, h2, h3, h4, h5, h6, h7, h8, h9, h10, h11, h12, h13, h14, h15, h16, h17, h18, h19, h20]
  rfl

/-- The kernel's result is the reference's array at every index, the arguments being the same and the precondition holding. -/
theorem value_at (m : (ℓ : Loc Cert.CoreIdeal.nD Cert.CoreIdeal.τ Cert.CoreIdeal.sig) → Buf (Elt Ideal) ℓ) (ρ : Dev Cert.CoreIdeal.nD → PrngReg) (c : Dev Cert.CoreIdeal.nD)
    (V : Valuation Cert.CoreRefIdeal.τ Cert.CoreRefIdeal.sig (Elt Ideal)) (ha : Ref.args V = Chain.args m c) (G : (Chain.args m c).Good) :
    (Cert.CoreIdeal.Gen.W14 m ρ c (Proc.devRef .tc Cert.CoreIdeal.main_v236) : Stk 16 512 256) = result V := by
  funext j
  obtain ⟨b, o, n, rfl⟩ : ∃ (b : Fin 16) (o : Fin 512) (n : Fin 256), j = ix3 b o n :=
    ⟨j 0, j 1, j 2, funext fun a => match a with
      | ⟨0, _⟩ => rfl
      | ⟨1, _⟩ => rfl
      | ⟨2, _⟩ => rfl⟩
  refine (Chain.res_14 m ρ c G b o n).trans ?_
  rw [Args.res_eq G, ← ha]
  unfold Args.resR lastR
  exact congrArg (leaky fifth) (Ref.last_at V b o n).symm

/-- The kernel runs and leaves its arguments. -/
theorem frame_kernel : Cert.quiescent_Core := fun m ρ _ => Cert.Core.Gen.frame m ρ

/-- The kernel runs and leaves its arguments, its precondition holding. -/
theorem frame_kernel_pre : Cert.quiescent_Core_pre_core_pre := fun m ρ _ => Cert.Core.Gen.frame m ρ

/-- The idealized kernel runs and leaves its arguments. -/
theorem frame_ideal : Cert.quiescent_CoreIdeal := fun m ρ _ => Cert.CoreIdeal.Gen.frame m ρ

/-- The idealized reference runs and leaves its arguments: it declares no semaphore. -/
theorem frame_ref : Cert.quiescent_CoreRefIdeal := fun m ρ _ =>
  (θ_run Cert.CoreRefIdeal.defs _ _).mono (fun r h => ⟨fun c => (h c).2, sem_eq_zero_of_no_sems (by decide) r.2⟩)
    (Cert.CoreRefIdeal.Value.run (F := Ideal) m ρ)

/-- The same, its precondition holding. -/
theorem frame_ref_pre : Cert.quiescent_CoreRefIdeal_pre_core_pre := fun m ρ _ => frame_ref m ρ trivial

/-- The two named constants are `+∞`. -/
theorem preserves : Cert.preserves_Core_CoreIdeal :=
  ⟨IdealRules.named_const.statement Cert.CoreIdeal.κ "low" .f32 0x7F61B1E6#32 ⊤ rfl,
    IdealRules.named_const.statement Cert.CoreIdeal.κ "far" .f32 0x7F7FC99E#32 ⊤ rfl⟩

/-- THE KERNEL IS ITS REFERENCE: both run, and end with the same array. -/
theorem algebraic : Cert.algebraic_CoreIdeal_CoreRefIdeal := by
  intro m g m' g' hpre hag
  refine ⟨fun c => result (launchContents m' c), ?_, ?_⟩
  · refine (θ_run Cert.CoreIdeal.defs _ _).mono (fun r h c => ?_) (Run.value (F := Ideal) m g)
    obtain ⟨h0, h1, h2, h3, h4, h5, h6, h7, h8, h9, h10, h11, h12, h13, h14, h15, h16, h17, h18, h19, h20⟩ := hag c
    have G : (Chain.args m c).Good := good_of_pre _ _ _ _ _ _ _ _ _ _ _ _ _ _ _ _ _ _ _ _ _ (hpre c)
    exact ⟨(h c).1.trans (value_at m g c (launchContents m' c) (args_eq m m' c h0 h1 h2 h3 h4 h5 h6 h7 h8 h9 h10 h11 h12 h13 h14 h15 h16 h17 h18 h19 h20) G), (h c).2⟩
  · exact (θ_run Cert.CoreRefIdeal.defs _ _).mono (fun r h c => ⟨(h c).1.trans (funext fun j => leaky_at _ j), (h c).2⟩)
      (Cert.CoreRefIdeal.Value.run (F := Ideal) m' g')

end Cert.Knn

end
-- ==== Proof.lean ====
/- The claims about the kernel without its two sampling calls, put together. -/
module

public import proofs.«01_k».proof.Defs
public import proofs.«01_k».proof.Proof.Gen.Core
public import proofs.«01_k».proof.Proof.Gen.Core.Skeleton
public import proofs.«01_k».proof.Proof.Gen.Core.Loops
public import proofs.«01_k».proof.Proof.Gen.Core.Launch
public import proofs.«01_k».proof.Proof.Gen.Core.Points
public import proofs.«01_k».proof.Proof.Gen.Core.Frame
public import proofs.«01_k».proof.Proof.Gen.CoreIdeal
public import proofs.«01_k».proof.Proof.Gen.CoreIdeal.Skeleton
public import proofs.«01_k».proof.Proof.Gen.CoreIdeal.Loops
public import proofs.«01_k».proof.Proof.Gen.CoreIdeal.Launch
public import proofs.«01_k».proof.Proof.Gen.CoreIdeal.Points
public import proofs.«01_k».proof.Proof.Gen.CoreIdeal.Frame
public import proofs.«01_k».proof.Proof.Gen.CoreRefIdeal
public import proofs.«01_k».proof.Proof.Gen.Pre_core_pre
public import proofs.«01_k».proof.Proof.Gen.CoreRefIdeal.Run
public import proofs.«01_k».proof.Proof.Core
public import Idealize.ShloMosaic.Adequacy
public import Idealize.ShloMosaic.Init

@[expose] public section

noncomputable section

namespace Cert.Proof

open Idealize.ShloMosaic Idealize.SL.Sem Cert.Core

/-- Every claim of the certificate. -/
theorem claim : Cert.Claim := ⟨Cert.Core.Gen.facts, Cert.CoreIdeal.Gen.facts, Cert.CoreRefIdeal.Gen.facts, Cert.Pre_core_pre.Gen.facts,
  Cert.Knn.frame_kernel, Cert.Knn.frame_kernel_pre, Cert.Knn.frame_ideal, Cert.Knn.frame_ref, Cert.Knn.frame_ref_pre, Cert.Knn.preserves,
  Cert.Knn.algebraic⟩

end Cert.Proof

end
